-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DnGrad (m : (ℓ : Loc Cert.DnGrad.nD Cert.DnGrad.τ Cert.DnGrad.sig) → Buf (Elt Bits) ℓ) : Prop :=
  True

def Pre_DnGradIdeal (m : (ℓ : Loc Cert.DnGradIdeal.nD Cert.DnGradIdeal.τ Cert.DnGradIdeal.sig) → Buf (Elt Ideal) ℓ) : Prop :=
  True

def Pre_DnGradIdeal_tame [hPre_tame : Cert.Pre_tame.Facts] (m : (ℓ : Loc Cert.DnGradIdeal.nD Cert.DnGradIdeal.τ Cert.DnGradIdeal.sig) → Buf (Elt Ideal) ℓ) : Prop :=
  ∀ c : Dev Cert.DnGradIdeal.nD,
    (Cert.Pre_tame.fn (F := Ideal) (m ((c.tc : Thread Cert.DnGradIdeal.nD Cert.DnGradIdeal.τ).loc Cert.DnGradIdeal.main_arg0)) (m ((c.tc : Thread Cert.DnGradIdeal.nD Cert.DnGradIdeal.τ).loc Cert.DnGradIdeal.main_arg1)) (m ((c.tc : Thread Cert.DnGradIdeal.nD Cert.DnGradIdeal.τ).loc Cert.DnGradIdeal.main_arg2)) (m ((c.tc : Thread Cert.DnGradIdeal.nD Cert.DnGradIdeal.τ).loc Cert.DnGradIdeal.main_arg3)) (m ((c.tc : Thread Cert.DnGradIdeal.nD Cert.DnGradIdeal.τ).loc Cert.DnGradIdeal.main_arg4)) (m ((c.tc : Thread Cert.DnGradIdeal.nD Cert.DnGradIdeal.τ).loc Cert.DnGradIdeal.main_arg5))).1 = (fun _ => 1#1)
    ∧ (Cert.Pre_tame.fn (F := Ideal) (m ((c.tc : Thread Cert.DnGradIdeal.nD Cert.DnGradIdeal.τ).loc Cert.DnGradIdeal.main_arg0)) (m ((c.tc : Thread Cert.DnGradIdeal.nD Cert.DnGradIdeal.τ).loc Cert.DnGradIdeal.main_arg1)) (m ((c.tc : Thread Cert.DnGradIdeal.nD Cert.DnGradIdeal.τ).loc Cert.DnGradIdeal.main_arg2)) (m ((c.tc : Thread Cert.DnGradIdeal.nD Cert.DnGradIdeal.τ).loc Cert.DnGradIdeal.main_arg3)) (m ((c.tc : Thread Cert.DnGradIdeal.nD Cert.DnGradIdeal.τ).loc Cert.DnGradIdeal.main_arg4)) (m ((c.tc : Thread Cert.DnGradIdeal.nD Cert.DnGradIdeal.τ).loc Cert.DnGradIdeal.main_arg5))).2.1 = (fun _ => 1#1)
    ∧ (Cert.Pre_tame.fn (F := Ideal) (m ((c.tc : Thread Cert.DnGradIdeal.nD Cert.DnGradIdeal.τ).loc Cert.DnGradIdeal.main_arg0)) (m ((c.tc : Thread Cert.DnGradIdeal.nD Cert.DnGradIdeal.τ).loc Cert.DnGradIdeal.main_arg1)) (m ((c.tc : Thread Cert.DnGradIdeal.nD Cert.DnGradIdeal.τ).loc Cert.DnGradIdeal.main_arg2)) (m ((c.tc : Thread Cert.DnGradIdeal.nD Cert.DnGradIdeal.τ).loc Cert.DnGradIdeal.main_arg3)) (m ((c.tc : Thread Cert.DnGradIdeal.nD Cert.DnGradIdeal.τ).loc Cert.DnGradIdeal.main_arg4)) (m ((c.tc : Thread Cert.DnGradIdeal.nD Cert.DnGradIdeal.τ).loc Cert.DnGradIdeal.main_arg5))).2.2.1 = (fun _ => 1#1)
    ∧ (Cert.Pre_tame.fn (F := Ideal) (m ((c.tc : Thread Cert.DnGradIdeal.nD Cert.DnGradIdeal.τ).loc Cert.DnGradIdeal.main_arg0)) (m ((c.tc : Thread Cert.DnGradIdeal.nD Cert.DnGradIdeal.τ).loc Cert.DnGradIdeal.main_arg1)) (m ((c.tc : Thread Cert.DnGradIdeal.nD Cert.DnGradIdeal.τ).loc Cert.DnGradIdeal.main_arg2)) (m ((c.tc : Thread Cert.DnGradIdeal.nD Cert.DnGradIdeal.τ).loc Cert.DnGradIdeal.main_arg3)) (m ((c.tc : Thread Cert.DnGradIdeal.nD Cert.DnGradIdeal.τ).loc Cert.DnGradIdeal.main_arg4)) (m ((c.tc : Thread Cert.DnGradIdeal.nD Cert.DnGradIdeal.τ).loc Cert.DnGradIdeal.main_arg5))).2.2.2.1 = (fun _ => 1#1)
    ∧ (Cert.Pre_tame.fn (F := Ideal) (m ((c.tc : Thread Cert.DnGradIdeal.nD Cert.DnGradIdeal.τ).loc Cert.DnGradIdeal.main_arg0)) (m ((c.tc : Thread Cert.DnGradIdeal.nD Cert.DnGradIdeal.τ).loc Cert.DnGradIdeal.main_arg1)) (m ((c.tc : Thread Cert.DnGradIdeal.nD Cert.DnGradIdeal.τ).loc Cert.DnGradIdeal.main_arg2)) (m ((c.tc : Thread Cert.DnGradIdeal.nD Cert.DnGradIdeal.τ).loc Cert.DnGradIdeal.main_arg3)) (m ((c.tc : Thread Cert.DnGradIdeal.nD Cert.DnGradIdeal.τ).loc Cert.DnGradIdeal.main_arg4)) (m ((c.tc : Thread Cert.DnGradIdeal.nD Cert.DnGradIdeal.τ).loc Cert.DnGradIdeal.main_arg5))).2.2.2.2 = (fun _ => 1#1)

def Pre_DnReferenceIdeal (m : (ℓ : Loc Cert.DnReferenceIdeal.nD Cert.DnReferenceIdeal.τ Cert.DnReferenceIdeal.sig) → Buf (Elt Ideal) ℓ) : Prop :=
  True

def Pre_DnReferenceIdeal_tame [hPre_tame : Cert.Pre_tame.Facts] (m : (ℓ : Loc Cert.DnReferenceIdeal.nD Cert.DnReferenceIdeal.τ Cert.DnReferenceIdeal.sig) → Buf (Elt Ideal) ℓ) : Prop :=
  ∀ c : Dev Cert.DnReferenceIdeal.nD,
    (Cert.Pre_tame.fn (F := Ideal) (m ((c.tc : Thread Cert.DnReferenceIdeal.nD Cert.DnReferenceIdeal.τ).loc Cert.DnReferenceIdeal.main_arg0)) (m ((c.tc : Thread Cert.DnReferenceIdeal.nD Cert.DnReferenceIdeal.τ).loc Cert.DnReferenceIdeal.main_arg1)) (m ((c.tc : Thread Cert.DnReferenceIdeal.nD Cert.DnReferenceIdeal.τ).loc Cert.DnReferenceIdeal.main_arg2)) (m ((c.tc : Thread Cert.DnReferenceIdeal.nD Cert.DnReferenceIdeal.τ).loc Cert.DnReferenceIdeal.main_arg3)) (m ((c.tc : Thread Cert.DnReferenceIdeal.nD Cert.DnReferenceIdeal.τ).loc Cert.DnReferenceIdeal.main_arg4)) (m ((c.tc : Thread Cert.DnReferenceIdeal.nD Cert.DnReferenceIdeal.τ).loc Cert.DnReferenceIdeal.main_arg5))).1 = (fun _ => 1#1)
    ∧ (Cert.Pre_tame.fn (F := Ideal) (m ((c.tc : Thread Cert.DnReferenceIdeal.nD Cert.DnReferenceIdeal.τ).loc Cert.DnReferenceIdeal.main_arg0)) (m ((c.tc : Thread Cert.DnReferenceIdeal.nD Cert.DnReferenceIdeal.τ).loc Cert.DnReferenceIdeal.main_arg1)) (m ((c.tc : Thread Cert.DnReferenceIdeal.nD Cert.DnReferenceIdeal.τ).loc Cert.DnReferenceIdeal.main_arg2)) (m ((c.tc : Thread Cert.DnReferenceIdeal.nD Cert.DnReferenceIdeal.τ).loc Cert.DnReferenceIdeal.main_arg3)) (m ((c.tc : Thread Cert.DnReferenceIdeal.nD Cert.DnReferenceIdeal.τ).loc Cert.DnReferenceIdeal.main_arg4)) (m ((c.tc : Thread Cert.DnReferenceIdeal.nD Cert.DnReferenceIdeal.τ).loc Cert.DnReferenceIdeal.main_arg5))).2.1 = (fun _ => 1#1)
    ∧ (Cert.Pre_tame.fn (F := Ideal) (m ((c.tc : Thread Cert.DnReferenceIdeal.nD Cert.DnReferenceIdeal.τ).loc Cert.DnReferenceIdeal.main_arg0)) (m ((c.tc : Thread Cert.DnReferenceIdeal.nD Cert.DnReferenceIdeal.τ).loc Cert.DnReferenceIdeal.main_arg1)) (m ((c.tc : Thread Cert.DnReferenceIdeal.nD Cert.DnReferenceIdeal.τ).loc Cert.DnReferenceIdeal.main_arg2)) (m ((c.tc : Thread Cert.DnReferenceIdeal.nD Cert.DnReferenceIdeal.τ).loc Cert.DnReferenceIdeal.main_arg3)) (m ((c.tc : Thread Cert.DnReferenceIdeal.nD Cert.DnReferenceIdeal.τ).loc Cert.DnReferenceIdeal.main_arg4)) (m ((c.tc : Thread Cert.DnReferenceIdeal.nD Cert.DnReferenceIdeal.τ).loc Cert.DnReferenceIdeal.main_arg5))).2.2.1 = (fun _ => 1#1)
    ∧ (Cert.Pre_tame.fn (F := Ideal) (m ((c.tc : Thread Cert.DnReferenceIdeal.nD Cert.DnReferenceIdeal.τ).loc Cert.DnReferenceIdeal.main_arg0)) (m ((c.tc : Thread Cert.DnReferenceIdeal.nD Cert.DnReferenceIdeal.τ).loc Cert.DnReferenceIdeal.main_arg1)) (m ((c.tc : Thread Cert.DnReferenceIdeal.nD Cert.DnReferenceIdeal.τ).loc Cert.DnReferenceIdeal.main_arg2)) (m ((c.tc : Thread Cert.DnReferenceIdeal.nD Cert.DnReferenceIdeal.τ).loc Cert.DnReferenceIdeal.main_arg3)) (m ((c.tc : Thread Cert.DnReferenceIdeal.nD Cert.DnReferenceIdeal.τ).loc Cert.DnReferenceIdeal.main_arg4)) (m ((c.tc : Thread Cert.DnReferenceIdeal.nD Cert.DnReferenceIdeal.τ).loc Cert.DnReferenceIdeal.main_arg5))).2.2.2.1 = (fun _ => 1#1)
    ∧ (Cert.Pre_tame.fn (F := Ideal) (m ((c.tc : Thread Cert.DnReferenceIdeal.nD Cert.DnReferenceIdeal.τ).loc Cert.DnReferenceIdeal.main_arg0)) (m ((c.tc : Thread Cert.DnReferenceIdeal.nD Cert.DnReferenceIdeal.τ).loc Cert.DnReferenceIdeal.main_arg1)) (m ((c.tc : Thread Cert.DnReferenceIdeal.nD Cert.DnReferenceIdeal.τ).loc Cert.DnReferenceIdeal.main_arg2)) (m ((c.tc : Thread Cert.DnReferenceIdeal.nD Cert.DnReferenceIdeal.τ).loc Cert.DnReferenceIdeal.main_arg3)) (m ((c.tc : Thread Cert.DnReferenceIdeal.nD Cert.DnReferenceIdeal.τ).loc Cert.DnReferenceIdeal.main_arg4)) (m ((c.tc : Thread Cert.DnReferenceIdeal.nD Cert.DnReferenceIdeal.τ).loc Cert.DnReferenceIdeal.main_arg5))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_bounded [hPre_bounded : Cert.Pre_bounded.Facts] (m : (ℓ : Loc Cert.UpIdeal.nD Cert.UpIdeal.τ Cert.UpIdeal.sig) → Buf (Elt Ideal) ℓ) : Prop :=
  ∀ c : Dev Cert.UpIdeal.nD,
    (Cert.Pre_bounded.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 = (fun _ => 1#1)
    ∧ (Cert.Pre_bounded.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.1 = (fun _ => 1#1)
    ∧ (Cert.Pre_bounded.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.1 = (fun _ => 1#1)
    ∧ (Cert.Pre_bounded.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.2.1 = (fun _ => 1#1)
    ∧ (Cert.Pre_bounded.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.2.2 = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_bounded [hPre_bounded : Cert.Pre_bounded.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_bounded.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))).1 = (fun _ => 1#1)
    ∧ (Cert.Pre_bounded.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))).2.1 = (fun _ => 1#1)
    ∧ (Cert.Pre_bounded.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))).2.2.1 = (fun _ => 1#1)
    ∧ (Cert.Pre_bounded.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))).2.2.2.1 = (fun _ => 1#1)
    ∧ (Cert.Pre_bounded.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))).2.2.2.2 = (fun _ => 1#1)

def Pre_FfnGrad (m : (ℓ : Loc Cert.FfnGrad.nD Cert.FfnGrad.τ Cert.FfnGrad.sig) → Buf (Elt Bits) ℓ) : Prop :=
  True

def Pre_FfnGradIdeal (m : (ℓ : Loc Cert.FfnGradIdeal.nD Cert.FfnGradIdeal.τ Cert.FfnGradIdeal.sig) → Buf (Elt Ideal) ℓ) : Prop :=
  True

def Pre_FfnGradIdeal_ordinary [hPre_ordinary : Cert.Pre_ordinary.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.2.2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.2.2.2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.2.2.2.2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.2.2.2.2.2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.2.2.2.2.2.2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.2.2.2.2.2.2.2.1 = (fun _ => 1#1)
    ∧ (Cert.Pre_ordinary.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7)) (m ((c.tc : Thread Cert.FfnGradIdeal.nD Cert.FfnGradIdeal.τ).loc Cert.FfnGradIdeal.main_arg8)) (m ((c.tc : Thread Cert.FfnGradIdeal.nD Cert.FfnGradIdeal.τ).loc Cert.FfnGradIdeal.main_arg9)) (m ((c.tc : Thread Cert.FfnGradIdeal.nD Cert.FfnGradIdeal.τ).loc Cert.FfnGradIdeal.main_arg10))).2.2.2.2.2.2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ordinary [hPre_ordinary : Cert.Pre_ordinary.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.2.2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.2.2.2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.2.2.2.2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.2.2.2.2.2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.2.2.2.2.2.2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.2.2.2.2.2.2.2.1 = (fun _ => 1#1)
    ∧ (Cert.Pre_ordinary.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_DnGrad [hDnGrad : Cert.DnGrad.Facts] : Prop :=
  ∀ (m : (ℓ : Loc Cert.DnGrad.nD Cert.DnGrad.τ Cert.DnGrad.sig) → Buf (Elt Bits) ℓ) (g : Dev Cert.DnGrad.nD → PrngReg), Pre_DnGrad m →
    θ_run (Cert.DnGrad.defs (F := Bits)) (onTc (τ := Cert.DnGrad.τ) (Cert.DnGrad.main (F := Bits))) ⟨m, fun _ => 0, g⟩ (fun r => (∀ c : Dev Cert.DnGrad.nD,
      r.2.mem ((c.tc : Thread Cert.DnGrad.nD Cert.DnGrad.τ).loc Cert.DnGrad.main_arg0) = m ((c.tc : Thread Cert.DnGrad.nD Cert.DnGrad.τ).loc Cert.DnGrad.main_arg0)
      ∧ r.2.mem ((c.tc : Thread Cert.DnGrad.nD Cert.DnGrad.τ).loc Cert.DnGrad.main_arg1) = m ((c.tc : Thread Cert.DnGrad.nD Cert.DnGrad.τ).loc Cert.DnGrad.main_arg1)
      ∧ r.2.mem ((c.tc : Thread Cert.DnGrad.nD Cert.DnGrad.τ).loc Cert.DnGrad.main_arg2) = m ((c.tc : Thread Cert.DnGrad.nD Cert.DnGrad.τ).loc Cert.DnGrad.main_arg2)
      ∧ r.2.mem ((c.tc : Thread Cert.DnGrad.nD Cert.DnGrad.τ).loc Cert.DnGrad.main_arg3) = m ((c.tc : Thread Cert.DnGrad.nD Cert.DnGrad.τ).loc Cert.DnGrad.main_arg3)
      ∧ r.2.mem ((c.tc : Thread Cert.DnGrad.nD Cert.DnGrad.τ).loc Cert.DnGrad.main_arg4) = m ((c.tc : Thread Cert.DnGrad.nD Cert.DnGrad.τ).loc Cert.DnGrad.main_arg4)
      ∧ r.2.mem ((c.tc : Thread Cert.DnGrad.nD Cert.DnGrad.τ).loc Cert.DnGrad.main_arg5) = m ((c.tc : Thread Cert.DnGrad.nD Cert.DnGrad.τ).loc Cert.DnGrad.main_arg5))
      ∧ r.2.sem = fun _ => 0)

def quiescent_DnGradIdeal [hDnGradIdeal : Cert.DnGradIdeal.Facts] : Prop :=
  ∀ (m : (ℓ : Loc Cert.DnGradIdeal.nD Cert.DnGradIdeal.τ Cert.DnGradIdeal.sig) → Buf (Elt Ideal) ℓ) (g : Dev Cert.DnGradIdeal.nD → PrngReg), Pre_DnGradIdeal m →
    θ_run (Cert.DnGradIdeal.defs (F := Ideal)) (onTc (τ := Cert.DnGradIdeal.τ) (Cert.DnGradIdeal.main (F := Ideal))) ⟨m, fun _ => 0, g⟩ (fun r => (∀ c : Dev Cert.DnGradIdeal.nD,
      r.2.mem ((c.tc : Thread Cert.DnGradIdeal.nD Cert.DnGradIdeal.τ).loc Cert.DnGradIdeal.main_arg0) = m ((c.tc : Thread Cert.DnGradIdeal.nD Cert.DnGradIdeal.τ).loc Cert.DnGradIdeal.main_arg0)
      ∧ r.2.mem ((c.tc : Thread Cert.DnGradIdeal.nD Cert.DnGradIdeal.τ).loc Cert.DnGradIdeal.main_arg1) = m ((c.tc : Thread Cert.DnGradIdeal.nD Cert.DnGradIdeal.τ).loc Cert.DnGradIdeal.main_arg1)
      ∧ r.2.mem ((c.tc : Thread Cert.DnGradIdeal.nD Cert.DnGradIdeal.τ).loc Cert.DnGradIdeal.main_arg2) = m ((c.tc : Thread Cert.DnGradIdeal.nD Cert.DnGradIdeal.τ).loc Cert.DnGradIdeal.main_arg2)
      ∧ r.2.mem ((c.tc : Thread Cert.DnGradIdeal.nD Cert.DnGradIdeal.τ).loc Cert.DnGradIdeal.main_arg3) = m ((c.tc : Thread Cert.DnGradIdeal.nD Cert.DnGradIdeal.τ).loc Cert.DnGradIdeal.main_arg3)
      ∧ r.2.mem ((c.tc : Thread Cert.DnGradIdeal.nD Cert.DnGradIdeal.τ).loc Cert.DnGradIdeal.main_arg4) = m ((c.tc : Thread Cert.DnGradIdeal.nD Cert.DnGradIdeal.τ).loc Cert.DnGradIdeal.main_arg4)
      ∧ r.2.mem ((c.tc : Thread Cert.DnGradIdeal.nD Cert.DnGradIdeal.τ).loc Cert.DnGradIdeal.main_arg5) = m ((c.tc : Thread Cert.DnGradIdeal.nD Cert.DnGradIdeal.τ).loc Cert.DnGradIdeal.main_arg5))
      ∧ r.2.sem = fun _ => 0)

def quiescent_DnGradIdeal_pre_tame [hDnGradIdeal : Cert.DnGradIdeal.Facts] [hPre_tame : Cert.Pre_tame.Facts] : Prop :=
  ∀ (m : (ℓ : Loc Cert.DnGradIdeal.nD Cert.DnGradIdeal.τ Cert.DnGradIdeal.sig) → Buf (Elt Ideal) ℓ) (g : Dev Cert.DnGradIdeal.nD → PrngReg), Pre_DnGradIdeal_tame m →
    θ_run (Cert.DnGradIdeal.defs (F := Ideal)) (onTc (τ := Cert.DnGradIdeal.τ) (Cert.DnGradIdeal.main (F := Ideal))) ⟨m, fun _ => 0, g⟩ (fun r => (∀ c : Dev Cert.DnGradIdeal.nD,
      r.2.mem ((c.tc : Thread Cert.DnGradIdeal.nD Cert.DnGradIdeal.τ).loc Cert.DnGradIdeal.main_arg0) = m ((c.tc : Thread Cert.DnGradIdeal.nD Cert.DnGradIdeal.τ).loc Cert.DnGradIdeal.main_arg0)
      ∧ r.2.mem ((c.tc : Thread Cert.DnGradIdeal.nD Cert.DnGradIdeal.τ).loc Cert.DnGradIdeal.main_arg1) = m ((c.tc : Thread Cert.DnGradIdeal.nD Cert.DnGradIdeal.τ).loc Cert.DnGradIdeal.main_arg1)
      ∧ r.2.mem ((c.tc : Thread Cert.DnGradIdeal.nD Cert.DnGradIdeal.τ).loc Cert.DnGradIdeal.main_arg2) = m ((c.tc : Thread Cert.DnGradIdeal.nD Cert.DnGradIdeal.τ).loc Cert.DnGradIdeal.main_arg2)
      ∧ r.2.mem ((c.tc : Thread Cert.DnGradIdeal.nD Cert.DnGradIdeal.τ).loc Cert.DnGradIdeal.main_arg3) = m ((c.tc : Thread Cert.DnGradIdeal.nD Cert.DnGradIdeal.τ).loc Cert.DnGradIdeal.main_arg3)
      ∧ r.2.mem ((c.tc : Thread Cert.DnGradIdeal.nD Cert.DnGradIdeal.τ).loc Cert.DnGradIdeal.main_arg4) = m ((c.tc : Thread Cert.DnGradIdeal.nD Cert.DnGradIdeal.τ).loc Cert.DnGradIdeal.main_arg4)
      ∧ r.2.mem ((c.tc : Thread Cert.DnGradIdeal.nD Cert.DnGradIdeal.τ).loc Cert.DnGradIdeal.main_arg5) = m ((c.tc : Thread Cert.DnGradIdeal.nD Cert.DnGradIdeal.τ).loc Cert.DnGradIdeal.main_arg5))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3)
      ∧ r.2.mem ((c.tc : Thread Cert.DnReferenceIdeal.nD Cert.DnReferenceIdeal.τ).loc Cert.DnReferenceIdeal.main_arg4) = m ((c.tc : Thread Cert.DnReferenceIdeal.nD Cert.DnReferenceIdeal.τ).loc Cert.DnReferenceIdeal.main_arg4)
      ∧ r.2.mem ((c.tc : Thread Cert.DnReferenceIdeal.nD Cert.DnReferenceIdeal.τ).loc Cert.DnReferenceIdeal.main_arg5) = m ((c.tc : Thread Cert.DnReferenceIdeal.nD Cert.DnReferenceIdeal.τ).loc Cert.DnReferenceIdeal.main_arg5))
      ∧ r.2.sem = fun _ => 0)

def quiescent_DnReferenceIdeal_pre_tame [hDnReferenceIdeal : Cert.DnReferenceIdeal.Facts] [hPre_tame : Cert.Pre_tame.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal_tame m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3)
      ∧ r.2.mem ((c.tc : Thread Cert.DnReferenceIdeal.nD Cert.DnReferenceIdeal.τ).loc Cert.DnReferenceIdeal.main_arg4) = m ((c.tc : Thread Cert.DnReferenceIdeal.nD Cert.DnReferenceIdeal.τ).loc Cert.DnReferenceIdeal.main_arg4)
      ∧ r.2.mem ((c.tc : Thread Cert.DnReferenceIdeal.nD Cert.DnReferenceIdeal.τ).loc Cert.DnReferenceIdeal.main_arg5) = m ((c.tc : Thread Cert.DnReferenceIdeal.nD Cert.DnReferenceIdeal.τ).loc Cert.DnReferenceIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_bounded [hUpIdeal : Cert.UpIdeal.Facts] [hPre_bounded : Cert.Pre_bounded.Facts] : Prop :=
  ∀ (m : (ℓ : Loc Cert.UpIdeal.nD Cert.UpIdeal.τ Cert.UpIdeal.sig) → Buf (Elt Ideal) ℓ) (g : Dev Cert.UpIdeal.nD → PrngReg), Pre_UpIdeal_bounded m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpReferenceIdeal_pre_bounded [hUpReferenceIdeal : Cert.UpReferenceIdeal.Facts] [hPre_bounded : Cert.Pre_bounded.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_bounded m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_FfnGrad [hFfnGrad : Cert.FfnGrad.Facts] : Prop :=
  ∀ (m : (ℓ : Loc Cert.FfnGrad.nD Cert.FfnGrad.τ Cert.FfnGrad.sig) → Buf (Elt Bits) ℓ) (g : Dev Cert.FfnGrad.nD → PrngReg), Pre_FfnGrad m →
    θ_run (Cert.FfnGrad.defs (F := Bits)) (onTc (τ := Cert.FfnGrad.τ) (Cert.FfnGrad.main (F := Bits))) ⟨m, fun _ => 0, g⟩ (fun r => (∀ c : Dev Cert.FfnGrad.nD,
      r.2.mem ((c.tc : Thread Cert.FfnGrad.nD Cert.FfnGrad.τ).loc Cert.FfnGrad.main_arg0) = m ((c.tc : Thread Cert.FfnGrad.nD Cert.FfnGrad.τ).loc Cert.FfnGrad.main_arg0)
      ∧ r.2.mem ((c.tc : Thread Cert.FfnGrad.nD Cert.FfnGrad.τ).loc Cert.FfnGrad.main_arg1) = m ((c.tc : Thread Cert.FfnGrad.nD Cert.FfnGrad.τ).loc Cert.FfnGrad.main_arg1)
      ∧ r.2.mem ((c.tc : Thread Cert.FfnGrad.nD Cert.FfnGrad.τ).loc Cert.FfnGrad.main_arg2) = m ((c.tc : Thread Cert.FfnGrad.nD Cert.FfnGrad.τ).loc Cert.FfnGrad.main_arg2)
      ∧ r.2.mem ((c.tc : Thread Cert.FfnGrad.nD Cert.FfnGrad.τ).loc Cert.FfnGrad.main_arg3) = m ((c.tc : Thread Cert.FfnGrad.nD Cert.FfnGrad.τ).loc Cert.FfnGrad.main_arg3)
      ∧ r.2.mem ((c.tc : Thread Cert.FfnGrad.nD Cert.FfnGrad.τ).loc Cert.FfnGrad.main_arg4) = m ((c.tc : Thread Cert.FfnGrad.nD Cert.FfnGrad.τ).loc Cert.FfnGrad.main_arg4)
      ∧ r.2.mem ((c.tc : Thread Cert.FfnGrad.nD Cert.FfnGrad.τ).loc Cert.FfnGrad.main_arg5) = m ((c.tc : Thread Cert.FfnGrad.nD Cert.FfnGrad.τ).loc Cert.FfnGrad.main_arg5)
      ∧ r.2.mem ((c.tc : Thread Cert.FfnGrad.nD Cert.FfnGrad.τ).loc Cert.FfnGrad.main_arg6) = m ((c.tc : Thread Cert.FfnGrad.nD Cert.FfnGrad.τ).loc Cert.FfnGrad.main_arg6)
      ∧ r.2.mem ((c.tc : Thread Cert.FfnGrad.nD Cert.FfnGrad.τ).loc Cert.FfnGrad.main_arg7) = m ((c.tc : Thread Cert.FfnGrad.nD Cert.FfnGrad.τ).loc Cert.FfnGrad.main_arg7)
      ∧ r.2.mem ((c.tc : Thread Cert.FfnGrad.nD Cert.FfnGrad.τ).loc Cert.FfnGrad.main_arg8) = m ((c.tc : Thread Cert.FfnGrad.nD Cert.FfnGrad.τ).loc Cert.FfnGrad.main_arg8)
      ∧ r.2.mem ((c.tc : Thread Cert.FfnGrad.nD Cert.FfnGrad.τ).loc Cert.FfnGrad.main_arg9) = m ((c.tc : Thread Cert.FfnGrad.nD Cert.FfnGrad.τ).loc Cert.FfnGrad.main_arg9)
      ∧ r.2.mem ((c.tc : Thread Cert.FfnGrad.nD Cert.FfnGrad.τ).loc Cert.FfnGrad.main_arg10) = m ((c.tc : Thread Cert.FfnGrad.nD Cert.FfnGrad.τ).loc Cert.FfnGrad.main_arg10))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6)
      ∧ r.2.mem ((c.tc : Thread Cert.FfnGradIdeal.nD Cert.FfnGradIdeal.τ).loc Cert.FfnGradIdeal.main_arg7) = m ((c.tc : Thread Cert.FfnGradIdeal.nD Cert.FfnGradIdeal.τ).loc Cert.FfnGradIdeal.main_arg7)
      ∧ r.2.mem ((c.tc : Thread Cert.FfnGradIdeal.nD Cert.FfnGradIdeal.τ).loc Cert.FfnGradIdeal.main_arg8) = m ((c.tc : Thread Cert.FfnGradIdeal.nD Cert.FfnGradIdeal.τ).loc Cert.FfnGradIdeal.main_arg8)
      ∧ r.2.mem ((c.tc : Thread Cert.FfnGradIdeal.nD Cert.FfnGradIdeal.τ).loc Cert.FfnGradIdeal.main_arg9) = m ((c.tc : Thread Cert.FfnGradIdeal.nD Cert.FfnGradIdeal.τ).loc Cert.FfnGradIdeal.main_arg9)
      ∧ r.2.mem ((c.tc : Thread Cert.FfnGradIdeal.nD Cert.FfnGradIdeal.τ).loc Cert.FfnGradIdeal.main_arg10) = m ((c.tc : Thread Cert.FfnGradIdeal.nD Cert.FfnGradIdeal.τ).loc Cert.FfnGradIdeal.main_arg10))
      ∧ r.2.sem = fun _ => 0)

def quiescent_FfnGradIdeal_pre_ordinary [hFfnGradIdeal : Cert.FfnGradIdeal.Facts] [hPre_ordinary : Cert.Pre_ordinary.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_ordinary m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6)
      ∧ r.2.mem ((c.tc : Thread Cert.FfnGradIdeal.nD Cert.FfnGradIdeal.τ).loc Cert.FfnGradIdeal.main_arg7) = m ((c.tc : Thread Cert.FfnGradIdeal.nD Cert.FfnGradIdeal.τ).loc Cert.FfnGradIdeal.main_arg7)
      ∧ r.2.mem ((c.tc : Thread Cert.FfnGradIdeal.nD Cert.FfnGradIdeal.τ).loc Cert.FfnGradIdeal.main_arg8) = m ((c.tc : Thread Cert.FfnGradIdeal.nD Cert.FfnGradIdeal.τ).loc Cert.FfnGradIdeal.main_arg8)
      ∧ r.2.mem ((c.tc : Thread Cert.FfnGradIdeal.nD Cert.FfnGradIdeal.τ).loc Cert.FfnGradIdeal.main_arg9) = m ((c.tc : Thread Cert.FfnGradIdeal.nD Cert.FfnGradIdeal.τ).loc Cert.FfnGradIdeal.main_arg9)
      ∧ r.2.mem ((c.tc : Thread Cert.FfnGradIdeal.nD Cert.FfnGradIdeal.τ).loc Cert.FfnGradIdeal.main_arg10) = m ((c.tc : Thread Cert.FfnGradIdeal.nD Cert.FfnGradIdeal.τ).loc Cert.FfnGradIdeal.main_arg10))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_FfnReferenceIdeal_pre_ordinary [hFfnReferenceIdeal : Cert.FfnReferenceIdeal.Facts] [hPre_ordinary : Cert.Pre_ordinary.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ordinary m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_slope" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InGrad_InGradIdeal : Prop :=
  True

def algebraic_InGradIdeal_InReferenceIdeal [hInGradIdeal : Cert.InGradIdeal.Facts] [hInReferenceIdeal : Cert.InReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InGradIdeal m →
    (∀ c : Dev Cert.InGradIdeal.nD,
      m' ((c.tc : Thread Cert.InReferenceIdeal.nD Cert.InReferenceIdeal.τ).loc Cert.InReferenceIdeal.main_arg0) = m ((c.tc : Thread Cert.InGradIdeal.nD Cert.InGradIdeal.τ).loc Cert.InGradIdeal.main_arg0)
      ∧ m' ((c.tc : Thread Cert.InReferenceIdeal.nD Cert.InReferenceIdeal.τ).loc Cert.InReferenceIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v5) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_OutGrad_OutGradIdeal : Prop :=
  True

def algebraic_OutGradIdeal_OutReferenceIdeal [hOutGradIdeal : Cert.OutGradIdeal.Facts] [hOutReferenceIdeal : Cert.OutReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutGradIdeal m →
    (∀ c : Dev Cert.OutGradIdeal.nD,
      m' ((c.tc : Thread Cert.OutReferenceIdeal.nD Cert.OutReferenceIdeal.τ).loc Cert.OutReferenceIdeal.main_arg0) = m ((c.tc : Thread Cert.OutGradIdeal.nD Cert.OutGradIdeal.τ).loc Cert.OutGradIdeal.main_arg0)
      ∧ m' ((c.tc : Thread Cert.OutReferenceIdeal.nD Cert.OutReferenceIdeal.τ).loc Cert.OutReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_DnGrad_DnGradIdeal : Prop :=
  True

def algebraic_DnGradIdeal_DnReferenceIdeal_pre_tame [hDnGradIdeal : Cert.DnGradIdeal.Facts] [hDnReferenceIdeal : Cert.DnReferenceIdeal.Facts] [hPre_tame : Cert.Pre_tame.Facts] : Prop :=
  ∀ (m : (ℓ : Loc Cert.DnGradIdeal.nD Cert.DnGradIdeal.τ Cert.DnGradIdeal.sig) → Buf (Elt Ideal) ℓ) (g : Dev Cert.DnGradIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnGradIdeal_tame m →
    (∀ c : Dev Cert.DnGradIdeal.nD,
      m' ((c.tc : Thread Cert.DnReferenceIdeal.nD Cert.DnReferenceIdeal.τ).loc Cert.DnReferenceIdeal.main_arg0) = m ((c.tc : Thread Cert.DnGradIdeal.nD Cert.DnGradIdeal.τ).loc Cert.DnGradIdeal.main_arg0)
      ∧ m' ((c.tc : Thread Cert.DnReferenceIdeal.nD Cert.DnReferenceIdeal.τ).loc Cert.DnReferenceIdeal.main_arg1) = m ((c.tc : Thread Cert.DnGradIdeal.nD Cert.DnGradIdeal.τ).loc Cert.DnGradIdeal.main_arg1)
      ∧ m' ((c.tc : Thread Cert.DnReferenceIdeal.nD Cert.DnReferenceIdeal.τ).loc Cert.DnReferenceIdeal.main_arg2) = m ((c.tc : Thread Cert.DnGradIdeal.nD Cert.DnGradIdeal.τ).loc Cert.DnGradIdeal.main_arg2)
      ∧ m' ((c.tc : Thread Cert.DnReferenceIdeal.nD Cert.DnReferenceIdeal.τ).loc Cert.DnReferenceIdeal.main_arg3) = m ((c.tc : Thread Cert.DnGradIdeal.nD Cert.DnGradIdeal.τ).loc Cert.DnGradIdeal.main_arg3)
      ∧ m' ((c.tc : Thread Cert.DnReferenceIdeal.nD Cert.DnReferenceIdeal.τ).loc Cert.DnReferenceIdeal.main_arg4) = m ((c.tc : Thread Cert.DnGradIdeal.nD Cert.DnGradIdeal.τ).loc Cert.DnGradIdeal.main_arg4)
      ∧ m' ((c.tc : Thread Cert.DnReferenceIdeal.nD Cert.DnReferenceIdeal.τ).loc Cert.DnReferenceIdeal.main_arg5) = m ((c.tc : Thread Cert.DnGradIdeal.nD Cert.DnGradIdeal.τ).loc Cert.DnGradIdeal.main_arg5)) →
    ∃ (v0 : (c : Dev Cert.DnGradIdeal.nD) → Buf (Elt Ideal) ((c.tc : Thread Cert.DnGradIdeal.nD Cert.DnGradIdeal.τ).loc Cert.DnGradIdeal.main_v0_0)) (v1 : (c : Dev Cert.DnGradIdeal.nD) → Buf (Elt Ideal) ((c.tc : Thread Cert.DnGradIdeal.nD Cert.DnGradIdeal.τ).loc Cert.DnGradIdeal.main_v0_1)) (v2 : (c : Dev Cert.DnGradIdeal.nD) → Buf (Elt Ideal) ((c.tc : Thread Cert.DnGradIdeal.nD Cert.DnGradIdeal.τ).loc Cert.DnGradIdeal.main_v0_2)) (v3 : (c : Dev Cert.DnGradIdeal.nD) → Buf (Elt Ideal) ((c.tc : Thread Cert.DnGradIdeal.nD Cert.DnGradIdeal.τ).loc Cert.DnGradIdeal.main_v0_3)),
      θ_run (Cert.DnGradIdeal.defs (F := Ideal)) (onTc (τ := Cert.DnGradIdeal.τ) (Cert.DnGradIdeal.main (F := Ideal))) ⟨m, fun _ => 0, g⟩ (fun r => ∀ c : Dev Cert.DnGradIdeal.nD,
          r.2.mem ((c.tc : Thread Cert.DnGradIdeal.nD Cert.DnGradIdeal.τ).loc Cert.DnGradIdeal.main_v0_0) = v0 c
          ∧ r.2.mem ((c.tc : Thread Cert.DnGradIdeal.nD Cert.DnGradIdeal.τ).loc Cert.DnGradIdeal.main_v0_1) = v1 c
          ∧ r.2.mem ((c.tc : Thread Cert.DnGradIdeal.nD Cert.DnGradIdeal.τ).loc Cert.DnGradIdeal.main_v0_2) = v2 c
          ∧ r.2.mem ((c.tc : Thread Cert.DnGradIdeal.nD Cert.DnGradIdeal.τ).loc Cert.DnGradIdeal.main_v0_3) = v3 c
          ∧ r.2.mem ((c.tc : Thread Cert.DnGradIdeal.nD Cert.DnGradIdeal.τ).loc Cert.DnGradIdeal.main_arg0) = m ((c.tc : Thread Cert.DnGradIdeal.nD Cert.DnGradIdeal.τ).loc Cert.DnGradIdeal.main_arg0)
          ∧ r.2.mem ((c.tc : Thread Cert.DnGradIdeal.nD Cert.DnGradIdeal.τ).loc Cert.DnGradIdeal.main_arg1) = m ((c.tc : Thread Cert.DnGradIdeal.nD Cert.DnGradIdeal.τ).loc Cert.DnGradIdeal.main_arg1)
          ∧ r.2.mem ((c.tc : Thread Cert.DnGradIdeal.nD Cert.DnGradIdeal.τ).loc Cert.DnGradIdeal.main_arg2) = m ((c.tc : Thread Cert.DnGradIdeal.nD Cert.DnGradIdeal.τ).loc Cert.DnGradIdeal.main_arg2)
          ∧ r.2.mem ((c.tc : Thread Cert.DnGradIdeal.nD Cert.DnGradIdeal.τ).loc Cert.DnGradIdeal.main_arg3) = m ((c.tc : Thread Cert.DnGradIdeal.nD Cert.DnGradIdeal.τ).loc Cert.DnGradIdeal.main_arg3)
          ∧ r.2.mem ((c.tc : Thread Cert.DnGradIdeal.nD Cert.DnGradIdeal.τ).loc Cert.DnGradIdeal.main_arg4) = m ((c.tc : Thread Cert.DnGradIdeal.nD Cert.DnGradIdeal.τ).loc Cert.DnGradIdeal.main_arg4)
          ∧ r.2.mem ((c.tc : Thread Cert.DnGradIdeal.nD Cert.DnGradIdeal.τ).loc Cert.DnGradIdeal.main_arg5) = m ((c.tc : Thread Cert.DnGradIdeal.nD Cert.DnGradIdeal.τ).loc Cert.DnGradIdeal.main_arg5))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v67) = v0 c
          ∧ r.2.mem ((c.tc : Thread Cert.DnReferenceIdeal.nD Cert.DnReferenceIdeal.τ).loc Cert.DnReferenceIdeal.main_v36) = v1 c
          ∧ r.2.mem ((c.tc : Thread Cert.DnReferenceIdeal.nD Cert.DnReferenceIdeal.τ).loc Cert.DnReferenceIdeal.main_v43) = v2 c
          ∧ r.2.mem ((c.tc : Thread Cert.DnReferenceIdeal.nD Cert.DnReferenceIdeal.τ).loc Cert.DnReferenceIdeal.main_v65) = v3 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1)
          ∧ r.2.mem ((c.tc : Thread Cert.DnReferenceIdeal.nD Cert.DnReferenceIdeal.τ).loc Cert.DnReferenceIdeal.main_arg2) = m' ((c.tc : Thread Cert.DnReferenceIdeal.nD Cert.DnReferenceIdeal.τ).loc Cert.DnReferenceIdeal.main_arg2)
          ∧ r.2.mem ((c.tc : Thread Cert.DnReferenceIdeal.nD Cert.DnReferenceIdeal.τ).loc Cert.DnReferenceIdeal.main_arg3) = m' ((c.tc : Thread Cert.DnReferenceIdeal.nD Cert.DnReferenceIdeal.τ).loc Cert.DnReferenceIdeal.main_arg3)
          ∧ r.2.mem ((c.tc : Thread Cert.DnReferenceIdeal.nD Cert.DnReferenceIdeal.τ).loc Cert.DnReferenceIdeal.main_arg4) = m' ((c.tc : Thread Cert.DnReferenceIdeal.nD Cert.DnReferenceIdeal.τ).loc Cert.DnReferenceIdeal.main_arg4)
          ∧ r.2.mem ((c.tc : Thread Cert.DnReferenceIdeal.nD Cert.DnReferenceIdeal.τ).loc Cert.DnReferenceIdeal.main_arg5) = m' ((c.tc : Thread Cert.DnReferenceIdeal.nD Cert.DnReferenceIdeal.τ).loc Cert.DnReferenceIdeal.main_arg5))

def preserves_Up_UpIdeal : Prop :=
  True

def algebraic_UpIdeal_UpReferenceIdeal_pre_bounded [hUpIdeal : Cert.UpIdeal.Facts] [hUpReferenceIdeal : Cert.UpReferenceIdeal.Facts] [hPre_bounded : Cert.Pre_bounded.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal_bounded m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v32) = v0 c
          ∧ r.2.mem ((c.tc : Thread Cert.UpReferenceIdeal.nD Cert.UpReferenceIdeal.τ).loc Cert.UpReferenceIdeal.main_v34) = v1 c
          ∧ r.2.mem ((c.tc : Thread Cert.UpReferenceIdeal.nD Cert.UpReferenceIdeal.τ).loc Cert.UpReferenceIdeal.main_v36) = v2 c
          ∧ r.2.mem ((c.tc : Thread Cert.UpReferenceIdeal.nD Cert.UpReferenceIdeal.τ).loc Cert.UpReferenceIdeal.main_v38) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_FfnGrad_FfnGradIdeal : Prop :=
  True

def algebraic_FfnGradIdeal_FfnReferenceIdeal_pre_ordinary [hFfnGradIdeal : Cert.FfnGradIdeal.Facts] [hFfnReferenceIdeal : Cert.FfnReferenceIdeal.Facts] [hPre_ordinary : Cert.Pre_ordinary.Facts] : Prop :=
  ∀ (m : (ℓ : Loc Cert.FfnGradIdeal.nD Cert.FfnGradIdeal.τ Cert.FfnGradIdeal.sig) → Buf (Elt Ideal) ℓ) (g : Dev Cert.FfnGradIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnGradIdeal_ordinary m →
    (∀ c : Dev Cert.FfnGradIdeal.nD,
      m' ((c.tc : Thread Cert.FfnReferenceIdeal.nD Cert.FfnReferenceIdeal.τ).loc Cert.FfnReferenceIdeal.main_arg0) = m ((c.tc : Thread Cert.FfnGradIdeal.nD Cert.FfnGradIdeal.τ).loc Cert.FfnGradIdeal.main_arg0)
      ∧ m' ((c.tc : Thread Cert.FfnReferenceIdeal.nD Cert.FfnReferenceIdeal.τ).loc Cert.FfnReferenceIdeal.main_arg1) = m ((c.tc : Thread Cert.FfnGradIdeal.nD Cert.FfnGradIdeal.τ).loc Cert.FfnGradIdeal.main_arg1)
      ∧ m' ((c.tc : Thread Cert.FfnReferenceIdeal.nD Cert.FfnReferenceIdeal.τ).loc Cert.FfnReferenceIdeal.main_arg2) = m ((c.tc : Thread Cert.FfnGradIdeal.nD Cert.FfnGradIdeal.τ).loc Cert.FfnGradIdeal.main_arg2)
      ∧ m' ((c.tc : Thread Cert.FfnReferenceIdeal.nD Cert.FfnReferenceIdeal.τ).loc Cert.FfnReferenceIdeal.main_arg3) = m ((c.tc : Thread Cert.FfnGradIdeal.nD Cert.FfnGradIdeal.τ).loc Cert.FfnGradIdeal.main_arg3)
      ∧ m' ((c.tc : Thread Cert.FfnReferenceIdeal.nD Cert.FfnReferenceIdeal.τ).loc Cert.FfnReferenceIdeal.main_arg4) = m ((c.tc : Thread Cert.FfnGradIdeal.nD Cert.FfnGradIdeal.τ).loc Cert.FfnGradIdeal.main_arg4)
      ∧ m' ((c.tc : Thread Cert.FfnReferenceIdeal.nD Cert.FfnReferenceIdeal.τ).loc Cert.FfnReferenceIdeal.main_arg5) = m ((c.tc : Thread Cert.FfnGradIdeal.nD Cert.FfnGradIdeal.τ).loc Cert.FfnGradIdeal.main_arg5)
      ∧ m' ((c.tc : Thread Cert.FfnReferenceIdeal.nD Cert.FfnReferenceIdeal.τ).loc Cert.FfnReferenceIdeal.main_arg6) = m ((c.tc : Thread Cert.FfnGradIdeal.nD Cert.FfnGradIdeal.τ).loc Cert.FfnGradIdeal.main_arg6)
      ∧ m' ((c.tc : Thread Cert.FfnReferenceIdeal.nD Cert.FfnReferenceIdeal.τ).loc Cert.FfnReferenceIdeal.main_arg7) = m ((c.tc : Thread Cert.FfnGradIdeal.nD Cert.FfnGradIdeal.τ).loc Cert.FfnGradIdeal.main_arg7)
      ∧ m' ((c.tc : Thread Cert.FfnReferenceIdeal.nD Cert.FfnReferenceIdeal.τ).loc Cert.FfnReferenceIdeal.main_arg8) = m ((c.tc : Thread Cert.FfnGradIdeal.nD Cert.FfnGradIdeal.τ).loc Cert.FfnGradIdeal.main_arg8)
      ∧ m' ((c.tc : Thread Cert.FfnReferenceIdeal.nD Cert.FfnReferenceIdeal.τ).loc Cert.FfnReferenceIdeal.main_arg9) = m ((c.tc : Thread Cert.FfnGradIdeal.nD Cert.FfnGradIdeal.τ).loc Cert.FfnGradIdeal.main_arg9)
      ∧ m' ((c.tc : Thread Cert.FfnReferenceIdeal.nD Cert.FfnReferenceIdeal.τ).loc Cert.FfnReferenceIdeal.main_arg10) = m ((c.tc : Thread Cert.FfnGradIdeal.nD Cert.FfnGradIdeal.τ).loc Cert.FfnGradIdeal.main_arg10)) →
    ∃ (v0 : (c : Dev Cert.FfnGradIdeal.nD) → Buf (Elt Ideal) ((c.tc : Thread Cert.FfnGradIdeal.nD Cert.FfnGradIdeal.τ).loc Cert.FfnGradIdeal.main_v0_0)) (v1 : (c : Dev Cert.FfnGradIdeal.nD) → Buf (Elt Ideal) ((c.tc : Thread Cert.FfnGradIdeal.nD Cert.FfnGradIdeal.τ).loc Cert.FfnGradIdeal.main_v0_1)) (v2 : (c : Dev Cert.FfnGradIdeal.nD) → Buf (Elt Ideal) ((c.tc : Thread Cert.FfnGradIdeal.nD Cert.FfnGradIdeal.τ).loc Cert.FfnGradIdeal.main_v0_2)) (v3 : (c : Dev Cert.FfnGradIdeal.nD) → Buf (Elt Ideal) ((c.tc : Thread Cert.FfnGradIdeal.nD Cert.FfnGradIdeal.τ).loc Cert.FfnGradIdeal.main_v0_3)) (v4 : (c : Dev Cert.FfnGradIdeal.nD) → Buf (Elt Ideal) ((c.tc : Thread Cert.FfnGradIdeal.nD Cert.FfnGradIdeal.τ).loc Cert.FfnGradIdeal.main_v0_4)) (v5 : (c : Dev Cert.FfnGradIdeal.nD) → Buf (Elt Ideal) ((c.tc : Thread Cert.FfnGradIdeal.nD Cert.FfnGradIdeal.τ).loc Cert.FfnGradIdeal.main_v0_5)) (v6 : (c : Dev Cert.FfnGradIdeal.nD) → Buf (Elt Ideal) ((c.tc : Thread Cert.FfnGradIdeal.nD Cert.FfnGradIdeal.τ).loc Cert.FfnGradIdeal.main_v0_6)) (v7 : (c : Dev Cert.FfnGradIdeal.nD) → Buf (Elt Ideal) ((c.tc : Thread Cert.FfnGradIdeal.nD Cert.FfnGradIdeal.τ).loc Cert.FfnGradIdeal.main_v0_7)),
      θ_run (Cert.FfnGradIdeal.defs (F := Ideal)) (onTc (τ := Cert.FfnGradIdeal.τ) (Cert.FfnGradIdeal.main (F := Ideal))) ⟨m, fun _ => 0, g⟩ (fun r => ∀ c : Dev Cert.FfnGradIdeal.nD,
          r.2.mem ((c.tc : Thread Cert.FfnGradIdeal.nD Cert.FfnGradIdeal.τ).loc Cert.FfnGradIdeal.main_v0_0) = v0 c
          ∧ r.2.mem ((c.tc : Thread Cert.FfnGradIdeal.nD Cert.FfnGradIdeal.τ).loc Cert.FfnGradIdeal.main_v0_1) = v1 c
          ∧ r.2.mem ((c.tc : Thread Cert.FfnGradIdeal.nD Cert.FfnGradIdeal.τ).loc Cert.FfnGradIdeal.main_v0_2) = v2 c
          ∧ r.2.mem ((c.tc : Thread Cert.FfnGradIdeal.nD Cert.FfnGradIdeal.τ).loc Cert.FfnGradIdeal.main_v0_3) = v3 c
          ∧ r.2.mem ((c.tc : Thread Cert.FfnGradIdeal.nD Cert.FfnGradIdeal.τ).loc Cert.FfnGradIdeal.main_v0_4) = v4 c
          ∧ r.2.mem ((c.tc : Thread Cert.FfnGradIdeal.nD Cert.FfnGradIdeal.τ).loc Cert.FfnGradIdeal.main_v0_5) = v5 c
          ∧ r.2.mem ((c.tc : Thread Cert.FfnGradIdeal.nD Cert.FfnGradIdeal.τ).loc Cert.FfnGradIdeal.main_v0_6) = v6 c
          ∧ r.2.mem ((c.tc : Thread Cert.FfnGradIdeal.nD Cert.FfnGradIdeal.τ).loc Cert.FfnGradIdeal.main_v0_7) = v7 c
          ∧ r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
          ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6)
          ∧ r.2.mem ((c.tc : Thread Cert.FfnGradIdeal.nD Cert.FfnGradIdeal.τ).loc Cert.FfnGradIdeal.main_arg7) = m ((c.tc : Thread Cert.FfnGradIdeal.nD Cert.FfnGradIdeal.τ).loc Cert.FfnGradIdeal.main_arg7)
          ∧ r.2.mem ((c.tc : Thread Cert.FfnGradIdeal.nD Cert.FfnGradIdeal.τ).loc Cert.FfnGradIdeal.main_arg8) = m ((c.tc : Thread Cert.FfnGradIdeal.nD Cert.FfnGradIdeal.τ).loc Cert.FfnGradIdeal.main_arg8)
          ∧ r.2.mem ((c.tc : Thread Cert.FfnGradIdeal.nD Cert.FfnGradIdeal.τ).loc Cert.FfnGradIdeal.main_arg9) = m ((c.tc : Thread Cert.FfnGradIdeal.nD Cert.FfnGradIdeal.τ).loc Cert.FfnGradIdeal.main_arg9)
          ∧ r.2.mem ((c.tc : Thread Cert.FfnGradIdeal.nD Cert.FfnGradIdeal.τ).loc Cert.FfnGradIdeal.main_arg10) = m ((c.tc : Thread Cert.FfnGradIdeal.nD Cert.FfnGradIdeal.τ).loc Cert.FfnGradIdeal.main_arg10))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v135) = v0 c
          ∧ r.2.mem ((c.tc : Thread Cert.FfnReferenceIdeal.nD Cert.FfnReferenceIdeal.τ).loc Cert.FfnReferenceIdeal.main_v136) = v1 c
          ∧ r.2.mem ((c.tc : Thread Cert.FfnReferenceIdeal.nD Cert.FfnReferenceIdeal.τ).loc Cert.FfnReferenceIdeal.main_v133) = v2 c
          ∧ r.2.mem ((c.tc : Thread Cert.FfnReferenceIdeal.nD Cert.FfnReferenceIdeal.τ).loc Cert.FfnReferenceIdeal.main_v55) = v3 c
          ∧ r.2.mem ((c.tc : Thread Cert.FfnReferenceIdeal.nD Cert.FfnReferenceIdeal.τ).loc Cert.FfnReferenceIdeal.main_v51) = v4 c
          ∧ r.2.mem ((c.tc : Thread Cert.FfnReferenceIdeal.nD Cert.FfnReferenceIdeal.τ).loc Cert.FfnReferenceIdeal.main_v102) = v5 c
          ∧ r.2.mem ((c.tc : Thread Cert.FfnReferenceIdeal.nD Cert.FfnReferenceIdeal.τ).loc Cert.FfnReferenceIdeal.main_v109) = v6 c
          ∧ r.2.mem ((c.tc : Thread Cert.FfnReferenceIdeal.nD Cert.FfnReferenceIdeal.τ).loc Cert.FfnReferenceIdeal.main_v131) = v7 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10))

def Claim : Prop :=
  ∃ (hKernel : Cert.Kernel.Facts) (hKernelIdeal : Cert.KernelIdeal.Facts) (hReferenceIdeal : Cert.ReferenceIdeal.Facts) (hInGrad : Cert.InGrad.Facts) (hInGradIdeal : Cert.InGradIdeal.Facts) (hInReferenceIdeal : Cert.InReferenceIdeal.Facts) (hOutGrad : Cert.OutGrad.Facts) (hOutGradIdeal : Cert.OutGradIdeal.Facts) (hOutReferenceIdeal : Cert.OutReferenceIdeal.Facts) (hDnGrad : Cert.DnGrad.Facts) (hDnGradIdeal : Cert.DnGradIdeal.Facts) (hDnReferenceIdeal : Cert.DnReferenceIdeal.Facts) (hUp : Cert.Up.Facts) (hUpIdeal : Cert.UpIdeal.Facts) (hUpReferenceIdeal : Cert.UpReferenceIdeal.Facts) (hFfnGrad : Cert.FfnGrad.Facts) (hFfnGradIdeal : Cert.FfnGradIdeal.Facts) (hFfnReferenceIdeal : Cert.FfnReferenceIdeal.Facts) (hPre_finite : Cert.Pre_finite.Facts) (hPre_tame : Cert.Pre_tame.Facts) (hPre_bounded : Cert.Pre_bounded.Facts) (hPre_ordinary : Cert.Pre_ordinary.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InGrad (hInGrad := hInGrad)
    ∧ quiescent_InGradIdeal (hInGradIdeal := hInGradIdeal)
    ∧ quiescent_InReferenceIdeal (hInReferenceIdeal := hInReferenceIdeal)
    ∧ quiescent_OutGrad (hOutGrad := hOutGrad)
    ∧ quiescent_OutGradIdeal (hOutGradIdeal := hOutGradIdeal)
    ∧ quiescent_OutReferenceIdeal (hOutReferenceIdeal := hOutReferenceIdeal)
    ∧ quiescent_DnGrad (hDnGrad := hDnGrad)
    ∧ quiescent_DnGradIdeal (hDnGradIdeal := hDnGradIdeal)
    ∧ quiescent_DnGradIdeal_pre_tame (hDnGradIdeal := hDnGradIdeal) (hPre_tame := hPre_tame)
    ∧ quiescent_DnReferenceIdeal (hDnReferenceIdeal := hDnReferenceIdeal)
    ∧ quiescent_DnReferenceIdeal_pre_tame (hDnReferenceIdeal := hDnReferenceIdeal) (hPre_tame := hPre_tame)
    ∧ quiescent_Up (hUp := hUp)
    ∧ quiescent_UpIdeal (hUpIdeal := hUpIdeal)
    ∧ quiescent_UpIdeal_pre_bounded (hUpIdeal := hUpIdeal) (hPre_bounded := hPre_bounded)
    ∧ quiescent_UpReferenceIdeal (hUpReferenceIdeal := hUpReferenceIdeal)
    ∧ quiescent_UpReferenceIdeal_pre_bounded (hUpReferenceIdeal := hUpReferenceIdeal) (hPre_bounded := hPre_bounded)
    ∧ quiescent_FfnGrad (hFfnGrad := hFfnGrad)
    ∧ quiescent_FfnGradIdeal (hFfnGradIdeal := hFfnGradIdeal)
    ∧ quiescent_FfnGradIdeal_pre_ordinary (hFfnGradIdeal := hFfnGradIdeal) (hPre_ordinary := hPre_ordinary)
    ∧ quiescent_FfnReferenceIdeal (hFfnReferenceIdeal := hFfnReferenceIdeal)
    ∧ quiescent_FfnReferenceIdeal_pre_ordinary (hFfnReferenceIdeal := hFfnReferenceIdeal) (hPre_ordinary := hPre_ordinary)
    ∧ preserves_Kernel_KernelIdeal
    ∧ algebraic_KernelIdeal_ReferenceIdeal_pre_finite (hKernelIdeal := hKernelIdeal) (hReferenceIdeal := hReferenceIdeal) (hPre_finite := hPre_finite)
    ∧ preserves_InGrad_InGradIdeal
    ∧ algebraic_InGradIdeal_InReferenceIdeal (hInGradIdeal := hInGradIdeal) (hInReferenceIdeal := hInReferenceIdeal)
    ∧ preserves_OutGrad_OutGradIdeal
    ∧ algebraic_OutGradIdeal_OutReferenceIdeal (hOutGradIdeal := hOutGradIdeal) (hOutReferenceIdeal := hOutReferenceIdeal)
    ∧ preserves_DnGrad_DnGradIdeal
    ∧ algebraic_DnGradIdeal_DnReferenceIdeal_pre_tame (hDnGradIdeal := hDnGradIdeal) (hDnReferenceIdeal := hDnReferenceIdeal) (hPre_tame := hPre_tame)
    ∧ preserves_Up_UpIdeal
    ∧ algebraic_UpIdeal_UpReferenceIdeal_pre_bounded (hUpIdeal := hUpIdeal) (hUpReferenceIdeal := hUpReferenceIdeal) (hPre_bounded := hPre_bounded)
    ∧ preserves_FfnGrad_FfnGradIdeal
    ∧ algebraic_FfnGradIdeal_FfnReferenceIdeal_pre_ordinary (hFfnGradIdeal := hFfnGradIdeal) (hFfnReferenceIdeal := hFfnReferenceIdeal) (hPre_ordinary := hPre_ordinary)
-- ==== Pre_bounded.lean ====
abbrev S8192x1024 : Shape := ⟨2, ![8192, 1024]⟩
abbrev S1x1024 : Shape := ⟨2, ![1, 1024]⟩
abbrev S5632x1024 : Shape := ⟨2, ![5632, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S5632x1024 : S_.BroadcastsInDim S5632x1024 (![] : Fin 0 → Fin S5632x1024.rank)
  reducesTo_S5632x1024_S_d0_1 : S5632x1024.ReducesTo [0, 1] S_

variable [Facts]

def fn_part1 {F : FTy → Type} [FloatOps F] (main_arg4 : FVec F S5632x1024 .bf16) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S5632x1024 .bf16 := Host.absf main_arg4
  let main_cst_6 : FVec F S_ .bf16 := constant S_ .bf16 0x7F80#16
  let main_v17 : FVec F S5632x1024 .bf16 := broadcastInDim S5632x1024 ![] bcast_S_S5632x1024 main_cst_6
  let main_v18 : IVec S5632x1024 1 := cmpf .olt main_v16 main_v17
  let main_c_7 : IVec S_ 1 := constantI S_ 1 1#1
  let main_v19 : IVec S_ 1 := (fun x v => Host.reduce IntOp.andi x v reducesTo_S5632x1024_S_d0_1 h_S_) main_v18 main_c_7
  (main_v3, main_v7, main_v11, main_v15, main_v19)

def fn {F : FTy → Type} [FloatOps F] (main_arg0 : FVec F S8192x1024 .f32) (main_arg1 : FVec F S1x1024 .f32) (main_arg2 : FVec F S1x1024 .f32) (main_arg3 : FVec F S1x1024 .f32) (main_arg4 : FVec F S5632x1024 .bf16) : IVec S_ 1 × IVec S_ 1 × IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_v3 main_v7 main_v11 main_v15
-- ==== Pre_finite.lean ====
abbrev S8192x1024 : Shape := ⟨2, ![8192, 1024]⟩
abbrev S8192x512 : Shape := ⟨2, ![8192, 512]⟩
abbrev S1x512 : Shape := ⟨2, ![1, 512]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x512 : S_.BroadcastsInDim S1x512 (![] : Fin 0 → Fin S1x512.rank)
  reducesTo_S1x512_S_d0_1 : S1x512.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x8x128x128 .f32) (main_arg5 : FVec F S1x8x128 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 :=
  let main_v16 : FVec F S1x8x128x128 .f32 := Host.absf main_arg4
  let main_cst_6 : FVec F S_ .f32 := constant S_ .f32 0x7F800000#32
  let main_v17 : FVec F S1x8x128x128 .f32 := broadcastInDim S1x8x128x128 ![] bcast_S_S1x8x128x128 main_cst_6
  let main_v18 : IVec S1x8x128x128 1 := cmpf .olt main_v16 main_v17
  let main_c_7 : IVec S_ 1 := constantI S_ 1 1#1
  let main_v19 : IVec S_ 1 := (fun x v => Host.reduce IntOp.andi x v reducesTo_S1x8x128x128_S_d0_1_2_3 h_S_) main_v18 main_c_7
  let main_v20 : FVec F S1x8x128 .f32 := Host.absf main_arg5
  let main_cst_8 : FVec F S_ .f32 := constant S_ .f32 0x7F800000#32
  let main_v21 : FVec F S1x8x128 .f32 := broadcastInDim S1x8x128 ![] bcast_S_S1x8x128 main_cst_8
  let main_v22 : IVec S1x8x128 1 := cmpf .olt main_v20 main_v21
  let main_c_9 : IVec S_ 1 := constantI S_ 1 1#1
  let main_v23 : IVec S_ 1 := (fun x v => Host.reduce IntOp.andi x v reducesTo_S1x8x128_S_d0_1_2 h_S_) main_v22 main_c_9
  (main_v3, main_v7, main_v11, main_v15, main_v19, main_v23)

def fn {F : FTy → Type} [FloatOps F] (main_arg0 : FVec F S8192x1024 .bf16) (main_arg1 : FVec F S8192x512 .bf16) (main_arg2 : FVec F S1x512 .f32) (main_arg3 : FVec F S1x512 .f32) (main_arg4 : FVec F S1x8x128x128 .f32) (main_arg5 : FVec F S1x8x128 .f32) : IVec S_ 1 × IVec S_ 1 × IVec S_ 1 × IVec S_ 1 × IVec S_ 1 × IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .bf16 := Host.absf main_arg1
  let main_cst_0 : FVec F S_ .bf16 := constant S_ .bf16 0x7F80#16
  let main_v5 : FVec F S8192x512 .bf16 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S1x512 .f32 := Host.absf main_arg2
  let main_cst_2 : FVec F S_ .f32 := constant S_ .f32 0x7F800000#32
  let main_v9 : FVec F S1x512 .f32 := broadcastInDim S1x512 ![] bcast_S_S1x512 main_cst_2
  let main_v10 : IVec S1x512 1 := cmpf .olt main_v8 main_v9
  let main_c_3 : IVec S_ 1 := constantI S_ 1 1#1
  let main_v11 : IVec S_ 1 := (fun x v => Host.reduce IntOp.andi x v reducesTo_S1x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_v3 main_v7 main_v11 main_v15
-- ==== Pre_ordinary.lean ====
abbrev S8192x1024 : Shape := ⟨2, ![8192, 1024]⟩
abbrev S8192x2816 : Shape := ⟨2, ![8192, 2816]⟩
abbrev S2816x1024 : Shape := ⟨2, ![2816, 1024]⟩
abbrev S5632x1024 : Shape := ⟨2, ![5632, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S5632x1024 : S_.BroadcastsInDim S5632x1024 (![] : Fin 0 → Fin S5632x1024.rank)
  reducesTo_S5632x1024_S_d0_1 : S5632x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_arg9 : FVec F S1x1024 .f32) (main_arg10 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 × IVec S_ 1 × IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S1x1024 .f32 := Host.absf main_arg9
  let main_cst_16 : FVec F S_ .f32 := constant S_ .f32 0x7F800000#32
  let main_v37 : FVec F S1x1024 .f32 := broadcastInDim S1x1024 ![] bcast_S_S1x1024 main_cst_16
  let main_v38 : IVec S1x1024 1 := cmpf .olt main_v36 main_v37
  let main_c_17 : IVec S_ 1 := constantI S_ 1 1#1
  let main_v39 : IVec S_ 1 := (fun x v => Host.reduce IntOp.andi x v reducesTo_S1x1024_S_d0_1 h_S_) main_v38 main_c_17
  let main_v40 : FVec F S1x1024 .f32 := Host.absf main_arg10
  let main_cst_18 : FVec F S_ .f32 := constant S_ .f32 0x7F800000#32
  let main_v41 : FVec F S1x1024 .f32 := broadcastInDim S1x1024 ![] bcast_S_S1x1024 main_cst_18
  let main_v42 : IVec S1x1024 1 := cmpf .olt main_v40 main_v41
  let main_c_19 : IVec S_ 1 := constantI S_ 1 1#1
  let main_v43 : IVec S_ 1 := (fun x v => Host.reduce IntOp.andi x v reducesTo_S1x1024_S_d0_1 h_S_) main_v42 main_c_19
  (main_v3, main_v7, main_v11, main_v15, main_v19, main_v23, main_v27, main_v31, main_v35, main_v39, main_v43)

def fn_part1 {F : FTy → Type} [FloatOps F] (main_arg4 : FVec F S2816x1024 .bf16) (main_arg5 : FVec F S5632x1024 .bf16) (main_arg6 : FVec F S8192x1024 .f32) (main_arg7 : FVec F S1x1024 .f32) (main_arg8 : FVec F S1x1024 .f32) (main_arg9 : FVec F S1x1024 .f32) (main_arg10 : FVec F S1x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 × IVec S_ 1 × IVec S_ 1 :=
  let main_v16 : FVec F S2816x1024 .bf16 := Host.absf main_arg4
  let main_cst_6 : FVec F S_ .bf16 := constant S_ .bf16 0x7F80#16
  let main_v17 : FVec F S2816x1024 .bf16 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S5632x1024 .bf16 := Host.absf main_arg5
  let main_cst_8 : FVec F S_ .bf16 := constant S_ .bf16 0x7F80#16
  let main_v21 : FVec F S5632x1024 .bf16 := broadcastInDim S5632x1024 ![] bcast_S_S5632x1024 main_cst_8
  let main_v22 : IVec S5632x1024 1 := cmpf .olt main_v20 main_v21
  let main_c_9 : IVec S_ 1 := constantI S_ 1 1#1
  let main_v23 : IVec S_ 1 := (fun x v => Host.reduce IntOp.andi x v reducesTo_S5632x1024_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_arg9 main_arg10 main_v3 main_v7 main_v11 main_v15 main_v19 main_v23 main_v27 main_v31

def fn {F : FTy → Type} [FloatOps F] (main_arg0 : FVec F S8192x1024 .f32) (main_arg1 : FVec F S8192x1024 .bf16) (main_arg2 : FVec F S8192x2816 .bf16) (main_arg3 : FVec F S8192x2816 .bf16) (main_arg4 : FVec F S2816x1024 .bf16) (main_arg5 : FVec F S5632x1024 .bf16) (main_arg6 : FVec F S8192x1024 .f32) (main_arg7 : FVec F S1x1024 .f32) (main_arg8 : FVec F S1x1024 .f32) (main_arg9 : FVec F S1x1024 .f32) (main_arg10 : FVec F S1x1024 .f32) : IVec S_ 1 × IVec S_ 1 × IVec S_ 1 × IVec S_ 1 × IVec S_ 1 × IVec S_ 1 × IVec S_ 1 × IVec S_ 1 × IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x2816 .bf16 := Host.absf main_arg2
  let main_cst_2 : FVec F S_ .bf16 := constant S_ .bf16 0x7F80#16
  let main_v9 : FVec F S8192x2816 .bf16 := broadcastInDim S8192x2816 ![] bcast_S_S8192x2816 main_cst_2
  let main_v10 : IVec S8192x2816 1 := cmpf .olt main_v8 main_v9
  let main_c_3 : IVec S_ 1 := constantI S_ 1 1#1
  let main_v11 : IVec S_ 1 := (fun x v => Host.reduce IntOp.andi x v reducesTo_S8192x2816_S_d0_1 h_S_) main_v10 main_c_3
  let main_v12 : FVec F S8192x2816 .bf16 := Host.absf main_arg3
  let main_cst_4 : FVec F S_ .bf16 := constant S_ .bf16 0x7F80#16
  let main_v13 : FVec F S8192x2816 .bf16 := broadcastInDim S8192x2816 ![] bcast_S_S8192x2816 main_cst_4
  let main_v14 : IVec S8192x2816 1 := cmpf .olt main_v12 main_v13
  let main_c_5 : IVec S_ 1 := constantI S_ 1 1#1
  let main_v15 : IVec S_ 1 := (fun x v => Host.reduce IntOp.andi x v reducesTo_S8192x2816_S_d0_1 h_S_) main_v14 main_c_5
  fn_part1 (F := F) main_arg4 main_arg5 main_arg6 main_arg7 main_arg8 main_arg9 main_arg10 main_v3 main_v7 main_v11 main_v15
-- ==== Pre_tame.lean ====
abbrev S8192x5632 : Shape := ⟨2, ![8192, 5632]⟩
abbrev S5632x1024 : Shape := ⟨2, ![5632, 1024]⟩
abbrev S8192x1024 : Shape := ⟨2, ![8192, 1024]⟩
abbrev S1x1024 : Shape := ⟨2, ![1, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S1x1024 .f32 := Host.absf main_arg5
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  (main_v3, main_v7, main_v11, main_v15, main_v19)

def fn {F : FTy → Type} [FloatOps F] (main_arg0 : FVec F S8192x5632 .bf16) (main_arg1 : FVec F S5632x1024 .bf16) (main_arg2 : FVec F S8192x1024 .f32) (main_arg3 : FVec F S8192x1024 .f32) (main_arg4 : FVec F S1x1024 .f32) (main_arg5 : FVec F S1x1024 .f32) : IVec S_ 1 × IVec S_ 1 × IVec S_ 1 × IVec S_ 1 × IVec S_ 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S5632x1024 .bf16 := Host.absf main_arg1
  let main_cst_0 : FVec F S_ .bf16 := constant S_ .bf16 0x7F80#16
  let main_v5 : FVec F S5632x1024 .bf16 := broadcastInDim S5632x1024 ![] bcast_S_S5632x1024 main_cst_0
  let main_v6 : IVec S5632x1024 1 := cmpf .olt main_v4 main_v5
  let main_c_1 : IVec S_ 1 := constantI S_ 1 1#1
  let main_v7 : IVec S_ 1 := (fun x v => Host.reduce IntOp.andi x v reducesTo_S5632x1024_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1x1024 .f32 := Host.absf main_arg4
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg5 main_v3 main_v7 main_v11 main_v15
-- ==== Kernel.lean ====
abbrev S8192x1024 : Shape := ⟨2, ![8192, 1024]⟩
abbrev S8192x512 : Shape := ⟨2, ![8192, 512]⟩
abbrev S1x512 : Shape := ⟨2, ![1, 512]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S1024x1024 : Shape := ⟨2, ![1024, 1024]⟩
abbrev S1024x512 : Shape := ⟨2, ![1024, 512]⟩
abbrev S128x512 : Shape := ⟨2, ![128, 512]⟩
abbrev S128x128 : Shape := ⟨2, ![128, 128]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩
abbrev S512 : Shape := ⟨1, ![512]⟩
abbrev S8x512 : Shape := ⟨2, ![8, 512]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1x512, .f32⟩
  | .hbm, ⟨3, _⟩ => ⟨S1x512, .f32⟩
  | .hbm, ⟨4, _⟩ => ⟨S1x8x128x128, .f32⟩
  | .hbm, ⟨5, _⟩ => ⟨S1x8x128, .f32⟩
  | .hbm, ⟨6, _⟩ => ⟨S8x128x128, .f32⟩
  | .hbm, ⟨7, _⟩ => ⟨S8x128, .f32⟩
  | .hbm, ⟨8, _⟩ => ⟨S128x8, .f32⟩
  | .hbm, ⟨9, _⟩ => ⟨S8192x1024, .bf16⟩
  | .hbm, ⟨10, _⟩ => ⟨S8x128x128, .f32⟩
  | .hbm, ⟨11, _⟩ => ⟨S8x128, .f32⟩
  | .hbm, ⟨12, _⟩ => ⟨S1x512, .f32⟩
  | .hbm, ⟨13, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x8, .f32⟩
  | .local _ .vmem, ⟨8, _⟩ => ⟨S1024x1024, .bf16⟩
  | .local _ .vmem, ⟨9, _⟩ => ⟨S1024x1024, .bf16⟩
  | .local _ .vmem, ⟨10, _⟩ => ⟨S8x128x128, .f32⟩
  | .local _ .vmem, ⟨11, _⟩ => ⟨S8x128, .f32⟩
  | .local _ .vmem, ⟨12, _⟩ => ⟨S1x512, .f32⟩
  | .local _ .vmem, ⟨13, _⟩ => ⟨S1x512, .f32⟩
  | .local _ .vmem, ⟨14, _⟩ => ⟨S8x128x128, .bf16⟩
  | .local _ .vmem, ⟨15, _⟩ => ⟨S128x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v2518 : BitVec 1 := Scalar.cmpi .eq arg0 c7_i32
  let v2519 : BitVec 32 := Scalar.extui v2518
  let c0_i32_1617 : BitVec 32 := 0#32
  let v2520 : BitVec 1 := Scalar.cmpi .ne v2519 c0_i32_1617
  v2520

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== ReferenceIdeal.lean ====
abbrev S8192x1024 : Shape := ⟨2, ![8192, 1024]⟩
abbrev S8192x512 : Shape := ⟨2, ![8192, 512]⟩
abbrev S1x512 : Shape := ⟨2, ![1, 512]⟩
abbrev S1x8x128x128 : Shape := ⟨4, ![1, 8, 128, 128]⟩
abbrev S1x8x128 : Shape := ⟨3, ![1, 8, 128]⟩
abbrev S1x8192x1024 : Shape := ⟨3, ![1, 8192, 1024]⟩
abbrev S8x128x128 : Shape := ⟨3, ![8, 128, 128]⟩
abbrev S8x128 : Shape := ⟨2, ![8, 128]⟩
abbrev S512 : Shape := ⟨1, ![512]⟩
abbrev S_ : Shape := ⟨0, ![]⟩
abbrev S1x8192x512 : Shape := ⟨3, ![1, 8192, 512]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S8192 : Shape := ⟨1, ![8192]⟩

abbrev nBuf : Space → Nat
  | .hbm => 186
  | .vmem => 0
  | .smem => 0
  | _ => 0

abbrev hbmTy0_0 (i : Nat) : BufTy := match i % 128 with
  | 0 => ⟨S8192x1024, .bf16⟩
  | 1 => ⟨S8192x512, .bf16⟩
  | 2 => ⟨S1x512, .f32⟩
  | 3 => ⟨S1x512, .f32⟩
  | 4 => ⟨S1x8x128x128, .f32⟩
  | 5 => ⟨S1x8x128, .f32⟩
  | 6 => ⟨S8192x1024, .f32⟩
  | 7 => ⟨S1x8192x1024, .f32⟩
  | 8 => ⟨S8x128x128, .f32⟩
  | 9 => ⟨S8x128, .f32⟩
  | 10 => ⟨S512, .f32⟩
  | 11 => ⟨S512, .f32⟩
  | 12 => ⟨S_, .f32⟩
  | 13 => ⟨S_, .f32⟩
  | 14 => ⟨S_, .f32⟩
  | 15 => ⟨S1x8192x1024, .f32⟩
  | 16 => ⟨S1x8192x1024, .f32⟩
  | 17 => ⟨S1x8192x1024, .f32⟩
  | 18 => ⟨S_, .f32⟩
  | 19 => ⟨S1x8192x1024, .f32⟩
  | 20 => ⟨S1x8192x1024, .f32⟩
  | 21 => ⟨S1x8192x1024, .f32⟩
  | 22 => ⟨S1x8192x1024, .f32⟩
  | 23 => ⟨S1x8192x1024, .f32⟩
  | 24 => ⟨S_, .f32⟩
  | 25 => ⟨S1x8192x1024, .f32⟩
  | 26 => ⟨S1x8192x1024, .f32⟩
  | 27 => ⟨S1x8192x1024, .f32⟩
  | 28 => ⟨S_, .f32⟩
  | 29 => ⟨S1x8192x1024, .f32⟩
  | 30 => ⟨S1x8192x1024, .f32⟩
  | 31 => ⟨S_, .f32⟩
  | 32 => ⟨S1x8192x1024, .f32⟩
  | 33 => ⟨S1x8192x1024, .f32⟩
  | 34 => ⟨S1x8192x1024, .f32⟩
  | 35 => ⟨S_, .f32⟩
  | 36 => ⟨S1x8192x1024, .f32⟩
  | 37 => ⟨S1x8192x1024, .f32⟩
  | 38 => ⟨S_, .f32⟩
  | 39 => ⟨S1x8192x1024, .f32⟩
  | 40 => ⟨S1x8192x1024, .f32⟩
  | 41 => ⟨S1x8192x1024, .f32⟩
  | 42 => ⟨S1x8192x512, .f32⟩
  | 43 => ⟨S1x8192x512, .f32⟩
  | 44 => ⟨S_, .f32⟩
  | 45 => ⟨S1x8192, .f32⟩
  | 46 => ⟨S1x8192x1, .f32⟩
  | 47 => ⟨S_, .f32⟩
  | 48 => ⟨S1x8192x1, .f32⟩
  | 49 => ⟨S1x8192x1, .f32⟩
  | 50 => ⟨S1x8192x512, .f32⟩
  | 51 => ⟨S1x8192x512, .f32⟩
  | 52 => ⟨S1x8192x512, .f32⟩
  | 53 => ⟨S_, .f32⟩
  | 54 => ⟨S1x8192x512, .f32⟩
  | 55 => ⟨S1x8192x512, .f32⟩
  | 56 => ⟨S_, .f32⟩
  | 57 => ⟨S1x8192, .f32⟩
  | 58 => ⟨S1x8192x1, .f32⟩
  | 59 => ⟨S_, .f32⟩
  | 60 => ⟨S1x8192x1, .f32⟩
  | 61 => ⟨S1x8192x1, .f32⟩
  | 62 => ⟨S1x8192x512, .f32⟩
  | 63 => ⟨S1x8192x512, .f32⟩
  | 64 => ⟨S_, .f32⟩
  | 65 => ⟨S1x8192x1, .f32⟩
  | 66 => ⟨S1x8192x1, .f32⟩
  | 67 => ⟨S1x8192x1, .f32⟩
  | 68 => ⟨S1x8192x1, .f32⟩
  | 69 => ⟨S_, .f32⟩
  | 70 => ⟨S1x8192x1, .f32⟩
  | 71 => ⟨S1x8192x1, .f32⟩
  | 72 => ⟨S1x8192x512, .f32⟩
  | 73 => ⟨S1x8192x512, .f32⟩
  | 74 => ⟨S1x1x512, .f32⟩
  | 75 => ⟨S1x8192x512, .f32⟩
  | 76 => ⟨S1x8192x512, .f32⟩
  | 77 => ⟨S1x1x512, .f32⟩
  | 78 => ⟨S1x8192x512, .f32⟩
  | 79 => ⟨S1x8192x512, .f32⟩
  | 80 => ⟨S1x64x128x8x64, .f32⟩
  | 81 => ⟨S_, .f32⟩
  | 82 => ⟨S128x128, .f32⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .f32⟩
  | 90 => ⟨S128x128, .f32⟩
  | 91 => ⟨S128x128, .f32⟩
  | 92 => ⟨S1x128x128, .f32⟩
  | 93 => ⟨S8x128x128, .f32⟩
  | 94 => ⟨S8x128x128, .f32⟩
  | 95 => ⟨S8x1x64x64x128, .f32⟩
  | 96 => ⟨S1x64x128x8x64, .f32⟩
  | 97 => ⟨S128x8, .f32⟩
  | 98 => ⟨S1x1x128x8x1, .f32⟩
  | 99 => ⟨S1x64x128x8x64, .f32⟩
  | 100 => ⟨S1x64x128x8x64, .f32⟩
  | 101 => ⟨S1x8192x512, .f32⟩
  | 102 => ⟨S1x8192x512, .f32⟩
  | 103 => ⟨S8192x512, .f32⟩
  | 104 => ⟨S1x8192x512, .f32⟩
  | 105 => ⟨S1x8192x512, .f32⟩
  | 106 => ⟨S1x8192x512, .f32⟩
  | 107 => ⟨S1x64x128x8x64, .f32⟩
  | 108 => ⟨S_, .f32⟩
  | 109 => ⟨S1x128x8, .f32⟩
  | 110 => ⟨S1x1x128x8x1, .f32⟩
  | 111 => ⟨S_, .f32⟩
  | 112 => ⟨S128x8, .f32⟩
  | 113 => ⟨S8x128, .f32⟩
  | 114 => ⟨S8x1x64x64x128, .f32⟩
  | 115 => ⟨S8x128x128, .f32⟩
  | 116 => ⟨S8x1x64x64x128, .f32⟩
  | 117 => ⟨S1x64x128x8x64, .f32⟩
  | 118 => ⟨S8x128x128, .f32⟩
  | 119 => ⟨S8x128x128, .f32⟩
  | 120 => ⟨S1x8192x512, .f32⟩
  | 121 => ⟨S_, .f32⟩
  | 122 => ⟨S1x512, .f32⟩
  | 123 => ⟨S1x1x512, .f32⟩
  | 124 => ⟨S_, .f32⟩
  | 125 => ⟨S512, .f32⟩
  | 126 => ⟨S1x8192x512, .f32⟩
  | 127 => ⟨S_, .f32⟩
  | _ => ⟨S8192x1024, .bf16⟩

abbrev hbmTy0_1 (i : Nat) : BufTy := match i % 128 with
  | 0 => ⟨S1x512, .f32⟩
  | 1 => ⟨S1x1x512, .f32⟩
  | 2 => ⟨S1x8192x512, .f32⟩
  | 3 => ⟨S1x8192x512, .f32⟩
  | 4 => ⟨S_, .f32⟩
  | 5 => ⟨S512, .f32⟩
  | 6 => ⟨S1x8192x512, .f32⟩
  | 7 => ⟨S_, .f32⟩
  | 8 => ⟨S1x8192, .f32⟩
  | 9 => ⟨S1x8192x1, .f32⟩
  | 10 => ⟨S1x8192x512, .f32⟩
  | 11 => ⟨S1x8192x512, .f32⟩
  | 12 => ⟨S1x8192x1, .f32⟩
  | 13 => ⟨S1x8192x512, .f32⟩
  | 14 => ⟨S_, .f32⟩
  | 15 => ⟨S1x8192, .f32⟩
  | 16 => ⟨S1x8192x1, .f32⟩
  | 17 => ⟨S_, .f32⟩
  | 18 => ⟨S1x8192x1, .f32⟩
  | 19 => ⟨S1x8192x1, .f32⟩
  | 20 => ⟨S_, .f32⟩
  | 21 => ⟨S8192, .f32⟩
  | 22 => ⟨S1x8192, .f32⟩
  | 23 => ⟨S1x8192x512, .f32⟩
  | 24 => ⟨S1x8192x512, .f32⟩
  | 25 => ⟨S1x8192x512, .f32⟩
  | 26 => ⟨S_, .f32⟩
  | 27 => ⟨S1x8192, .f32⟩
  | 28 => ⟨S1x8192x1, .f32⟩
  | 29 => ⟨S1x8192x512, .f32⟩
  | 30 => ⟨S1x8192x1, .f32⟩
  | 31 => ⟨S_, .f32⟩
  | 32 => ⟨S1x8192x1, .f32⟩
  | 33 => ⟨S1x8192x1, .f32⟩
  | 34 => ⟨S_, .f32⟩
  | 35 => ⟨S8192, .f32⟩
  | 36 => ⟨S1x8192, .f32⟩
  | 37 => ⟨S1x8192x512, .f32⟩
  | 38 => ⟨S1x8192x512, .f32⟩
  | 39 => ⟨S1x8192x1024, .f32⟩
  | 40 => ⟨S1x8192x1024, .f32⟩
  | 41 => ⟨S1x8192x1024, .f32⟩
  | 42 => ⟨S_, .f32⟩
  | 43 => ⟨S1x8192x1024, .f32⟩
  | 44 => ⟨S1x8192x1024, .f32⟩
  | 45 => ⟨S1x8192x1024, .f32⟩
  | 46 => ⟨S_, .f32⟩
  | 47 => ⟨S1x8192x1024, .f32⟩
  | 48 => ⟨S1x8192x1024, .f32⟩
  | 49 => ⟨S1x8192x1024, .f32⟩
  | 50 => ⟨S1x8192x1024, .f32⟩
  | 51 => ⟨S1x8192x1024, .f32⟩
  | 52 => ⟨S1x8192x1024, .f32⟩
  | 53 => ⟨S1x8192x1024, .f32⟩
  | 54 => ⟨S1x512, .f32⟩
  | 55 => ⟨S1x512, .f32⟩
  | 56 => ⟨S8192x1024, .f32⟩
  | 57 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_cst : Ref sig .tc := ⟨.hbm, 89, rfl⟩
abbrev main_call0_v5 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_cst_23 : Ref sig .tc := ⟨.hbm, 145, rfl⟩
abbrev main_v107 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_25 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_cst_27 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_28 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_29 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩

abbrev nD : Nat := 1
abbrev τ : Topo := Topo.v7x

variable {F : FTy → Type} [FloatOps F]
-- ==== InGrad.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩
abbrev S2048x256 : Shape := ⟨2, ![2048, 256]⟩
abbrev S256x1024 : Shape := ⟨2, ![256, 1024]⟩
abbrev S2048x128 : Shape := ⟨2, ![2048, 128]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InReferenceIdeal.lean ====
abbrev S8192x5632 : Shape := ⟨2, ![8192, 5632]⟩
abbrev S8192x1024 : Shape := ⟨2, ![8192, 1024]⟩
abbrev S5632x1024 : Shape := ⟨2, ![5632, 1024]⟩
abbrev S1024x5632 : Shape := ⟨2, ![1024, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutGrad.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩
abbrev S2048x256 : Shape := ⟨2, ![2048, 256]⟩
abbrev S256x1024 : Shape := ⟨2, ![256, 1024]⟩
abbrev S2048x128 : Shape := ⟨2, ![2048, 128]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OutReferenceIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DnGrad.lean ====
abbrev S8192x5632 : Shape := ⟨2, ![8192, 5632]⟩
abbrev S5632x1024 : Shape := ⟨2, ![5632, 1024]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DnReferenceIdeal.lean ====
abbrev S8192x5632 : Shape := ⟨2, ![8192, 5632]⟩
abbrev S5632x1024 : Shape := ⟨2, ![5632, 1024]⟩
abbrev S8192x1024 : Shape := ⟨2, ![8192, 1024]⟩
abbrev S1x1024 : Shape := ⟨2, ![1, 1024]⟩
abbrev S1x8192x1024 : Shape := ⟨3, ![1, 8192, 1024]⟩
abbrev S_ : Shape := ⟨0, ![]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S8192 : Shape := ⟨1, ![8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x8192x1024, .f32⟩
  | .hbm, ⟨7, _⟩ => ⟨S_, .f32⟩
  | .hbm, ⟨8, _⟩ => ⟨S1x1024, .f32⟩
  | .hbm, ⟨9, _⟩ => ⟨S1024, .f32⟩
  | .hbm, ⟨10, _⟩ => ⟨S1x8192x1024, .f32⟩
  | .hbm, ⟨11, _⟩ => ⟨S_, .f32⟩
  | .hbm, ⟨12, _⟩ => ⟨S1x8192, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S1x1x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S5632x1024, .f32⟩
  | .hbm, ⟨40, _⟩ => ⟨S1024x5632, .f32⟩
  | .hbm, ⟨41, _⟩ => ⟨S1x8192x5632, .f32⟩
  | .hbm, ⟨42, _⟩ => ⟨S8192x5632, .f32⟩
  | .hbm, ⟨43, _⟩ => ⟨S1x8192x5632, .f32⟩
  | .hbm, ⟨44, _⟩ => ⟨S1x8192x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x8192x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x8192x1024, .f32⟩
  | .hbm, ⟨56, _⟩ => ⟨S1x8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1x8192x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x8192x1024, .f32⟩
  | .hbm, ⟨65, _⟩ => ⟨S1x8192x1024, .f32⟩
  | .hbm, ⟨66, _⟩ => ⟨S_, .f32⟩
  | .hbm, ⟨67, _⟩ => ⟨S1024, .f32⟩
  | .hbm, ⟨68, _⟩ => ⟨S1x8192x1024, .f32⟩
  | .hbm, ⟨69, _⟩ => ⟨S_, .f32⟩
  | .hbm, ⟨70, _⟩ => ⟨S1x8192, .f32⟩
  | .hbm, ⟨71, _⟩ => ⟨S1x8192x1, .f32⟩
  | .hbm, ⟨72, _⟩ => ⟨S1x8192x1024, .f32⟩
  | .hbm, ⟨73, _⟩ => ⟨S1x8192x1024, .f32⟩
  | .hbm, ⟨74, _⟩ => ⟨S1x8192x1, .f32⟩
  | .hbm, ⟨75, _⟩ => ⟨S_, .f32⟩
  | .hbm, ⟨76, _⟩ => ⟨S1x8192x1, .f32⟩
  | .hbm, ⟨77, _⟩ => ⟨S1x8192x1, .f32⟩
  | .hbm, ⟨78, _⟩ => ⟨S_, .f32⟩
  | .hbm, ⟨79, _⟩ => ⟨S8192, .f32⟩
  | .hbm, ⟨80, _⟩ => ⟨S1x8192, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Up.lean ====
abbrev S8192x1024 : Shape := ⟨2, ![8192, 1024]⟩
abbrev S1x1024 : Shape := ⟨2, ![1, 1024]⟩
abbrev S5632x1024 : Shape := ⟨2, ![5632, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S8192x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S5632x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpReferenceIdeal.lean ====
abbrev S8192x1024 : Shape := ⟨2, ![8192, 1024]⟩
abbrev S1x1024 : Shape := ⟨2, ![1, 1024]⟩
abbrev S5632x1024 : Shape := ⟨2, ![5632, 1024]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S8192x2816 : Shape := ⟨2, ![8192, 2816]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S1x8192x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S5632x1024, .f32⟩
  | .hbm, ⟨33, _⟩ => ⟨S1024x5632, .f32⟩
  | .hbm, ⟨34, _⟩ => ⟨S1x8192x5632, .f32⟩
  | .hbm, ⟨35, _⟩ => ⟨S1x8192x2816, .f32⟩
  | .hbm, ⟨36, _⟩ => ⟨S1x8192x2816, .f32⟩
  | .hbm, ⟨37, _⟩ => ⟨S1x8192x2816, .f32⟩
  | .hbm, ⟨38, _⟩ => ⟨S1x8192x2816, .f32⟩
  | .hbm, ⟨39, _⟩ => ⟨S_, .f32⟩
  | .hbm, ⟨40, _⟩ => ⟨S1x8192x2816, .f32⟩
  | .hbm, ⟨41, _⟩ => ⟨S1x8192x2816, .f32⟩
  | .hbm, ⟨42, _⟩ => ⟨S_, .f32⟩
  | .hbm, ⟨43, _⟩ => ⟨S1x8192x2816, .f32⟩
  | .hbm, ⟨44, _⟩ => ⟨S1x8192x2816, .f32⟩
  | .hbm, ⟨45, _⟩ => ⟨S_, .f32⟩
  | .hbm, ⟨46, _⟩ => ⟨S1x8192x2816, .f32⟩
  | .hbm, ⟨47, _⟩ => ⟨S1x8192x2816, .f32⟩
  | .hbm, ⟨48, _⟩ => ⟨S1x8192x2816, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S1x8192x2816, .f32⟩
  | .hbm, ⟨53, _⟩ => ⟨S1x8192x2816, .f32⟩
  | .hbm, ⟨54, _⟩ => ⟨S1x8192x2816, .f32⟩
  | .hbm, ⟨55, _⟩ => ⟨S8192x1024, .f32⟩
  | .hbm, ⟨56, _⟩ => ⟨S8192x1024, .bf16⟩
  | .hbm, ⟨57, _⟩ => ⟨S8192x2816, .f32⟩
  | .hbm, ⟨58, _⟩ => ⟨S8192x2816, .bf16⟩
  | .hbm, ⟨59, _⟩ => ⟨S8192x2816, .f32⟩
  | .hbm, ⟨60, _⟩ => ⟨S8192x2816, .bf16⟩
  | .hbm, ⟨61, _⟩ => ⟨S8192x2816, .f32⟩
  | .hbm, ⟨62, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v28_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v28_1 : Ref sig .tc := ⟨.hbm, 48, rfl⟩
abbrev main_v28_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== FfnGrad.lean ====
abbrev S8192x1024 : Shape := ⟨2, ![8192, 1024]⟩
abbrev S8192x2816 : Shape := ⟨2, ![8192, 2816]⟩
abbrev S2816x1024 : Shape := ⟨2, ![2816, 1024]⟩
abbrev S5632x1024 : Shape := ⟨2, ![5632, 1024]⟩
abbrev S1x1024 : Shape := ⟨2, ![1, 1024]⟩
abbrev S8192x5632 : Shape := ⟨2, ![8192, 5632]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1024 : Shape := ⟨1, ![1024]⟩
abbrev S512x1024 : Shape := ⟨2, ![512, 1024]⟩
abbrev S256x512 : Shape := ⟨2, ![256, 512]⟩
abbrev S256x256 : Shape := ⟨2, ![256, 256]⟩

abbrev nBuf : Space → Nat
  | .hbm => 19
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S5632x1024, .bf16⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .bf16⟩
  | .hbm, ⟨12, _⟩ => ⟨S8192x5632, .bf16⟩
  | .hbm, ⟨13, _⟩ => ⟨S8192x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S2816x1024, .bf16⟩
  | .local _ .vmem, ⟨9, _⟩ => ⟨S5632x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S256x5632, .bf16⟩
  | .local _ .vmem, ⟨19, _⟩ => ⟨S256x5632, .bf16⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== FfnReferenceIdeal.lean ====
abbrev S8192x1024 : Shape := ⟨2, ![8192, 1024]⟩
abbrev S8192x2816 : Shape := ⟨2, ![8192, 2816]⟩
abbrev S2816x1024 : Shape := ⟨2, ![2816, 1024]⟩
abbrev S5632x1024 : Shape := ⟨2, ![5632, 1024]⟩
abbrev S1x1024 : Shape := ⟨2, ![1, 1024]⟩
abbrev S1x8192x1024 : Shape := ⟨3, ![1, 8192, 1024]⟩
abbrev S1x1x1024 : Shape := ⟨3, ![1, 1, 1024]⟩
abbrev S_ : Shape := ⟨0, ![]⟩
abbrev S1024 : Shape := ⟨1, ![1024]⟩
abbrev S1x8192 : Shape := ⟨2, ![1, 8192]⟩
abbrev S1x8192x1 : Shape := ⟨3, ![1, 8192, 1]⟩
abbrev S8192 : Shape := ⟨1, ![8192]⟩
abbrev S1x8192x2816 : Shape := ⟨3, ![1, 8192, 2816]⟩
abbrev S8192x5632 : Shape := ⟨2, ![8192, 5632]⟩
abbrev S1024x5632 : Shape := ⟨2, ![1024, 5632]⟩
abbrev S1x8192x5632 : Shape := ⟨3, ![1, 8192, 5632]⟩

abbrev nBuf : Space → Nat
  | .hbm => 177
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x2816, .bf16⟩
  | 3 => ⟨S8192x2816, .bf16⟩
  | 4 => ⟨S2816x1024, .bf16⟩
  | 5 => ⟨S5632x1024, .bf16⟩
  | 6 => ⟨S8192x1024, .f32⟩
  | 7 => ⟨S1x1024, .f32⟩
  | 8 => ⟨S1x1024, .f32⟩
  | 9 => ⟨S1x1024, .f32⟩
  | 10 => ⟨S1x1024, .f32⟩
  | 11 => ⟨S8192x1024, .f32⟩
  | 12 => ⟨S1x8192x1024, .f32⟩
  | 13 => ⟨S1x1x1024, .f32⟩
  | 14 => ⟨S_, .f32⟩
  | 15 => ⟨S1x1x1024, .f32⟩
  | 16 => ⟨S1x1x1024, .f32⟩
  | 17 => ⟨S1024, .f32⟩
  | 18 => ⟨S1x8192x1024, .f32⟩
  | 19 => ⟨S_, .f32⟩
  | 20 => ⟨S1x8192, .f32⟩
  | 21 => ⟨S1x8192x1, .f32⟩
  | 22 => ⟨S_, .f32⟩
  | 23 => ⟨S1x8192x1, .f32⟩
  | 24 => ⟨S1x8192x1, .f32⟩
  | 25 => ⟨S_, .f32⟩
  | 26 => ⟨S1x8192x1, .f32⟩
  | 27 => ⟨S1x8192x1, .f32⟩
  | 28 => ⟨S1x8192x1, .f32⟩
  | 29 => ⟨S1x8192x1, .f32⟩
  | 30 => ⟨S_, .f32⟩
  | 31 => ⟨S1x8192x1, .f32⟩
  | 32 => ⟨S1x8192x1, .f32⟩
  | 33 => ⟨S1x8192x1024, .f32⟩
  | 34 => ⟨S1x8192x1024, .f32⟩
  | 35 => ⟨S1x1x1024, .f32⟩
  | 36 => ⟨S1x8192x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S_, .f32⟩
  | 45 => ⟨S1x1024, .f32⟩
  | 46 => ⟨S1x1x1024, .f32⟩
  | 47 => ⟨S1x8192x1024, .f32⟩
  | 48 => ⟨S_, .f32⟩
  | 49 => ⟨S1x1024, .f32⟩
  | 50 => ⟨S1x1x1024, .f32⟩
  | 51 => ⟨S1x8192x1024, .f32⟩
  | 52 => ⟨S1x8192x1024, .f32⟩
  | 53 => ⟨S_, .f32⟩
  | 54 => ⟨S1024, .f32⟩
  | 55 => ⟨S1x8192x1024, .f32⟩
  | 56 => ⟨S_, .f32⟩
  | 57 => ⟨S1x8192, .f32⟩
  | 58 => ⟨S1x8192x1, .f32⟩
  | 59 => ⟨S1x8192x1024, .f32⟩
  | 60 => ⟨S1x8192x1024, .f32⟩
  | 61 => ⟨S1x8192x1, .f32⟩
  | 62 => ⟨S_, .f32⟩
  | 63 => ⟨S1x8192x1, .f32⟩
  | 64 => ⟨S1x8192x1, .f32⟩
  | 65 => ⟨S_, .f32⟩
  | 66 => ⟨S8192, .f32⟩
  | 67 => ⟨S1x8192, .f32⟩
  | 68 => ⟨S1x8192x1024, .f32⟩
  | 69 => ⟨S1x8192x1024, .f32⟩
  | 70 => ⟨S1x8192x1024, .f32⟩
  | 71 => ⟨S1x8192x1024, .f32⟩
  | 72 => ⟨S1x8192x1024, .f32⟩
  | 73 => ⟨S1x1024, .f32⟩
  | 74 => ⟨S_, .f32⟩
  | 75 => ⟨S1x1x1024, .f32⟩
  | 76 => ⟨S1x1x1024, .f32⟩
  | 77 => ⟨S_, .f32⟩
  | 78 => ⟨S1024, .f32⟩
  | 79 => ⟨S1x1024, .f32⟩
  | 80 => ⟨S_, .f32⟩
  | 81 => ⟨S1x8192x2816, .f32⟩
  | 82 => ⟨S2816x1024, .f32⟩
  | 83 => ⟨S1x8192x1024, .f32⟩
  | 84 => ⟨S1x8192x2816, .f32⟩
  | 85 => ⟨S8192x2816, .f32⟩
  | 86 => ⟨S8192x2816, .f32⟩
  | 87 => ⟨S8192x2816, .f32⟩
  | 88 => ⟨S8192x2816, .f32⟩
  | 89 => ⟨S8192x2816, .f32⟩
  | 90 => ⟨S8192x2816, .f32⟩
  | 91 => ⟨S8192x5632, .f32⟩
  | 92 => ⟨S1x8192x1024, .f32⟩
  | 93 => ⟨S_, .f32⟩
  | 94 => ⟨S1x1024, .f32⟩
  | 95 => ⟨S1024, .f32⟩
  | 96 => ⟨S1x8192x1024, .f32⟩
  | 97 => ⟨S_, .f32⟩
  | 98 => ⟨S1x8192, .f32⟩
  | 99 => ⟨S1x8192x1, .f32⟩
  | 100 => ⟨S_, .f32⟩
  | 101 => ⟨S1x8192x1, .f32⟩
  | 102 => ⟨S1x8192x1, .f32⟩
  | 103 => ⟨S_, .f32⟩
  | 104 => ⟨S1x8192x1, .f32⟩
  | 105 => ⟨S1x8192x1, .f32⟩
  | 106 => ⟨S1x8192x1, .f32⟩
  | 107 => ⟨S1x8192x1, .f32⟩
  | 108 => ⟨S_, .f32⟩
  | 109 => ⟨S1x8192x1, .f32⟩
  | 110 => ⟨S1x8192x1, .f32⟩
  | 111 => ⟨S1x8192x1024, .f32⟩
  | 112 => ⟨S1x8192x1024, .f32⟩
  | 113 => ⟨S1x1x1024, .f32⟩
  | 114 => ⟨S1x8192x1024, .f32⟩
  | 115 => ⟨S1x8192x1024, .f32⟩
  | 116 => ⟨S1x1x1024, .f32⟩
  | 117 => ⟨S_, .f32⟩
  | 118 => ⟨S1x1x1024, .f32⟩
  | 119 => ⟨S1x1x1024, .f32⟩
  | 120 => ⟨S1x8192x1024, .f32⟩
  | 121 => ⟨S1x8192x1024, .f32⟩
  | 122 => ⟨S1x1x1024, .f32⟩
  | 123 => ⟨S1x8192x1024, .f32⟩
  | 124 => ⟨S1x8192x1024, .f32⟩
  | 125 => ⟨S5632x1024, .f32⟩
  | 126 => ⟨S1024x5632, .f32⟩
  | 127 => ⟨S1x8192x5632, .f32⟩
  | _ => ⟨S8192x1024, .f32⟩

abbrev hbmTy0_1 (i : Nat) : BufTy := match i % 128 with
  | 0 => ⟨S1x8192x5632, .f32⟩
  | 1 => ⟨S1x8192x1024, .f32⟩
  | 2 => ⟨S_, .f32⟩
  | 3 => ⟨S1x1024, .f32⟩
  | 4 => ⟨S1x1x1024, .f32⟩
  | 5 => ⟨S_, .f32⟩
  | 6 => ⟨S1024, .f32⟩
  | 7 => ⟨S1x1024, .f32⟩
  | 8 => ⟨S1x8192x1024, .f32⟩
  | 9 => ⟨S_, .f32⟩
  | 10 => ⟨S1x1024, .f32⟩
  | 11 => ⟨S1x1x1024, .f32⟩
  | 12 => ⟨S1x8192x1024, .f32⟩
  | 13 => ⟨S1x8192x1024, .f32⟩
  | 14 => ⟨S_, .f32⟩
  | 15 => ⟨S1024, .f32⟩
  | 16 => ⟨S1x1024, .f32⟩
  | 17 => ⟨S1x8192x1024, .f32⟩
  | 18 => ⟨S_, .f32⟩
  | 19 => ⟨S1x1024, .f32⟩
  | 20 => ⟨S1x1x1024, .f32⟩
  | 21 => ⟨S1x8192x1024, .f32⟩
  | 22 => ⟨S1x8192x1024, .f32⟩
  | 23 => ⟨S_, .f32⟩
  | 24 => ⟨S1024, .f32⟩
  | 25 => ⟨S1x8192x1024, .f32⟩
  | 26 => ⟨S_, .f32⟩
  | 27 => ⟨S1x8192, .f32⟩
  | 28 => ⟨S1x8192x1, .f32⟩
  | 29 => ⟨S1x8192x1024, .f32⟩
  | 30 => ⟨S1x8192x1024, .f32⟩
  | 31 => ⟨S1x8192x1, .f32⟩
  | 32 => ⟨S_, .f32⟩
  | 33 => ⟨S1x8192x1, .f32⟩
  | 34 => ⟨S1x8192x1, .f32⟩
  | 35 => ⟨S_, .f32⟩
  | 36 => ⟨S8192, .f32⟩
  | 37 => ⟨S1x8192, .f32⟩
  | 38 => ⟨S1x8192x1024, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .bf16⟩
  | 48 => ⟨S8192x5632, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_21 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_22 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_23 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_24 : Ref sig .tc := ⟨.hbm, 151, rfl⟩
abbrev main_v115 : Ref sig .tc := ⟨.hbm, 152, rfl⟩
abbrev main_v116 : Ref sig .tc := ⟨.hbm, 153, rfl⟩
abbrev main_cst_25 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_26 : Ref sig .tc := ⟨.hbm, 160, rfl⟩
abbrev main_v122 : Ref sig .tc := ⟨.hbm, 161, rfl⟩
abbrev main_v123 : Ref sig .tc := ⟨.hbm, 162, rfl⟩
abbrev main_cst_27 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩

abbrev nD : Nat := 1
abbrev τ : Topo := Topo.v7x

variable {F : FTy → Type} [FloatOps F]
-- ==== Proof.Loads.lean ====
/- Loads of what a list of stores leaves, rectangle by rectangle. -/
module

public import Idealize.ShloMosaic.Lib.Pipeline.ValueKit
public import Idealize.ShloMosaic.Lib.Pipeline.ReadBack

@[expose] public section

noncomputable section

namespace Cert.Loads

open Idealize.ShloMosaic Idealize.SL.Sem

variable {Val : EltTy → Type} {e : EltTy} {s : Shape} [∀ e, Nonempty (Val e)]

/-- The last store's rectangle reads back what it stored. -/
theorem ld_same (r : Rect s) (w : r.shape.Idx → Val e) (L : List (View.Piece Val s e)) : View.ld (View.canon (⟨r, w⟩ :: L)) r = w :=
  funext fun x => View.canon_cons_emb r w L x

/-- A rectangle that the last store does not meet reads the stores before it. -/
theorem ld_skip {r r' : Rect s} (w : r'.shape.Idx → Val e) (L : List (View.Piece Val s e)) (h : LoadRect.disj r' r.toLoadRect = true) :
    View.ld (View.canon (⟨r', w⟩ :: L)) r = View.ld (View.canon L) r :=
  funext fun x => View.canon_cons_of_not_mem ⟨r', w⟩ L (LoadRect.idx_not_mem_of_disj h x)

/-- What every store leaves at a rectangle, as a covered load of it. -/
theorem ld_writes {sig : _} {κ : _} {sp : _} (v : View sig κ sp s e) (L : List (View.Piece Val s e)) (r : Rect s) :
    View.ld (v.read Val (v.writes Val v.junk L)) r = v.readCov L r.toLoadRect := rfl

/-- The whole rectangle reads everything. -/
theorem ld_whole {o : Fin s.rank → ℕ} (h : ∀ a, o a + s.size a ≤ s.size a) (X : s.Idx → Val e) (ho : ∀ a, o a = 0) : View.ld X (Rect.unit o s.size h) = X := by
  obtain rfl : o = fun _ => 0 := funext ho
  exact View.ld_unit_zero rfl h X

theorem readCov_whole {sig : _} {κ : _} {sp : _} (v : View sig κ sp s e) (L : List (View.Piece Val s e)) {o : Fin s.rank → ℕ} (h : ∀ a, o a + s.size a ≤ s.size a)
    (ho : ∀ a, o a = 0) : v.readCov L (Rect.unit o s.size h).toLoadRect = View.canon L := by
  rw [← ld_writes, View.read_writes_junk_eq_canon, ld_whole h _ ho]

/-- A rectangle of a whole load is a load of the rectangle. -/
theorem ld_readCov {sig : _} {κ : _} {sp : _} (v : View sig κ sp s e) (L : List (View.Piece Val s e)) {o : Fin s.rank → ℕ} (h : ∀ a, o a + s.size a ≤ s.size a)
    (ho : ∀ a, o a = 0) (r : Rect s) : View.ld (v.readCov L (Rect.unit o s.size h).toLoadRect : s.Idx → Val e) r = v.readCov L r.toLoadRect := by
  rw [readCov_whole v L h ho, ← ld_writes, View.read_writes_junk_eq_canon]

end Cert.Loads
-- ==== Proof.Wgrad.Sum.lean ====
/- The product of a layer's inputs, transposed, with its outputs' gradient, as the kernel takes it: four times 2048 rows, 256 columns of the inputs at a time.
   What both weight gradients share. -/
module

public import proofs.«01_k».proof.Proof.Loads
public import Idealize.ShloMosaic.Lib.Pointwise
public import Idealize.ShloMosaic.PureOps.Ideal.Laws

@[expose] public section

noncomputable section

namespace Cert.Wgrad

open Idealize.ShloMosaic Idealize.SL.Sem

abbrev Acc : Shape := ⟨2, ![1408, 1024]⟩
abbrev Ins : Shape := ⟨2, ![2048, 1408]⟩
abbrev Outs : Shape := ⟨2, ![2048, 1024]⟩

/-- One block of rows' share of the product. -/
def share (A : FVec Ideal Ins .bf16) (B : FVec Ideal Outs .bf16) (r : Fin 1408) (k : Fin 1024) : EReal := ∑ t : Fin 2048, A (ix2 t r) * B (ix2 t k)

/-- An array, from its six slabs of rows. -/
theorem six {e : EltTy} (X : Vec Ideal Acc e) (Y : Fin 1408 → Fin 1024 → Elt Ideal e) {h0 h1 h2 h3 h4 h5}
    (e0 : ∀ (r : Fin 256) (k : Fin 1024), (View.ld X (Rect.unit ![0, 0] ![256, 1024] h0) : (⟨2, ![256, 1024]⟩ : Shape).Idx → Elt Ideal e) (ix2 r k) = Y ⟨0 + r.val, by omega⟩ k)
    (e1 : ∀ (r : Fin 256) (k : Fin 1024), (View.ld X (Rect.unit ![256, 0] ![256, 1024] h1) : (⟨2, ![256, 1024]⟩ : Shape).Idx → Elt Ideal e) (ix2 r k) = Y ⟨256 + r.val, by omega⟩ k)
    (e2 : ∀ (r : Fin 256) (k : Fin 1024), (View.ld X (Rect.unit ![512, 0] ![256, 1024] h2) : (⟨2, ![256, 1024]⟩ : Shape).Idx → Elt Ideal e) (ix2 r k) = Y ⟨512 + r.val, by omega⟩ k)
    (e3 : ∀ (r : Fin 256) (k : Fin 1024), (View.ld X (Rect.unit ![768, 0] ![256, 1024] h3) : (⟨2, ![256, 1024]⟩ : Shape).Idx → Elt Ideal e) (ix2 r k) = Y ⟨768 + r.val, by omega⟩ k)
    (e4 : ∀ (r : Fin 256) (k : Fin 1024), (View.ld X (Rect.unit ![1024, 0] ![256, 1024] h4) : (⟨2, ![256, 1024]⟩ : Shape).Idx → Elt Ideal e) (ix2 r k) = Y ⟨1024 + r.val, by omega⟩ k)
    (e5 : ∀ (r : Fin 128) (k : Fin 1024), (View.ld X (Rect.unit ![1280, 0] ![128, 1024] h5) : (⟨2, ![128, 1024]⟩ : Shape).Idx → Elt Ideal e) (ix2 r k) = Y ⟨1280 + r.val, by omega⟩ k)
    (r : Fin 1408) (k : Fin 1024) : X (ix2 r k) = Y r k := by
  have at' : ∀ (o n : ℕ) (hn : r.val - o < n) (ho : o ≤ r.val) (h : ∀ a, (![o, 0] : Fin 2 → ℕ) a + (![n, 1024] : Fin 2 → ℕ) a ≤ Acc.size a),
      X (ix2 r k) = (View.ld X (Rect.unit ![o, 0] ![n, 1024] h) : (⟨2, ![n, 1024]⟩ : Shape).Idx → Elt Ideal e) (ix2 ⟨r.val - o, hn⟩ k) := fun o n hn ho h =>
    congrArg X (funext fun a => Fin.ext (by
      match a with
      | ⟨0, _⟩ => show r.val = o + 1 * (r.val - o); omega
      | ⟨1, _⟩ => show k.val = 0 + 1 * k.val; omega))
  have hr := r.isLt
  by_cases c0 : r.val < 256
  · exact (at' 0 256 (by omega) (by omega) h0).trans ((e0 ⟨r.val - 0, by omega⟩ k).trans (congrArg (Y · k) (Fin.ext (show 0 + (r.val - 0) = r.val by omega))))
  by_cases c1 : r.val < 512
  · exact (at' 256 256 (by omega) (by omega) h1).trans ((e1 ⟨r.val - 256, by omega⟩ k).trans (congrArg (Y · k) (Fin.ext (show 256 + (r.val - 256) = r.val by omega))))
  by_cases c2 : r.val < 768
  · exact (at' 512 256 (by omega) (by omega) h2).trans ((e2 ⟨r.val - 512, by omega⟩ k).trans (congrArg (Y · k) (Fin.ext (show 512 + (r.val - 512) = r.val by omega))))
  by_cases c3 : r.val < 1024
  · exact (at' 768 256 (by omega) (by omega) h3).trans ((e3 ⟨r.val - 768, by omega⟩ k).trans (congrArg (Y · k) (Fin.ext (show 768 + (r.val - 768) = r.val by omega))))
  by_cases c4 : r.val < 1280
  · exact (at' 1024 256 (by omega) (by omega) h4).trans ((e4 ⟨r.val - 1024, by omega⟩ k).trans (congrArg (Y · k) (Fin.ext (show 1024 + (r.val - 1024) = r.val by omega))))
  · exact (at' 1280 128 (by omega) (by omega) h5).trans ((e5 ⟨r.val - 1280, by omega⟩ k).trans (congrArg (Y · k) (Fin.ext (show 1280 + (r.val - 1280) = r.val by omega))))

/-- Four blocks' shares are the whole product. -/
theorem whole (f : ℕ → EReal) :
    ((∑ t : Fin 2048, f t.val) + (∑ t : Fin 2048, f (2048 + t.val)) + (∑ t : Fin 2048, f (4096 + t.val))) + (∑ t : Fin 2048, f (6144 + t.val)) = ∑ t : Fin 8192, f t.val := by
  rw [Fin.sum_univ_eq_sum_range (fun t => f t) 2048, Fin.sum_univ_eq_sum_range (fun t => f (2048 + t)) 2048, Fin.sum_univ_eq_sum_range (fun t => f (4096 + t)) 2048,
    Fin.sum_univ_eq_sum_range (fun t => f (6144 + t)) 2048, Fin.sum_univ_eq_sum_range (fun t => f t) 8192,
    ← Finset.sum_range_add f 2048 2048, ← Finset.sum_range_add f 4096 2048, ← Finset.sum_range_add f 6144 2048]

/-- A term of a product summed over the rows, zero past them. -/
def term (a b : Fin 8192 → EReal) (t : ℕ) : EReal :=
  if h : t < 8192 then a ⟨t, h⟩ * b ⟨t, h⟩ else 0

theorem term_sum (a b : Fin 8192 → EReal) : (∑ s : Fin 8192, term a b s.val) = ∑ s : Fin 8192, a s * b s :=
  Finset.sum_congr rfl fun s _ => by unfold term; rw [dif_pos s.isLt]

end Cert.Wgrad
-- ==== Proof.Wgrad.In.lean ====
/- The weight gradient of the layer's first product: what the kernel leaves in its result. -/
module

public import proofs.«01_k».proof.Proof.Wgrad.Sum
public import proofs.«01_k».proof.Proof.Gen.InGradIdeal.Value

@[expose] public section

set_option maxRecDepth 16384
set_option maxHeartbeats 2000000

noncomputable section

namespace Cert.InGradIdeal.Result

open Cert.Loads Cert.Wgrad Cert.InGradIdeal Cert.InGradIdeal.Gen Idealize.ShloMosaic Idealize.ShloMosaic.TcCoe Idealize.SL.Sem

variable (m : (ℓ : Loc nD τ sig) → Buf (Elt Ideal) ℓ)

/-- The first of a slab's points sets the sum to its share. -/
theorem first (c : Dev nD) (t : Fin cfg0.N) (acc : Vec Ideal S1408x1024 .bf16 × Vec Ideal S1408x1024 .f32) (h0 : t.val % 4 = 0) (r : Fin 1408) (k : Fin 1024) :
    (Value.stAt0 m c t.val t.isLt acc).2 (ix2 r k) = share (iblk m c 0 t) (iblk m c 1 t) r k := by
  rw [Value.stAt0_A m c t acc h0 (by omega) (by omega)]
  refine six (e := .f32) _ (share (iblk m c 0 t) (iblk m c 1 t)) (h0 := inb_S1408x1024_S256x1024_0_0) (h1 := inb_S1408x1024_S256x1024_256_0) (h2 := inb_S1408x1024_S256x1024_512_0)
    (h3 := inb_S1408x1024_S256x1024_768_0) (h4 := inb_S1408x1024_S256x1024_1024_0) (h5 := inb_S1408x1024_S128x1024_1280_0) ?_ ?_ ?_ ?_ ?_ ?_ r k
  all_goals
    intro r k
    frame_open
    rw [ld_writes]
    simp (disch := decide) only [↓ View.readCov_skip, ↓ View.readCov_cons_toLoadRect]
    frame_out
    repeat rw [read_unread_whole]
    repeat rw [Memref.IsWhole.read_unread]
    unfold_payloads
    unfold share
    pointwise
    try rfl

/-- The points between add theirs. -/
theorem next (c : Dev nD) (t : Fin cfg0.N) (acc : Vec Ideal S1408x1024 .bf16 × Vec Ideal S1408x1024 .f32) (h1 : 1 ≤ t.val % 4 ∧ t.val % 4 ≤ 2) (r : Fin 1408) (k : Fin 1024) :
    (Value.stAt0 m c t.val t.isLt acc).2 (ix2 r k) = acc.2 (ix2 r k) + share (iblk m c 0 t) (iblk m c 1 t) r k := by
  rw [Value.stAt0_B m c t acc (by omega) h1 (by omega)]
  refine six (e := .f32) _ (fun r k => acc.2 (ix2 r k) + share (iblk m c 0 t) (iblk m c 1 t) r k) (h0 := inb_S1408x1024_S256x1024_0_0) (h1 := inb_S1408x1024_S256x1024_256_0) (h2 := inb_S1408x1024_S256x1024_512_0)
    (h3 := inb_S1408x1024_S256x1024_768_0) (h4 := inb_S1408x1024_S256x1024_1024_0) (h5 := inb_S1408x1024_S128x1024_1280_0) ?_ ?_ ?_ ?_ ?_ ?_ r k
  all_goals
    intro r k
    frame_open
    rw [ld_writes]
    simp (disch := decide) only [↓ View.readCov_skip, ↓ View.readCov_cons_toLoadRect, ↓ View.readCov_fill]
    frame_out
    repeat rw [read_unread_whole]
    repeat rw [Memref.IsWhole.read_unread]
    unfold_payloads
    unfold share
    pointwise
    try rfl

/-- The last writes the sum out, its own share added. -/
theorem last (c : Dev nD) (t : Fin cfg0.N) (acc : Vec Ideal S1408x1024 .bf16 × Vec Ideal S1408x1024 .f32) (h2 : t.val % 4 = 3) (r : Fin 1408) (k : Fin 1024) :
    (Value.stAt0 m c t.val t.isLt acc).1 (ix2 r k) = acc.2 (ix2 r k) + share (iblk m c 0 t) (iblk m c 1 t) r k := by
  rw [Value.stAt0_C m c t acc (by omega) (by omega) h2]
  refine six (e := .bf16) _ (fun r k => acc.2 (ix2 r k) + share (iblk m c 0 t) (iblk m c 1 t) r k) (h0 := inb_S1408x1024_S256x1024_0_0) (h1 := inb_S1408x1024_S256x1024_256_0) (h2 := inb_S1408x1024_S256x1024_512_0)
    (h3 := inb_S1408x1024_S256x1024_768_0) (h4 := inb_S1408x1024_S256x1024_1024_0) (h5 := inb_S1408x1024_S128x1024_1280_0) ?_ ?_ ?_ ?_ ?_ ?_ r k
  all_goals
    intro r k
    frame_open
    rw [ld_writes]
    simp (disch := decide) only [↓ View.readCov_skip, ↓ View.readCov_cons_toLoadRect, ↓ View.readCov_fill]
    frame_out
    repeat rw [read_unread_whole]
    repeat rw [Memref.IsWhole.read_unread]
    unfold_payloads
    unfold share
    pointwise
    try rfl

/-- Where the blocks lie. -/
theorem place : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The gradient of the layer's hidden values and its inputs, by row and column. -/
def ins (c : Dev nD) (s : Fin 8192) (j : Fin 5632) : EReal := m ((c : Thread nD τ).loc main_arg0) (ix2 s j)
def outs (c : Dev nD) (s : Fin 8192) (k : Fin 1024) : EReal := m ((c : Thread nD τ).loc main_arg1) (ix2 s k)

theorem share_eq (c : Dev nD) (q : Fin 4) (o : Fin 4) (r : Fin 1408) (k : Fin 1024) (t : Fin cfg0.N) (ht : t.val = 4 * q.val + o.val) :
    share (iblk m c 0 t) (iblk m c 1 t) r k = ∑ s : Fin 2048, term (fun s => ins m c s ⟨1408 * q.val + r.val, by omega⟩) (fun s => outs m c s k) (2048 * o.val + s.val) := by
  obtain ⟨e0, e1, e2, e3⟩ := place t
  refine Finset.sum_congr rfl fun s _ => ?_
  unfold term
  rw [dif_pos (by omega)]
  congr 1
  · refine congrArg (m ((c : Thread nD τ).loc main_arg0)) (funext fun a => Fin.ext ?_)
    match a with
    | ⟨0, _⟩ => show win0_0.index t (0 : Fin 2) * 2048 + 1 * s.val = 2048 * o.val + s.val; omega
    | ⟨1, _⟩ => show win0_0.index t (1 : Fin 2) * 1408 + 1 * r.val = 1408 * q.val + r.val; omega
  · refine congrArg (m ((c : Thread nD τ).loc main_arg1)) (funext fun a => Fin.ext ?_)
    match a with
    | ⟨0, _⟩ => show win0_1.index t (0 : Fin 2) * 2048 + 1 * s.val = 2048 * o.val + s.val; omega
    | ⟨1, _⟩ => show win0_1.index t (1 : Fin 2) * 1024 + 1 * k.val = k.val; omega

theorem from_step (c : Dev nD) (n : ℕ) (hn : n < cfg0.N) : ∃ acc, outsAt0 m c n hn = Value.stAt0 m c n hn acc := by
  cases n with
  | zero => exact ⟨_, Value.outsAt0_zero m c hn⟩
  | succ n => exact ⟨_, Value.outsAt0_succ m c n hn⟩

/-- A slab of the result. -/
theorem slab (c : Dev nD) (q : Fin 4) (h : 4 * q.val + 3 < cfg0.N) (r : Fin 1408) (k : Fin 1024) :
    (outsAt0 m c (4 * q.val + 3) h).1 (ix2 r k) = ∑ s : Fin 8192, term (fun s => ins m c s ⟨1408 * q.val + r.val, by omega⟩) (fun s => outs m c s k) s.val := by
  obtain ⟨acc, e⟩ := from_step m c (4 * q.val) (by omega)
  have a0 := first m c ⟨4 * q.val, by omega⟩ acc (by show 4 * q.val % 4 = 0; omega) r k
  have a1 := next m c ⟨4 * q.val + 1, by omega⟩ (outsAt0 m c (4 * q.val) (by omega)) (by show 1 ≤ (4 * q.val + 1) % 4 ∧ (4 * q.val + 1) % 4 ≤ 2; omega) r k
  have a2 := next m c ⟨4 * q.val + 2, by omega⟩ (outsAt0 m c (4 * q.val + 1) (by omega)) (by show 1 ≤ (4 * q.val + 2) % 4 ∧ (4 * q.val + 2) % 4 ≤ 2; omega) r k
  have a3 := last m c ⟨4 * q.val + 3, by omega⟩ (outsAt0 m c (4 * q.val + 2) (by omega)) (by show (4 * q.val + 3) % 4 = 3; omega) r k
  rw [share_eq m c q 0 r k _ (by rfl), ← e] at a0
  rw [share_eq m c q 1 r k _ (by rfl), a0] at a1
  rw [share_eq m c q 2 r k _ (by rfl), show (outsAt0 m c (4 * q.val + 1) (by omega)).2 (ix2 r k) = _ from a1] at a2
  rw [share_eq m c q 3 r k _ (by rfl), show (outsAt0 m c (4 * q.val + 2) (by omega)).2 (ix2 r k) = _ from a2] at a3
  refine (show (outsAt0 m c (4 * q.val + 3) h).1 (ix2 r k) = _ from a3).trans ?_
  rw [← whole]
  simp

/-- What the result ends holding. -/
theorem result (c : Dev nD) (j : Fin 5632) (k : Fin 1024) :
    (Value.G2 m c (ix2 j k) : EReal) = ∑ s : Fin 8192, ins m c s j * outs m c s k := by
  have hq : j.val / 1408 < 4 := by omega
  have hp : Value.pt2Of (ix2 j k) = 4 * (j.val / 1408) + 3 := by
    show 4 * (1 * (j.val / 1408 - 0) + 1 * (k.val / 1024 - 0)) + 3 = _
    omega
  have hN : 4 * (j.val / 1408) + 3 < cfg0.N := lt_of_lt_of_eq (by omega) N_0.symm
  have hl : Value.loc2Of (ix2 j k) = ix2 ⟨j.val % 1408, by omega⟩ k := funext fun a => Fin.ext (by
    match a with
    | ⟨0, _⟩ => rfl
    | ⟨1, _⟩ => show k.val % 1024 = k.val; omega)
  have hj : (⟨1408 * (j.val / 1408) + j.val % 1408, by omega⟩ : Fin 5632) = j := Fin.ext (by show 1408 * (j.val / 1408) + j.val % 1408 = j.val; omega)
  have e : (Value.G2 m c (ix2 j k) : EReal) = ∑ s : Fin 8192, term (fun s => ins m c s j) (fun s => outs m c s k) s.val := by
    unfold Value.G2
    rw [dif_pos (by rw [hp]; exact hN), hl, Value.fold0_congr m c _ _ _ (by omega) hp, ← Value.outsAt0_sweep m c _ hN]
    exact (slab m c ⟨j.val / 1408, hq⟩ hN _ _).trans (by rw [hj])
  exact e.trans (term_sum _ _)

end Cert.InGradIdeal.Result
-- ==== Proof.Wgrad.Out.lean ====
/- The weight gradient of the layer's second product: what the kernel leaves in its result. -/
module

public import proofs.«01_k».proof.Proof.Wgrad.Sum
public import proofs.«01_k».proof.Proof.Gen.OutGradIdeal.Value

@[expose] public section

set_option maxRecDepth 16384
set_option maxHeartbeats 2000000

noncomputable section

namespace Cert.OutGradIdeal.Result

open Cert.Loads Cert.Wgrad Cert.OutGradIdeal Cert.OutGradIdeal.Gen Idealize.ShloMosaic Idealize.ShloMosaic.TcCoe Idealize.SL.Sem

variable (m : (ℓ : Loc nD τ sig) → Buf (Elt Ideal) ℓ)

/-- The first of a slab's points sets the sum to its share. -/
theorem first (c : Dev nD) (t : Fin cfg0.N) (acc : Vec Ideal S1408x1024 .bf16 × Vec Ideal S1408x1024 .f32) (h0 : t.val % 4 = 0) (r : Fin 1408) (k : Fin 1024) :
    (Value.stAt0 m c t.val t.isLt acc).2 (ix2 r k) = share (iblk m c 0 t) (iblk m c 1 t) r k := by
  rw [Value.stAt0_A m c t acc h0 (by omega) (by omega)]
  refine six (e := .f32) _ (share (iblk m c 0 t) (iblk m c 1 t)) (h0 := inb_S1408x1024_S256x1024_0_0) (h1 := inb_S1408x1024_S256x1024_256_0) (h2 := inb_S1408x1024_S256x1024_512_0)
    (h3 := inb_S1408x1024_S256x1024_768_0) (h4 := inb_S1408x1024_S256x1024_1024_0) (h5 := inb_S1408x1024_S128x1024_1280_0) ?_ ?_ ?_ ?_ ?_ ?_ r k
  all_goals
    intro r k
    frame_open
    rw [ld_writes]
    simp (disch := decide) only [↓ View.readCov_skip, ↓ View.readCov_cons_toLoadRect]
    frame_out
    repeat rw [read_unread_whole]
    repeat rw [Memref.IsWhole.read_unread]
    unfold_payloads
    unfold share
    pointwise
    try rfl

/-- The points between add theirs. -/
theorem next (c : Dev nD) (t : Fin cfg0.N) (acc : Vec Ideal S1408x1024 .bf16 × Vec Ideal S1408x1024 .f32) (h1 : 1 ≤ t.val % 4 ∧ t.val % 4 ≤ 2) (r : Fin 1408) (k : Fin 1024) :
    (Value.stAt0 m c t.val t.isLt acc).2 (ix2 r k) = acc.2 (ix2 r k) + share (iblk m c 0 t) (iblk m c 1 t) r k := by
  rw [Value.stAt0_B m c t acc (by omega) h1 (by omega)]
  refine six (e := .f32) _ (fun r k => acc.2 (ix2 r k) + share (iblk m c 0 t) (iblk m c 1 t) r k) (h0 := inb_S1408x1024_S256x1024_0_0) (h1 := inb_S1408x1024_S256x1024_256_0) (h2 := inb_S1408x1024_S256x1024_512_0)
    (h3 := inb_S1408x1024_S256x1024_768_0) (h4 := inb_S1408x1024_S256x1024_1024_0) (h5 := inb_S1408x1024_S128x1024_1280_0) ?_ ?_ ?_ ?_ ?_ ?_ r k
  all_goals
    intro r k
    frame_open
    rw [ld_writes]
    simp (disch := decide) only [↓ View.readCov_skip, ↓ View.readCov_cons_toLoadRect, ↓ View.readCov_fill]
    frame_out
    repeat rw [read_unread_whole]
    repeat rw [Memref.IsWhole.read_unread]
    unfold_payloads
    unfold share
    pointwise
    try rfl

/-- The last writes the sum out, its own share added. -/
theorem last (c : Dev nD) (t : Fin cfg0.N) (acc : Vec Ideal S1408x1024 .bf16 × Vec Ideal S1408x1024 .f32) (h2 : t.val % 4 = 3) (r : Fin 1408) (k : Fin 1024) :
    (Value.stAt0 m c t.val t.isLt acc).1 (ix2 r k) = acc.2 (ix2 r k) + share (iblk m c 0 t) (iblk m c 1 t) r k := by
  rw [Value.stAt0_C m c t acc (by omega) (by omega) h2]
  refine six (e := .bf16) _ (fun r k => acc.2 (ix2 r k) + share (iblk m c 0 t) (iblk m c 1 t) r k) (h0 := inb_S1408x1024_S256x1024_0_0) (h1 := inb_S1408x1024_S256x1024_256_0) (h2 := inb_S1408x1024_S256x1024_512_0)
    (h3 := inb_S1408x1024_S256x1024_768_0) (h4 := inb_S1408x1024_S256x1024_1024_0) (h5 := inb_S1408x1024_S128x1024_1280_0) ?_ ?_ ?_ ?_ ?_ ?_ r k
  all_goals
    intro r k
    frame_open
    rw [ld_writes]
    simp (disch := decide) only [↓ View.readCov_skip, ↓ View.readCov_cons_toLoadRect, ↓ View.readCov_fill]
    frame_out
    repeat rw [read_unread_whole]
    repeat rw [Memref.IsWhole.read_unread]
    unfold_payloads
    unfold share
    pointwise
    try rfl

/-- Where the blocks lie. -/
theorem place : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- The layer's hidden values and the gradient of its result, by row and column. -/
def ins (c : Dev nD) (s : Fin 8192) (j : Fin 2816) : EReal := m ((c : Thread nD τ).loc main_arg0) (ix2 s j)
def outs (c : Dev nD) (s : Fin 8192) (k : Fin 1024) : EReal := m ((c : Thread nD τ).loc main_arg1) (ix2 s k)

theorem share_eq (c : Dev nD) (q : Fin 2) (o : Fin 4) (r : Fin 1408) (k : Fin 1024) (t : Fin cfg0.N) (ht : t.val = 4 * q.val + o.val) :
    share (iblk m c 0 t) (iblk m c 1 t) r k = ∑ s : Fin 2048, term (fun s => ins m c s ⟨1408 * q.val + r.val, by omega⟩) (fun s => outs m c s k) (2048 * o.val + s.val) := by
  obtain ⟨e0, e1, e2, e3⟩ := place t
  refine Finset.sum_congr rfl fun s _ => ?_
  unfold term
  rw [dif_pos (by omega)]
  congr 1
  · refine congrArg (m ((c : Thread nD τ).loc main_arg0)) (funext fun a => Fin.ext ?_)
    match a with
    | ⟨0, _⟩ => show win0_0.index t (0 : Fin 2) * 2048 + 1 * s.val = 2048 * o.val + s.val; omega
    | ⟨1, _⟩ => show win0_0.index t (1 : Fin 2) * 1408 + 1 * r.val = 1408 * q.val + r.val; omega
  · refine congrArg (m ((c : Thread nD τ).loc main_arg1)) (funext fun a => Fin.ext ?_)
    match a with
    | ⟨0, _⟩ => show win0_1.index t (0 : Fin 2) * 2048 + 1 * s.val = 2048 * o.val + s.val; omega
    | ⟨1, _⟩ => show win0_1.index t (1 : Fin 2) * 1024 + 1 * k.val = k.val; omega

theorem from_step (c : Dev nD) (n : ℕ) (hn : n < cfg0.N) : ∃ acc, outsAt0 m c n hn = Value.stAt0 m c n hn acc := by
  cases n with
  | zero => exact ⟨_, Value.outsAt0_zero m c hn⟩
  | succ n => exact ⟨_, Value.outsAt0_succ m c n hn⟩

/-- A slab of the result. -/
theorem slab (c : Dev nD) (q : Fin 2) (h : 4 * q.val + 3 < cfg0.N) (r : Fin 1408) (k : Fin 1024) :
    (outsAt0 m c (4 * q.val + 3) h).1 (ix2 r k) = ∑ s : Fin 8192, term (fun s => ins m c s ⟨1408 * q.val + r.val, by omega⟩) (fun s => outs m c s k) s.val := by
  obtain ⟨acc, e⟩ := from_step m c (4 * q.val) (by omega)
  have a0 := first m c ⟨4 * q.val, by omega⟩ acc (by show 4 * q.val % 4 = 0; omega) r k
  have a1 := next m c ⟨4 * q.val + 1, by omega⟩ (outsAt0 m c (4 * q.val) (by omega)) (by show 1 ≤ (4 * q.val + 1) % 4 ∧ (4 * q.val + 1) % 4 ≤ 2; omega) r k
  have a2 := next m c ⟨4 * q.val + 2, by omega⟩ (outsAt0 m c (4 * q.val + 1) (by omega)) (by show 1 ≤ (4 * q.val + 2) % 4 ∧ (4 * q.val + 2) % 4 ≤ 2; omega) r k
  have a3 := last m c ⟨4 * q.val + 3, by omega⟩ (outsAt0 m c (4 * q.val + 2) (by omega)) (by show (4 * q.val + 3) % 4 = 3; omega) r k
  rw [share_eq m c q 0 r k _ (by rfl), ← e] at a0
  rw [share_eq m c q 1 r k _ (by rfl), a0] at a1
  rw [share_eq m c q 2 r k _ (by rfl), show (outsAt0 m c (4 * q.val + 1) (by omega)).2 (ix2 r k) = _ from a1] at a2
  rw [share_eq m c q 3 r k _ (by rfl), show (outsAt0 m c (4 * q.val + 2) (by omega)).2 (ix2 r k) = _ from a2] at a3
  refine (show (outsAt0 m c (4 * q.val + 3) h).1 (ix2 r k) = _ from a3).trans ?_
  rw [← whole]
  simp

/-- What the result ends holding. -/
theorem result (c : Dev nD) (j : Fin 2816) (k : Fin 1024) :
    (Value.G2 m c (ix2 j k) : EReal) = ∑ s : Fin 8192, ins m c s j * outs m c s k := by
  have hq : j.val / 1408 < 2 := by omega
  have hp : Value.pt2Of (ix2 j k) = 4 * (j.val / 1408) + 3 := by
    show 4 * (1 * (j.val / 1408 - 0) + 1 * (k.val / 1024 - 0)) + 3 = _
    omega
  have hN : 4 * (j.val / 1408) + 3 < cfg0.N := lt_of_lt_of_eq (by omega) N_0.symm
  have hl : Value.loc2Of (ix2 j k) = ix2 ⟨j.val % 1408, by omega⟩ k := funext fun a => Fin.ext (by
    match a with
    | ⟨0, _⟩ => rfl
    | ⟨1, _⟩ => show k.val % 1024 = k.val; omega)
  have hj : (⟨1408 * (j.val / 1408) + j.val % 1408, by omega⟩ : Fin 2816) = j := Fin.ext (by show 1408 * (j.val / 1408) + j.val % 1408 = j.val; omega)
  have e : (Value.G2 m c (ix2 j k) : EReal) = ∑ s : Fin 8192, term (fun s => ins m c s j) (fun s => outs m c s k) s.val := by
    unfold Value.G2
    rw [dif_pos (by rw [hp]; exact hN), hl, Value.fold0_congr m c _ _ _ (by omega) hp, ← Value.outsAt0_sweep m c _ hN]
    exact (slab m c ⟨j.val / 1408, hq⟩ hN _ _).trans (by rw [hj])
  exact e.trans (term_sum _ _)

end Cert.OutGradIdeal.Result
-- ==== Proof.Wgrad.Agree.lean ====
/- The weight gradients of the layer's two products: the kernels and the references end with the same sums. -/
module

public import proofs.«01_k».proof.Defs
public import proofs.«01_k».proof.Proof.Wgrad.In
public import proofs.«01_k».proof.Proof.Wgrad.Out
public import proofs.«01_k».proof.Proof.Gen.InReferenceIdeal.Read
public import proofs.«01_k».proof.Proof.Gen.OutReferenceIdeal.Read

@[expose] public section

set_option maxRecDepth 16384

noncomputable section

namespace Cert.Wgrad

open Idealize.ShloMosaic Idealize.ShloMosaic.TcCoe Idealize.SL.Sem

/-- The first product's reference, at a row and a column. -/
theorem in_reads (x : (⟨InReferenceIdeal.S8192x5632, .bf16⟩ : BufTy).Contents (Elt Ideal)) (y : (⟨InReferenceIdeal.S8192x1024, .bf16⟩ : BufTy).Contents (Elt Ideal))
    (j : Fin 5632) (k : Fin 1024) :
    (InReferenceIdeal.Read.val_main_v5 (F := Ideal) x y (ix2 j k) : EReal) = ∑ s : Fin 8192, (x (ix2 s j) : EReal) * y (ix2 s k) := by
  rw [InReferenceIdeal.Read.val_main_v5_apply, InReferenceIdeal.Read.val_main_v4_apply, InReferenceIdeal.Read.val_main_v3_apply]
  refine (InReferenceIdeal.Read.val_main_v2_apply x y _).trans (Finset.sum_congr rfl fun s _ => ?_)
  exact congrArg₂ (fun a b : EReal => a * b)
    (congrArg x (funext fun a => by match a with | ⟨0, _⟩ => rfl | ⟨1, _⟩ => rfl))
    (congrArg y (funext fun a => by match a with | ⟨0, _⟩ => rfl | ⟨1, _⟩ => rfl))

/-- The second's; its operands stand the other way round. -/
theorem out_reads (x : (⟨OutReferenceIdeal.S8192x2816, .bf16⟩ : BufTy).Contents (Elt Ideal)) (y : (⟨OutReferenceIdeal.S8192x1024, .bf16⟩ : BufTy).Contents (Elt Ideal))
    (j : Fin 2816) (k : Fin 1024) :
    (OutReferenceIdeal.Read.val_main_v4 (F := Ideal) x y (ix2 j k) : EReal) = ∑ s : Fin 8192, (x (ix2 s j) : EReal) * y (ix2 s k) := by
  rw [OutReferenceIdeal.Read.val_main_v4_apply, OutReferenceIdeal.Read.val_main_v3_apply]
  refine (OutReferenceIdeal.Read.val_main_v2_apply x y _).trans (Finset.sum_congr rfl fun s _ => ?_)
  refine Eq.trans ?_ (mul_comm (y (ix2 s k) : EReal) (x (ix2 s j)))
  exact congrArg₂ (fun a b : EReal => a * b)
    (congrArg y (funext fun a => by match a with | ⟨0, _⟩ => rfl | ⟨1, _⟩ => rfl))
    (congrArg x (funext fun a => by match a with | ⟨0, _⟩ => rfl | ⟨1, _⟩ => rfl))

theorem in_agrees [InGradIdeal.Facts] [InReferenceIdeal.Facts] : algebraic_InGradIdeal_InReferenceIdeal := by
  intro m g m' g' _ h
  refine ⟨fun c => InGradIdeal.Value.G2 m c, InGradIdeal.Value.run m g, ?_⟩
  refine (θ_run _ _ _).mono (fun r hr c => ⟨(hr c).1.trans ?_, (hr c).2⟩) (InReferenceIdeal.Value.run m' g')
  rw [InReferenceIdeal.Read.val_main_v5_eq, (h c).1, (h c).2]
  funext i
  obtain ⟨j, k, rfl⟩ : ∃ (j : Fin 5632) (k : Fin 1024), i = ix2 j k := ⟨i 0, i 1, funext fun a => by match a with | ⟨0, _⟩ => rfl | ⟨1, _⟩ => rfl⟩
  exact (in_reads _ _ j k).trans (InGradIdeal.Result.result m c j k).symm

theorem out_agrees [OutGradIdeal.Facts] [OutReferenceIdeal.Facts] : algebraic_OutGradIdeal_OutReferenceIdeal := by
  intro m g m' g' _ h
  refine ⟨fun c => OutGradIdeal.Value.G2 m c, OutGradIdeal.Value.run m g, ?_⟩
  refine (θ_run _ _ _).mono (fun r hr c => ⟨(hr c).1.trans ?_, (hr c).2⟩) (OutReferenceIdeal.Value.run m' g')
  rw [OutReferenceIdeal.Read.val_main_v4_eq, (h c).1, (h c).2]
  funext i
  obtain ⟨j, k, rfl⟩ : ∃ (j : Fin 2816) (k : Fin 1024), i = ix2 j k := ⟨i 0, i 1, funext fun a => by match a with | ⟨0, _⟩ => rfl | ⟨1, _⟩ => rfl⟩
  exact (out_reads _ _ j k).trans (OutGradIdeal.Result.result m c j k).symm

end Cert.Wgrad
-- ==== Proof.Gmlp.Block.lean ====
/- One block of 128 rows of the gating MLP's backward body, as functions of what the body loads for it: the words the body computes, named once for every block
   and every pair of heads. `Gmlp.Body` shows that what the body stores are these words. -/
module

public import proofs.«01_k».proof.Proof.Gen.KernelIdeal.Value

@[expose] public section

noncomputable section

namespace Cert.KernelIdeal.Block

open Cert.KernelIdeal Cert.KernelIdeal.Gen Idealize.ShloMosaic Idealize.SL.Sem

variable {F : FTy → Type} [FloatOps F] [Named F]

theorem rows_z (j : Fin 8) : ∀ a, (![128 * j.val, 0] : Fin 2 → ℕ) a + S128x1024.size a ≤ S1024x1024.size a := by revert j; decide
theorem rows_d (j : Fin 8) : ∀ a, (![128 * j.val, 0] : Fin 2 → ℕ) a + S128x512.size a ≤ S1024x512.size a := by revert j; decide
theorem head_w (g : Fin 8) : ∀ a, (![g.val, 0, 0] : Fin 3 → ℕ) a + S1x128x128.size a ≤ S8x128x128.size a := by revert g; decide
theorem head_b (g : Fin 8) : ∀ a, (![0, g.val] : Fin 2 → ℕ) a + S128x1.size a ≤ S128x8.size a := by revert g; decide
theorem pair_s (p : Fin 4) : S128x512.Slices ![0, 128 * p.val] S128x128 := by revert p; decide
theorem pair_a (p : Fin 4) : ∀ a, (![0, 128 * p.val] : Fin 2 → ℕ) a + S128x128.size a ≤ S128x512.size a := by revert p; decide

/-- Head `b` of pair `p`. -/
def hd (p : Fin 4) (b : Fin 2) : Fin 8 := ⟨2 * p.val + b.val, by omega⟩

/-- Block `j`'s rows of the gates. -/
def zrows (X : Vec F S1024x1024 .bf16) (j : Fin 8) : Vec F S128x1024 .bf16 := View.ld X (Rect.unit ![128 * j.val, 0] S128x1024.size (rows_z j))
/-- Block `j`'s rows of the output's gradient. -/
def drows (X : Vec F S1024x512 .bf16) (j : Fin 8) : Vec F S128x512 .bf16 := View.ld X (Rect.unit ![128 * j.val, 0] S128x512.size (rows_d j))

def low : IVec S128x128 1 := cmpi .slt (iota .tc S128x128 32 [1] iota_S128x128_d1_w32) (broadcast S128x128 64#32)
def causal : IVec S128x128 1 := cmpi .sle (iota .tc S128x128 32 [1] iota_S128x128_d1_w32) (iota .tc S128x128 32 [0] iota_S128x128_d0_w32)

/-- A number at every index of a block of gates. -/
def num (w : BitVec 32) : FVec F S128x1024 .f32 := broadcast S128x1024 (Scalar.ofBits .f32 w)
def cube : FVec F S128x1024 .f32 := broadcast S128x1024 (Named.named κ "gelu_cubic" 0x3D372713#32)
def slope : FVec F S128x1024 .f32 := broadcast S128x1024 (Named.named κ "gelu_cubic_slope" 0x3E095D4F#32)

section gates
variable (zb : Vec F S128x1024 .bf16)

def z : FVec F S128x1024 .f32 := extf .f32 zb bitsLt_bf16_f32
def th : FVec F S128x1024 .f32 :=
  tanh (mulf (num 0x3F4C422A#32) (addf (z zb) (mulf (mulf (mulf cube (z zb)) (z zb)) (z zb))))
def ge : FVec F S128x1024 .f32 := mulf (mulf (num 0x3F000000#32) (z zb)) (addf (num 0x3F800000#32) (th zb))
def gegrad : FVec F S128x1024 .f32 :=
  addf (mulf (num 0x3F000000#32) (addf (num 0x3F800000#32) (th zb)))
    (mulf (mulf (mulf (num 0x3F000000#32) (z zb)) (subf (num 0x3F800000#32) (mulf (th zb) (th zb))))
      (mulf (num 0x3F4C422A#32) (addf (num 0x3F800000#32) (mulf (mulf slope (z zb)) (z zb)))))
def u : FVec F S128x512 .f32 := extractStridedSlice S128x512 ![0, 0] (ge zb) slices_S128x1024_o0_0_S128x512
def v : FVec F S128x512 .f32 := extractStridedSlice S128x512 ![0, 512] (ge zb) slices_S128x1024_o0_512_S128x512

/-- A row's mean. -/
def mean (x : FVec F S128x512 .f32) : FVec F S128x1 .f32 :=
  divf (shapeCast S128x1 (multiReduction .add [1] S128 x 0x00000000#32 reduces_S128x512_S128 (.inl rfl) rfl) shapeCasts_S128_S128x1)
    (broadcast S128x1 (Scalar.ofBits .f32 0x44000000#32))
/-- One number a row, along the row. -/
def along (x : FVec F S128x1 .f32) : FVec F S128x512 .f32 := broadcastTo S128x512 x broadcasts_S128x1_S128x512
/-- One row, in every row. -/
def down (x : Vec F S1x512 .f32) : FVec F S128x512 .f32 := broadcastTo S128x512 x broadcasts_S1x512_S128x512

def xc : FVec F S128x512 .f32 := subf (v zb) (along (mean (v zb)))
def rstd : FVec F S128x1 .f32 := rsqrt (addf (mean (mulf (xc zb) (xc zb))) (broadcast S128x1 (Scalar.ofBits .f32 0x358637BD#32)))
def xh : FVec F S128x512 .f32 := mulf (xc zb) (along (rstd zb))
def vb (lg lb : Vec F S1x512 .f32) : FVec F S128x512 .bf16 := truncf .bf16 (addf (mulf (xh zb) (down lg)) (down lb)) bitsLt_bf16_f32
def xp (lg lb : Vec F S1x512 .f32) (p : Fin 4) : FVec F S128x128 .bf16 := extractStridedSlice S128x128 ![0, 128 * p.val] (vb zb lg lb) (pair_s p)

end gates

def zero : FVec F S128x128 .f32 := constant S128x128 .f32 0x00000000#32
/-- Head `g`'s causal weights. -/
def wg (W : Fin 8 → Vec F S1x128x128 .bf16) (g : Fin 8) : FVec F S128x128 .bf16 := shapeCast S128x128 (W g) shapeCasts_S1x128x128_S128x128
/-- Head `g`'s biases, along the row. -/
def bg (bst : Vec F S128x8 .f32) (g : Fin 8) : FVec F S128x128 .f32 :=
  broadcastTo S128x128 (shapeCast S128x1 (View.ld bst (Rect.unit ![0, g.val] S128x1.size (head_b g)) : Vec F S128x1 .f32) shapeCasts_S128x1_S128x1) broadcasts_S128x1_S128x128

section block
variable (zb : Vec F S128x1024 .bf16) (db : Vec F S128x512 .bf16) (lg lb : Vec F S1x512 .f32) (wc : Fin 8 → Vec F S1x128x128 .bf16) (bst : Vec F S128x8 .f32)

def dp (p : Fin 4) : FVec F S128x128 .f32 := extractStridedSlice S128x128 ![0, 128 * p.val] (extf .f32 db bitsLt_bf16_f32) (pair_s p)
/-- The gates' linear half, pair `p`. -/
def sg (p : Fin 4) (b : Fin 2) : FVec F S128x128 .f32 :=
  addf (matmul dot_S128x128_S128x128_S128x128_1_0_0_1_n_n none (wg wc (hd p b)) (xp zb lg lb p) zero) (bg bst (hd p b))
def du (p : Fin 4) : FVec F S128x128 .f32 := mulf (dp db p) (select low (sg zb lg lb wc bst p 0) (sg zb lg lb wc bst p 1))
def dsp (p : Fin 4) : FVec F S128x128 .f32 := mulf (dp db p) (extractStridedSlice S128x128 ![0, 128 * p.val] (u zb) (pair_s p))
/-- The lanes of head `b` of pair `p`, zero elsewhere. -/
def half (p : Fin 4) (b : Fin 2) : FVec F S128x128 .bf16 :=
  truncf .bf16 (match b with
    | 0 => select low (dsp zb db p) (broadcast S128x128 (Scalar.ofBits .f32 0x00000000#32))
    | 1 => select low (broadcast S128x128 (Scalar.ofBits .f32 0x00000000#32)) (dsp zb db p)) bitsLt_bf16_f32
def dw (p : Fin 4) (b : Fin 2) : FVec F S128x128 .f32 :=
  matmul dot_S128x128_S128x128_S128x128_1_1_0_0_n_n none (half zb db p b) (xp zb lg lb p) zero
def dv (p : Fin 4) : FVec F S128x128 .f32 :=
  addf (matmul dot_S128x128_S128x128_S128x128_0_0_1_1_n_n none (wg wc (hd p 0)) (half zb db p 0) zero)
    (matmul dot_S128x128_S128x128_S128x128_0_0_1_1_n_n none (wg wc (hd p 1)) (half zb db p 1) zero)
def dvln : FVec F S128x512 .f32 :=
  concatenate S128x512 1 [⟨S128x128, dv zb db wc 0⟩, ⟨S128x128, dv zb db wc 1⟩, ⟨S128x128, dv zb db wc 2⟩, ⟨S128x128, dv zb db wc 3⟩]
    concatenates_S128x128_S128x128_S128x128_S128x128_S128x512_d1
/-- A block's sum down its columns. -/
def colsum (x : FVec F S128x512 .f32) : FVec F S1x512 .f32 :=
  shapeCast S1x512 (multiReduction .add [0] S512 x 0x00000000#32 reduces_S128x512_S512 (.inl rfl) rfl) shapeCasts_S512_S1x512
def dlg : FVec F S1x512 .f32 := colsum (mulf (dvln zb db wc) (xh zb))
def dlb : FVec F S1x512 .f32 := colsum (dvln zb db wc)
def dxh : FVec F S128x512 .f32 := mulf (dvln zb db wc) (down lg)
def dvg : FVec F S128x512 .f32 :=
  mulf (along (rstd zb)) (subf (subf (dxh zb db lg wc) (along (mean (dxh zb db lg wc))))
    (mulf (xh zb) (along (mean (mulf (dxh zb db lg wc) (xh zb))))))
def dge : FVec F S128x1024 .f32 :=
  concatenate S128x1024 1 [⟨S128x128, du zb db lg lb wc bst 0⟩, ⟨S128x128, du zb db lg lb wc bst 1⟩, ⟨S128x128, du zb db lg lb wc bst 2⟩,
      ⟨S128x128, du zb db lg lb wc bst 3⟩, ⟨S128x512, dvg zb db lg wc⟩]
    concatenates_S128x128_S128x128_S128x128_S128x128_S128x512_S128x1024_d1
def dz : FVec F S128x1024 .bf16 := truncf .bf16 (mulf (dge zb db lg lb wc bst) (gegrad zb)) bitsLt_bf16_f32

end block

/-- Eight steps from `a`, in the blocks' order. -/
def chain {α : Type} (a : α) (f : Fin 8 → α → α) : α := f 7 (f 6 (f 5 (f 4 (f 3 (f 2 (f 1 (f 0 a)))))))

/-- Head `g`'s page of a stack of heads. -/
def page {e : EltTy} (X : Vec F S8x128x128 e) (g : Fin 8) : Vec F S1x128x128 e := View.ld X (Rect.unit ![g.val, 0, 0] S1x128x128.size (head_w g))
/-- Pair `p`'s lanes of the biases' sum. -/
def lanes (X : Vec F S128x512 .f32) (p : Fin 4) : Vec F S128x128 .f32 := View.ld X (Rect.unit ![0, 128 * p.val] S128x128.size (pair_a p))
/-- Block `j`'s rows of the gates' gradient. -/
def zpart (X : Vec F S1024x1024 .bf16) (j : Fin 8) : Vec F S128x1024 .bf16 := View.ld X (Rect.unit ![128 * j.val, 0] S128x1024.size (rows_z j))

/-- A page of weights, zero above the diagonal. -/
def masked (x : Vec F S1x128x128 .f32) : FVec F S128x128 .f32 :=
  select causal (shapeCast S128x128 x shapeCasts_S1x128x128_S128x128) (broadcast S128x128 (Scalar.ofBits .f32 0x00000000#32))
/-- The causal weights as the body keeps them. -/
def kept (ws : Vec F S8x128x128 .f32) (g : Fin 8) : Vec F S1x128x128 .bf16 :=
  shapeCast S1x128x128 (truncf .bf16 (masked (page ws g)) bitsLt_bf16_f32) shapeCasts_S128x128_S1x128x128
/-- The weights' gradient, masked. -/
def trimmed (x : Vec F S1x128x128 .f32) : FVec F S1x128x128 .f32 := shapeCast S1x128x128 (masked x) shapeCasts_S128x128_S1x128x128

/-- What a grid point's body carries to the next. -/
abbrev St (F : FTy → Type) [FloatOps F] [Named F] : Type :=
  Vec F S1024x1024 .bf16 × Vec F S8x128x128 .f32 × Vec F S8x128 .f32 × Vec F S1x512 .f32 × Vec F S1x512 .f32 × Vec F S8x128x128 .bf16 × Vec F S128x512 .f32

def head (g : Fin 8) : Fin 4 × Fin 2 := (⟨g.val / 2, by omega⟩, ⟨g.val % 2, by omega⟩)

/-- A grid point's eight blocks: what the body leaves, from the rows it reads, the causal weights it holds and what it adds to. `fin` is what becomes of the
    weights' gradient at the end of the point. -/
structure Pass (Z : Vec F S1024x1024 .bf16) (D : Vec F S1024x512 .bf16) (lg lb : Vec F S1x512 .f32) (bst : Vec F S128x8 .f32) (W : Fin 8 → Vec F S1x128x128 .bf16)
    (w0 : Fin 8 → Vec F S1x128x128 .f32) (g0 b0 : Vec F S1x512 .f32) (a0 : Fin 4 → Vec F S128x128 .f32)
    (fin : Vec F S1x128x128 .f32 → Vec F S1x128x128 .f32) (s : St F) : Prop where
  z : ∀ j, zpart s.1 j = dz (zrows Z j) (drows D j) lg lb W bst
  w : ∀ g, page s.2.1 g = fin (chain (w0 g) fun j x => shapeCast S1x128x128
      (addf (shapeCast S128x128 x shapeCasts_S1x128x128_S128x128) (dw (zrows Z j) (drows D j) lg lb (head g).1 (head g).2)) shapeCasts_S128x128_S1x128x128)
  lg : s.2.2.2.1 = chain g0 fun j x => addf (shapeCast S1x512 x shapeCasts_S1x512_S1x512) (dlg (zrows Z j) (drows D j) W)
  lb : s.2.2.2.2.1 = chain b0 fun j x => addf (shapeCast S1x512 x shapeCasts_S1x512_S1x512) (dlb (zrows Z j) (drows D j) W)
  a : ∀ p, lanes s.2.2.2.2.2.2 p = chain (a0 p) fun j x =>
      shapeCast S128x128 (addf x (dsp (zrows Z j) (drows D j) p)) shapeCasts_S128x128_S128x128
  wc : ∀ g, page s.2.2.2.2.2.1 g = W g

end Cert.KernelIdeal.Block
-- ==== Proof.Gmlp.Model.lean ====
/- The gating MLP's backward pass over the real numbers: one block of 128 rows, then the whole. -/
module

public import Idealize.ShloMosaic.Lib.Pointwise
public import Mathlib.Analysis.SpecialFunctions.Trigonometric.DerivHyp

@[expose] public section

noncomputable section

namespace Cert.Gmlp

/-- The square root of two over pi, as its word has it. -/
def root : ℝ := 13386282 / 2 ^ 24
/-- The number that keeps the variance away from zero, as its word has it. -/
def tiny : ℝ := 8796093 / 2 ^ 43
/-- The coefficient of the cube. -/
def cub : ℝ := 8943 / 200000

def tnh (x : ℝ) : ℝ := Real.tanh (root * (x + cub * x * x * x))
def gelu (x : ℝ) : ℝ := 1 / 2 * x * (1 + tnh x)
def gelud (x : ℝ) : ℝ := 1 / 2 * (1 + tnh x) + 1 / 2 * x * (1 - tnh x * tnh x) * (root * (1 + 3 * cub * x * x))

/-- A column of the linear half and of the normalised half. -/
def lo (k : Fin 512) : Fin 1024 := ⟨k.val, by omega⟩
def hi (k : Fin 512) : Fin 1024 := ⟨512 + k.val, by omega⟩
/-- A column's head, and a head's column. -/
def hh (k : Fin 512) : Fin 8 := ⟨k.val / 64, by omega⟩
def col (h : Fin 8) (c : Fin 64) : Fin 512 := ⟨64 * h.val + c.val, by omega⟩

def mn (f : Fin 512 → ℝ) : ℝ := (∑ k, f k) * (1 / 512)

section block

variable (z : Fin 128 → Fin 1024 → ℝ) (d : Fin 128 → Fin 512 → ℝ) (g b : Fin 512 → ℝ) (w : Fin 8 → Fin 128 → Fin 128 → ℝ) (bs : Fin 8 → Fin 128 → ℝ)

def U (t : Fin 128) (k : Fin 512) : ℝ := gelu (z t (lo k))
def V (t : Fin 128) (k : Fin 512) : ℝ := gelu (z t (hi k))
def XC (t : Fin 128) (k : Fin 512) : ℝ := V z t k - mn (V z t)
def VR (t : Fin 128) : ℝ := mn (fun k => XC z t k * XC z t k) + tiny
def RS (t : Fin 128) : ℝ := (Real.sqrt (VR z t))⁻¹
def XH (t : Fin 128) (k : Fin 512) : ℝ := XC z t k * RS z t
def LN (t : Fin 128) (k : Fin 512) : ℝ := XH z t k * g k + b k
def SP (t : Fin 128) (k : Fin 512) : ℝ := (∑ s, w (hh k) t s * LN z g b s k) + bs (hh k) t
def DU (t : Fin 128) (k : Fin 512) : ℝ := d t k * SP z g b w bs t k
def DS (t : Fin 128) (k : Fin 512) : ℝ := d t k * U z t k
def DW (h : Fin 8) (t s : Fin 128) : ℝ := ∑ c, DS z d t (col h c) * LN z g b s (col h c)
def DV (s : Fin 128) (k : Fin 512) : ℝ := ∑ t, w (hh k) t s * DS z d t k
def DX (t : Fin 128) (k : Fin 512) : ℝ := DV z d w t k * g k
def DG (t : Fin 128) (k : Fin 512) : ℝ :=
  RS z t * (DX z d g w t k - mn (DX z d g w t) - XH z t k * mn (fun k => DX z d g w t k * XH z t k))
def DE (t : Fin 128) (k : Fin 1024) : ℝ :=
  if h : k.val < 512 then DU z d g b w bs t ⟨k.val, h⟩ else DG z d g w t ⟨k.val - 512, by omega⟩
def DZ (t : Fin 128) (k : Fin 1024) : ℝ := DE z d g b w bs t k * gelud (z t k)

end block

theorem mn_sq_nonneg (f : Fin 512 → ℝ) : 0 ≤ mn fun k => f k * f k := by
  unfold mn
  have := Finset.sum_nonneg (s := Finset.univ) fun (k : Fin 512) _ => mul_self_nonneg (f k)
  positivity

theorem VR_pos (z : Fin 128 → Fin 1024 → ℝ) (t : Fin 128) : 0 < VR z t := by
  have := mn_sq_nonneg (XC z t)
  unfold VR tiny
  positivity

/-- A sum of real numbers, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

open Idealize.ShloMosaic

/-- The words of the numbers. -/
theorem word_root : Ideal.ofBits .f32 0x3F4C422A#32 = ((root : ℝ) : EReal) := by
  simp [Ideal.ofBits, Ideal.ieee, -EReal.coe_mul, root]; norm_num
theorem word_tiny : Ideal.ofBits .f32 0x358637BD#32 = ((tiny : ℝ) : EReal) := by
  simp [Ideal.ofBits, Ideal.ieee, -EReal.coe_mul, tiny]; norm_num
theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee, -EReal.coe_mul]
theorem word_512 : Ideal.ofBits .f32 0x44000000#32 = ((512 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem div_512 (x : ℝ) : Ideal.div (x : EReal) ((512 : ℝ) : EReal) = ((x * (1 / 512) : ℝ) : EReal) := by
  rw [Ideal.div_coe (by norm_num), ← EReal.coe_mul]

end Cert.Gmlp
-- ==== Proof.Gmlp.Words.lean ====
/- What the words of `Gmlp.Block` hold when the arrays hold real numbers: the gates, the layer norm, the two halves of the gating and their gradients. -/
module

public import proofs.«01_k».proof.Proof.Gmlp.Block
public import proofs.«01_k».proof.Proof.Gmlp.Model

@[expose] public section

set_option maxRecDepth 16384
set_option maxHeartbeats 1000000

noncomputable section

namespace Cert.KernelIdeal.Block

open Cert.Gmlp Cert.KernelIdeal Cert.KernelIdeal.Gen Idealize.ShloMosaic Idealize.SL.Sem

theorem cube_value : (Named.named (F := Ideal) κ "gelu_cubic" (φ := .f32) 0x3D372713#32 : EReal) = ((cub : ℝ) : EReal) :=
  IdealRules.named_const.ideal_named_scalar _ _ _ _ rfl
theorem slope_value : (Named.named (F := Ideal) κ "gelu_cubic_slope" (φ := .f32) 0x3E095D4F#32 : EReal) = ((3 * cub : ℝ) : EReal) :=
  (IdealRules.named_const.ideal_named_scalar _ _ _ ((26829 / 200000 : ℝ) : EReal) rfl).trans (by unfold cub; norm_num)

variable {zb : Vec Ideal S128x1024 .bf16} {Z : Fin 128 → Fin 1024 → ℝ}

theorem th_real (hz : ∀ t k, (zb (ix2 t k) : EReal) = ((Z t k : ℝ) : EReal)) (t : Fin 128) (k : Fin 1024) :
    (th zb (ix2 t k) : EReal) = ((tnh (Z t k) : ℝ) : EReal) := by
  unfold th z num cube
  pointwise
  rw [hz, cube_value, word_root]
  simp only [← EReal.coe_mul, ← EReal.coe_add, Ideal.tanh_coe]
  rfl

theorem ge_real (hz : ∀ t k, (zb (ix2 t k) : EReal) = ((Z t k : ℝ) : EReal)) (t : Fin 128) (k : Fin 1024) :
    (ge zb (ix2 t k) : EReal) = ((gelu (Z t k) : ℝ) : EReal) := by
  have h := th_real hz t k
  unfold ge z num
  generalize th zb = y at h ⊢
  pointwise
  rw [h, hz, word_half, ← EReal.coe_one]
  simp only [← EReal.coe_mul, ← EReal.coe_add]
  rfl

theorem gegrad_real (hz : ∀ t k, (zb (ix2 t k) : EReal) = ((Z t k : ℝ) : EReal)) (t : Fin 128) (k : Fin 1024) :
    (gegrad zb (ix2 t k) : EReal) = ((gelud (Z t k) : ℝ) : EReal) := by
  have h := th_real hz t k
  unfold gegrad z num slope
  generalize th zb = y at h ⊢
  pointwise
  rw [h, hz, word_half, ← EReal.coe_one, word_root, slope_value]
  simp only [← EReal.coe_mul, ← EReal.coe_add, ← EReal.coe_sub]
  rfl

theorem u_real (hz : ∀ t k, (zb (ix2 t k) : EReal) = ((Z t k : ℝ) : EReal)) (t : Fin 128) (k : Fin 512) :
    (u zb (ix2 t k) : EReal) = ((U Z t k : ℝ) : EReal) := by
  refine Eq.trans ?_ (ge_real hz t (lo k))
  unfold u
  generalize ge zb = y
  pointwise
  first | rfl | exact congrArg y (by funext a; match a with | ⟨0, _⟩ => rfl | ⟨1, _⟩ => (refine Fin.ext ?_; simp [lo]))

theorem v_real (hz : ∀ t k, (zb (ix2 t k) : EReal) = ((Z t k : ℝ) : EReal)) (t : Fin 128) (k : Fin 512) :
    (v zb (ix2 t k) : EReal) = ((V Z t k : ℝ) : EReal) := by
  refine Eq.trans ?_ (ge_real hz t (hi k))
  unfold v
  generalize ge zb = y
  pointwise
  first | rfl | exact congrArg y (by funext a; match a with | ⟨0, _⟩ => rfl | ⟨1, _⟩ => (refine Fin.ext ?_; simp [hi]))

/-- Reals in the rows and columns of an array. -/
abbrev Has {a b : ℕ} (x : (⟨2, ![a, b]⟩ : Shape).Idx → EReal) (X : Fin a → Fin b → ℝ) : Prop := ∀ t k, x (ix2 t k) = ((X t k : ℝ) : EReal)

theorem mean_real {x : FVec Ideal S128x512 .f32} {X : Fin 128 → Fin 512 → ℝ} (hx : ∀ t k, (x (ix2 t k) : EReal) = ((X t k : ℝ) : EReal)) (t : Fin 128) :
    (mean x (ix2 t 0) : EReal) = ((mn (X t) : ℝ) : EReal) := by
  unfold mean
  pointwise
  rw [word_512, Finset.sum_congr rfl fun k _ => hx t k, ← coe_sum, div_512]
  rfl

theorem along_real {x : FVec Ideal S128x1 .f32} {X : Fin 128 → ℝ} (hx : ∀ t, (x (ix2 t 0) : EReal) = ((X t : ℝ) : EReal)) (t : Fin 128) (k : Fin 512) :
    (along x (ix2 t k) : EReal) = ((X t : ℝ) : EReal) := by
  refine Eq.trans ?_ (hx t)
  unfold along
  pointwise

theorem down_real {x : FVec Ideal S1x512 .f32} {X : Fin 512 → ℝ} (hx : ∀ k, (x (ix2 0 k) : EReal) = ((X k : ℝ) : EReal)) (t : Fin 128) (k : Fin 512) :
    (down (F := Ideal) x (ix2 t k) : EReal) = ((X k : ℝ) : EReal) := by
  refine Eq.trans ?_ (hx k)
  unfold down
  pointwise

theorem mulf_real {n : ℕ} {x y : FVec Ideal (⟨2, ![128, n]⟩ : Shape) .f32} {X Y : Fin 128 → Fin n → ℝ} (hx : ∀ t k, (x (ix2 t k) : EReal) = ((X t k : ℝ) : EReal))
    (hy : ∀ t k, (y (ix2 t k) : EReal) = ((Y t k : ℝ) : EReal)) (t : Fin 128) (k : Fin n) : (mulf x y (ix2 t k) : EReal) = ((X t k * Y t k : ℝ) : EReal) := by
  rw [EReal.coe_mul, ← hx, ← hy]
  rfl

theorem addf_real {n : ℕ} {x y : FVec Ideal (⟨2, ![128, n]⟩ : Shape) .f32} {X Y : Fin 128 → Fin n → ℝ} (hx : ∀ t k, (x (ix2 t k) : EReal) = ((X t k : ℝ) : EReal))
    (hy : ∀ t k, (y (ix2 t k) : EReal) = ((Y t k : ℝ) : EReal)) (t : Fin 128) (k : Fin n) : (addf x y (ix2 t k) : EReal) = ((X t k + Y t k : ℝ) : EReal) := by
  rw [EReal.coe_add, ← hx, ← hy]
  rfl

theorem subf_real {n : ℕ} {x y : FVec Ideal (⟨2, ![128, n]⟩ : Shape) .f32} {X Y : Fin 128 → Fin n → ℝ} (hx : ∀ t k, (x (ix2 t k) : EReal) = ((X t k : ℝ) : EReal))
    (hy : ∀ t k, (y (ix2 t k) : EReal) = ((Y t k : ℝ) : EReal)) (t : Fin 128) (k : Fin n) : (subf x y (ix2 t k) : EReal) = ((X t k - Y t k : ℝ) : EReal) := by
  rw [EReal.coe_sub, ← hx, ← hy]
  rfl

theorem xc_real (hz : ∀ t k, (zb (ix2 t k) : EReal) = ((Z t k : ℝ) : EReal)) (t : Fin 128) (k : Fin 512) :
    (xc zb (ix2 t k) : EReal) = ((XC Z t k : ℝ) : EReal) :=
  subf_real (v_real hz) (along_real (mean_real (v_real hz))) t k

theorem rstd_real (hz : ∀ t k, (zb (ix2 t k) : EReal) = ((Z t k : ℝ) : EReal)) (t : Fin 128) :
    (rstd zb (ix2 t 0) : EReal) = ((RS Z t : ℝ) : EReal) := by
  have h := mean_real (mulf_real (xc_real hz) (xc_real hz)) t
  unfold rstd
  generalize mean (mulf (xc zb) (xc zb)) = y at h ⊢
  pointwise
  rw [h, word_tiny, ← EReal.coe_add]
  exact rsqrt_pos (VR_pos Z t)

theorem xh_real (hz : ∀ t k, (zb (ix2 t k) : EReal) = ((Z t k : ℝ) : EReal)) (t : Fin 128) (k : Fin 512) :
    (xh zb (ix2 t k) : EReal) = ((XH Z t k : ℝ) : EReal) :=
  mulf_real (xc_real hz) (along_real (rstd_real hz)) t k

variable {lg lb : Vec Ideal S1x512 .f32} {G B : Fin 512 → ℝ}

theorem vb_real (hz : ∀ t k, (zb (ix2 t k) : EReal) = ((Z t k : ℝ) : EReal)) (hg : ∀ k, (lg (ix2 0 k) : EReal) = ((G k : ℝ) : EReal))
    (hb : ∀ k, (lb (ix2 0 k) : EReal) = ((B k : ℝ) : EReal)) (t : Fin 128) (k : Fin 512) :
    (vb zb lg lb (ix2 t k) : EReal) = ((LN Z G B t k : ℝ) : EReal) :=
  addf_real (mulf_real (xh_real hz) (down_real hg)) (down_real hb) t k

/-- Lane `q` of pair `p`. -/
def lane (p : Fin 4) (q : Fin 128) : Fin 512 := ⟨128 * p.val + q.val, by omega⟩

theorem pair_real {x : FVec Ideal S128x512 .f32} (p : Fin 4) (t q : Fin 128) :
    (extractStridedSlice S128x128 ![0, 128 * p.val] x (pair_s p) (ix2 t q) : EReal) = x (ix2 t (lane p q)) := by
  pointwise
  first | rfl | exact congrArg x (by funext a; match a with | ⟨0, _⟩ => rfl | ⟨1, _⟩ => (refine Fin.ext ?_; simp [lane]))

theorem low_at (t q : Fin 128) : low (ix2 t q) = if q.val < 64 then 1#1 else 0#1 := by
  unfold low
  pointwise
  revert q
  decide

theorem select_low {φ : FTy} (x y : FVec Ideal S128x128 φ) (t q : Fin 128) : (select low x y (ix2 t q) : EReal) = if q.val < 64 then x (ix2 t q) else y (ix2 t q) := by
  have h := low_at t q
  generalize low = l at h ⊢
  pointwise
  rw [h]
  by_cases hq : q.val < 64 <;> simp [hq, Scalar.select]

theorem wg_at (W : Fin 8 → Vec Ideal S1x128x128 .bf16) (g : Fin 8) (t s : Fin 128) : (wg W g (ix2 t s) : EReal) = W g (ix3 0 t s) := by
  unfold wg
  pointwise

theorem bg_at (bst : Vec Ideal S128x8 .f32) (g : Fin 8) (t s : Fin 128) : (bg bst g (ix2 t s) : EReal) = bst (ix2 t g) := by
  unfold bg
  pointwise

/-- The head of a pair's lane. -/
theorem head_low (p : Fin 4) (q : Fin 128) (h : q.val < 64) : hh (lane p q) = hd p 0 := Fin.ext (by show (128 * p.val + q.val) / 64 = 2 * p.val + 0; omega)
theorem head_high (p : Fin 4) (q : Fin 128) (h : ¬q.val < 64) : hh (lane p q) = hd p 1 := Fin.ext (by show (128 * p.val + q.val) / 64 = 2 * p.val + 1; omega)

variable {db : Vec Ideal S128x512 .bf16} {D : Fin 128 → Fin 512 → ℝ} {wc : Fin 8 → Vec Ideal S1x128x128 .bf16} {W : Fin 8 → Fin 128 → Fin 128 → ℝ}
  {bst : Vec Ideal S128x8 .f32} {A : Fin 8 → Fin 128 → ℝ}

theorem xp_real (hz : ∀ t k, (zb (ix2 t k) : EReal) = ((Z t k : ℝ) : EReal)) (hg : ∀ k, (lg (ix2 0 k) : EReal) = ((G k : ℝ) : EReal))
    (hb : ∀ k, (lb (ix2 0 k) : EReal) = ((B k : ℝ) : EReal)) (p : Fin 4) (t q : Fin 128) :
    (xp zb lg lb p (ix2 t q) : EReal) = ((LN Z G B t (lane p q) : ℝ) : EReal) := by
  refine Eq.trans ?_ (vb_real hz hg hb t (lane p q))
  unfold xp
  generalize vb zb lg lb = y
  exact pair_real (x := y) p t q

theorem dp_real (hd : ∀ t k, (db (ix2 t k) : EReal) = ((D t k : ℝ) : EReal)) (p : Fin 4) (t q : Fin 128) :
    (dp db p (ix2 t q) : EReal) = ((D t (lane p q) : ℝ) : EReal) :=
  (pair_real (x := extf .f32 db bitsLt_bf16_f32) p t q).trans (hd t (lane p q))

theorem sg_real (hz : ∀ t k, (zb (ix2 t k) : EReal) = ((Z t k : ℝ) : EReal)) (hg : ∀ k, (lg (ix2 0 k) : EReal) = ((G k : ℝ) : EReal))
    (hb : ∀ k, (lb (ix2 0 k) : EReal) = ((B k : ℝ) : EReal)) (hw : ∀ g t s, (wc g (ix3 0 t s) : EReal) = ((W g t s : ℝ) : EReal))
    (ha : ∀ t g, (bst (ix2 t g) : EReal) = ((A g t : ℝ) : EReal)) (p : Fin 4) (b : Fin 2) (t q : Fin 128) :
    (sg zb lg lb wc bst p b (ix2 t q) : EReal) = (((∑ s, W (hd p b) t s * LN Z G B s (lane p q)) + A (hd p b) t : ℝ) : EReal) := by
  have h1 := fun s => wg_at wc (hd p b) t s
  have h2 := fun s => xp_real hz hg hb p s q
  have h3 := bg_at bst (hd p b) t q
  unfold sg zero
  generalize wg wc (hd p b) = x1 at h1 ⊢
  generalize xp zb lg lb p = x2 at h2 ⊢
  generalize bg bst (hd p b) = x3 at h3 ⊢
  pointwise
  rw [h3, ha, EReal.coe_add, coe_sum]
  congr 1
  refine Finset.sum_congr rfl fun s _ => ?_
  rw [h1, h2, hw, EReal.coe_mul]

theorem du_real (hz : ∀ t k, (zb (ix2 t k) : EReal) = ((Z t k : ℝ) : EReal)) (hg : ∀ k, (lg (ix2 0 k) : EReal) = ((G k : ℝ) : EReal))
    (hb : ∀ k, (lb (ix2 0 k) : EReal) = ((B k : ℝ) : EReal)) (hw : ∀ g t s, (wc g (ix3 0 t s) : EReal) = ((W g t s : ℝ) : EReal))
    (ha : ∀ t g, (bst (ix2 t g) : EReal) = ((A g t : ℝ) : EReal)) (hd : ∀ t k, (db (ix2 t k) : EReal) = ((D t k : ℝ) : EReal)) (p : Fin 4) (t q : Fin 128) :
    (du zb db lg lb wc bst p (ix2 t q) : EReal) = ((DU Z D G B W A t (lane p q) : ℝ) : EReal) := by
  refine mulf_real (Y := fun t q => SP Z G B W A t (lane p q)) (dp_real hd p) (fun t q => ?_) t q
  rw [select_low, sg_real hz hg hb hw ha, sg_real hz hg hb hw ha]
  unfold SP
  by_cases h : q.val < 64
  · rw [if_pos h, head_low p q h]
  · rw [if_neg h, head_high p q h]

theorem dsp_real (hz : ∀ t k, (zb (ix2 t k) : EReal) = ((Z t k : ℝ) : EReal)) (hd : ∀ t k, (db (ix2 t k) : EReal) = ((D t k : ℝ) : EReal)) (p : Fin 4) (t q : Fin 128) :
    (dsp zb db p (ix2 t q) : EReal) = ((DS Z D t (lane p q) : ℝ) : EReal) :=
  mulf_real (Y := fun t q => U Z t (lane p q)) (dp_real hd p) (fun t q => (pair_real p t q).trans (u_real hz t (lane p q))) t q

theorem half_real (hz : ∀ t k, (zb (ix2 t k) : EReal) = ((Z t k : ℝ) : EReal)) (hd : ∀ t k, (db (ix2 t k) : EReal) = ((D t k : ℝ) : EReal)) (p : Fin 4) (b : Fin 2) (t q : Fin 128) :
    (half zb db p b (ix2 t q) : EReal) = ((if (b = 0 ↔ q.val < 64) then DS Z D t (lane p q) else 0 : ℝ) : EReal) := by
  have h := dsp_real hz hd p t q
  have h0 : (broadcast S128x128 (Scalar.ofBits (F := Ideal) .f32 0x00000000#32) (ix2 t q) : EReal) = ((0 : ℝ) : EReal) := word_zero
  match b with
  | 0 =>
    refine (select_low _ _ t q).trans ?_
    rw [h, h0]
    by_cases hq : q.val < 64 <;> simp [hq]
  | 1 =>
    refine (select_low _ _ t q).trans ?_
    rw [h, h0]
    by_cases hq : q.val < 64 <;> simp [hq]

/-- A sum over the lanes of one head of a pair. -/
theorem half_sum (f : Fin 512 → ℝ) (p : Fin 4) (b : Fin 2) :
    (∑ q : Fin 128, if (b = 0 ↔ q.val < 64) then f (lane p q) else 0) = ∑ c : Fin 64, f (col (hd p b) c) := by
  refine (Fin.sum_univ_add (M := ℝ) (a := 64) (b := 64) fun q : Fin 128 => if (b = 0 ↔ q.val < 64) then f (lane p q) else 0).trans ?_
  match b with
  | 0 =>
    refine (congrArg₂ (· + ·) (Finset.sum_congr rfl fun c _ => ?_) (Finset.sum_eq_zero fun c _ => ?_)).trans (add_zero _)
    · rw [if_pos (by simp [Fin.castAdd])]
      exact congrArg f (Fin.ext (by show 128 * p.val + c.val = 64 * (2 * p.val + 0) + c.val; omega))
    · rw [if_neg (by simp [Fin.natAdd])]
  | 1 =>
    refine (congrArg₂ (· + ·) (Finset.sum_eq_zero fun c _ => ?_) (Finset.sum_congr rfl fun c _ => ?_)).trans (zero_add _)
    · rw [if_neg (by simp [Fin.castAdd])]
    · rw [if_pos (by simp [Fin.natAdd])]
      exact congrArg f (Fin.ext (by show 128 * p.val + (64 + c.val) = 64 * (2 * p.val + 1) + c.val; omega))

theorem dw_real (hz : ∀ t k, (zb (ix2 t k) : EReal) = ((Z t k : ℝ) : EReal)) (hg : ∀ k, (lg (ix2 0 k) : EReal) = ((G k : ℝ) : EReal))
    (hb : ∀ k, (lb (ix2 0 k) : EReal) = ((B k : ℝ) : EReal)) (hd : ∀ t k, (db (ix2 t k) : EReal) = ((D t k : ℝ) : EReal)) (p : Fin 4) (b : Fin 2) (t s : Fin 128) :
    (dw zb db lg lb p b (ix2 t s) : EReal) = ((DW Z D G B (Block.hd p b) t s : ℝ) : EReal) := by
  have h1 := fun q => half_real hz hd p b t q
  have h2 := fun q => xp_real hz hg hb p s q
  unfold dw zero
  generalize half zb db p b = x1 at h1 ⊢
  generalize xp zb lg lb p = x2 at h2 ⊢
  pointwise
  refine (Finset.sum_congr rfl fun q _ => by rw [h1, h2, ← EReal.coe_mul]).trans ?_
  rw [← coe_sum]
  refine congrArg _ (Eq.trans (Finset.sum_congr rfl fun q _ => ?_) (half_sum (fun k => DS Z D t k * LN Z G B s k) p b))
  split_ifs <;> simp

theorem dv_real (hz : ∀ t k, (zb (ix2 t k) : EReal) = ((Z t k : ℝ) : EReal)) (hw : ∀ g t s, (wc g (ix3 0 t s) : EReal) = ((W g t s : ℝ) : EReal))
    (hd : ∀ t k, (db (ix2 t k) : EReal) = ((D t k : ℝ) : EReal)) (p : Fin 4) (s q : Fin 128) :
    (dv zb db wc p (ix2 s q) : EReal) = ((DV Z D W s (lane p q) : ℝ) : EReal) := by
  have part : ∀ b : Fin 2, (∑ t : Fin 128, (wg wc (Block.hd p b) (ix2 t s) : EReal) * half zb db p b (ix2 t q))
      = ((if (b = 0 ↔ q.val < 64) then DV Z D W s (lane p q) else 0 : ℝ) : EReal) := by
    intro b
    refine (Finset.sum_congr rfl fun t _ => by rw [wg_at, hw, half_real hz hd, ← EReal.coe_mul]).trans ?_
    rw [← coe_sum]
    refine congrArg _ ?_
    by_cases hq : (b = 0 ↔ q.val < 64)
    · rw [if_pos hq]
      refine Finset.sum_congr rfl fun t _ => ?_
      rw [if_pos hq]
      congr 2
      match b, hq with
      | 0, hq => exact (head_low p q (hq.mp rfl)).symm
      | 1, hq => exact (head_high p q fun h => absurd (hq.mpr h) (by decide)).symm
    · rw [if_neg hq]
      exact Finset.sum_eq_zero fun t _ => by rw [if_neg hq, mul_zero]
  have p0 := part 0
  have p1 := part 1
  unfold dv zero
  generalize wg wc (Block.hd p 0) = x0 at p0 ⊢
  generalize wg wc (Block.hd p 1) = x1 at p1 ⊢
  generalize half zb db p 0 = y0 at p0 ⊢
  generalize half zb db p 1 = y1 at p1 ⊢
  pointwise
  rw [p0, p1]
  by_cases hq : q.val < 64 <;> simp [hq]

theorem dvln_real (hz : ∀ t k, (zb (ix2 t k) : EReal) = ((Z t k : ℝ) : EReal)) (hw : ∀ g t s, (wc g (ix3 0 t s) : EReal) = ((W g t s : ℝ) : EReal))
    (hd : ∀ t k, (db (ix2 t k) : EReal) = ((D t k : ℝ) : EReal)) (s : Fin 128) (k : Fin 512) :
    (dvln zb db wc (ix2 s k) : EReal) = ((DV Z D W s k : ℝ) : EReal) := by
  have h := fun p q => dv_real hz hw hd p s q
  unfold dvln
  generalize dv zb db wc = y at h ⊢
  pointwise
  split_ifs <;> (rw [h]; exact congrArg (fun k => ((DV Z D W s k : ℝ) : EReal)) (Fin.ext (by simp [lane]; try omega)))

theorem colsum_real {x : FVec Ideal S128x512 .f32} {X : Fin 128 → Fin 512 → ℝ} (hx : ∀ t k, (x (ix2 t k) : EReal) = ((X t k : ℝ) : EReal)) (k : Fin 512) :
    (colsum x (ix2 0 k) : EReal) = ((∑ t, X t k : ℝ) : EReal) := by
  unfold colsum
  pointwise
  rw [coe_sum]
  exact Finset.sum_congr rfl fun t _ => hx t k

theorem dlg_real (hz : ∀ t k, (zb (ix2 t k) : EReal) = ((Z t k : ℝ) : EReal)) (hw : ∀ g t s, (wc g (ix3 0 t s) : EReal) = ((W g t s : ℝ) : EReal))
    (hd : ∀ t k, (db (ix2 t k) : EReal) = ((D t k : ℝ) : EReal)) (k : Fin 512) :
    (dlg zb db wc (ix2 0 k) : EReal) = ((∑ t, DV Z D W t k * XH Z t k : ℝ) : EReal) :=
  colsum_real (mulf_real (dvln_real hz hw hd) (xh_real hz)) k

theorem dlb_real (hz : ∀ t k, (zb (ix2 t k) : EReal) = ((Z t k : ℝ) : EReal)) (hw : ∀ g t s, (wc g (ix3 0 t s) : EReal) = ((W g t s : ℝ) : EReal))
    (hd : ∀ t k, (db (ix2 t k) : EReal) = ((D t k : ℝ) : EReal)) (k : Fin 512) :
    (dlb zb db wc (ix2 0 k) : EReal) = ((∑ t, DV Z D W t k : ℝ) : EReal) :=
  colsum_real (dvln_real hz hw hd) k

theorem dxh_real (hz : ∀ t k, (zb (ix2 t k) : EReal) = ((Z t k : ℝ) : EReal)) (hg : ∀ k, (lg (ix2 0 k) : EReal) = ((G k : ℝ) : EReal))
    (hw : ∀ g t s, (wc g (ix3 0 t s) : EReal) = ((W g t s : ℝ) : EReal))
    (hd : ∀ t k, (db (ix2 t k) : EReal) = ((D t k : ℝ) : EReal)) (t : Fin 128) (k : Fin 512) :
    (dxh zb db lg wc (ix2 t k) : EReal) = ((DX Z D G W t k : ℝ) : EReal) :=
  mulf_real (dvln_real hz hw hd) (down_real hg) t k

theorem dvg_real (hz : ∀ t k, (zb (ix2 t k) : EReal) = ((Z t k : ℝ) : EReal)) (hg : ∀ k, (lg (ix2 0 k) : EReal) = ((G k : ℝ) : EReal))
    (hw : ∀ g t s, (wc g (ix3 0 t s) : EReal) = ((W g t s : ℝ) : EReal))
    (hd : ∀ t k, (db (ix2 t k) : EReal) = ((D t k : ℝ) : EReal)) (t : Fin 128) (k : Fin 512) :
    (dvg zb db lg wc (ix2 t k) : EReal) = ((DG Z D G W t k : ℝ) : EReal) :=
  mulf_real (along_real (rstd_real hz))
    (subf_real (subf_real (dxh_real hz hg hw hd) (along_real (mean_real (dxh_real hz hg hw hd))))
      (mulf_real (xh_real hz) (along_real (mean_real (mulf_real (dxh_real hz hg hw hd) (xh_real hz)))))) t k

theorem dge_real (hz : ∀ t k, (zb (ix2 t k) : EReal) = ((Z t k : ℝ) : EReal)) (hg : ∀ k, (lg (ix2 0 k) : EReal) = ((G k : ℝ) : EReal))
    (hb : ∀ k, (lb (ix2 0 k) : EReal) = ((B k : ℝ) : EReal)) (hw : ∀ g t s, (wc g (ix3 0 t s) : EReal) = ((W g t s : ℝ) : EReal))
    (ha : ∀ t g, (bst (ix2 t g) : EReal) = ((A g t : ℝ) : EReal)) (hd : ∀ t k, (db (ix2 t k) : EReal) = ((D t k : ℝ) : EReal)) (t : Fin 128) (k : Fin 1024) :
    (dge zb db lg lb wc bst (ix2 t k) : EReal) = ((DE Z D G B W A t k : ℝ) : EReal) := by
  have h := fun p q => du_real hz hg hb hw ha hd p t q
  have h' := fun k => dvg_real hz hg hw hd t k
  unfold dge DE
  generalize du zb db lg lb wc bst = y at h ⊢
  generalize dvg zb db lg wc = y' at h' ⊢
  pointwise
  by_cases hk : k.val < 512
  · rw [dif_pos hk]
    split_ifs <;> first
      | omega
      | (rw [h]; exact congrArg (fun k => ((DU Z D G B W A t k : ℝ) : EReal)) (Fin.ext (by simp [lane]; try omega)))
  · rw [dif_neg hk]
    split_ifs <;> first
      | omega
      | (rw [h']; exact congrArg (fun k => ((DG Z D G W t k : ℝ) : EReal)) (Fin.ext (by simp; try omega)))

theorem dz_real (hz : ∀ t k, (zb (ix2 t k) : EReal) = ((Z t k : ℝ) : EReal)) (hg : ∀ k, (lg (ix2 0 k) : EReal) = ((G k : ℝ) : EReal))
    (hb : ∀ k, (lb (ix2 0 k) : EReal) = ((B k : ℝ) : EReal)) (hw : ∀ g t s, (wc g (ix3 0 t s) : EReal) = ((W g t s : ℝ) : EReal))
    (ha : ∀ t g, (bst (ix2 t g) : EReal) = ((A g t : ℝ) : EReal)) (hd : ∀ t k, (db (ix2 t k) : EReal) = ((D t k : ℝ) : EReal)) (t : Fin 128) (k : Fin 1024) :
    (dz zb db lg lb wc bst (ix2 t k) : EReal) = ((DZ Z D G B W A t k : ℝ) : EReal) :=
  mulf_real (dge_real hz hg hb hw ha hd) (gegrad_real hz) t k

end Cert.KernelIdeal.Block
-- ==== Proof.Gmlp.Inputs.lean ====
/- What the gating MLP's backward body reads, when the arguments hold real numbers. -/
module

public import proofs.«01_k».proof.Proof.Gmlp.Words
public import proofs.«01_k».proof.Proof.Gen.ReferenceIdeal.Read

@[expose] public section

set_option maxRecDepth 16384
set_option maxHeartbeats 1000000

noncomputable section

namespace Cert.KernelIdeal.Block

open Cert.Gmlp Cert.KernelIdeal Cert.KernelIdeal.Gen Idealize.ShloMosaic Idealize.ShloMosaic.TcCoe Idealize.SL.Sem

variable (m : (ℓ : Loc nD τ sig) → Buf (Elt Ideal) ℓ)

/-- The host's two lines before the call: the heads' weights, and the biases transposed. -/
theorem weights_at (c : Dev nD) (g : Fin 8) (t s : Fin 128) :
    (V m c main_v0 (ix3 g t s) : EReal) = m ((c : Thread nD τ).loc main_arg4) (ix4 0 g t s) := by
  have e : V m c main_v0 = shapeCast S8x128x128 (m ((c : Thread nD τ).loc main_arg4)) shapeCasts_S1x8x128x128_S8x128x128 := by
    show StableHlo.after hostOps0 _ _ = _
    after_results
    rfl
  rw [e]
  generalize m ((c : Thread nD τ).loc main_arg4) = y
  refine shapeCast_apply y _ _ (ix4 0 g t s) ?_
  show (S1x8x128x128.rowMajor (ix4 0 g t s)).val = (S8x128x128.rowMajor (ix3 g t s)).val
  rewrite [Shape.rowMajor_val_four, Shape.rowMajor_val_three]
  show ((0 * 8 + g.val) * 128 + t.val) * 128 + s.val = (g.val * 128 + t.val) * 128 + s.val
  omega

theorem biases_at (c : Dev nD) (t : Fin 128) (g : Fin 8) :
    (V m c main_v2 (ix2 t g) : EReal) = m ((c : Thread nD τ).loc main_arg5) (ix3 0 g t) := by
  have e : V m c main_v2 = transpose S128x8 [1, 0] (shapeCast S8x128 (m ((c : Thread nD τ).loc main_arg5)) shapeCasts_S1x8x128_S8x128) transposes_S8x128_S128x8_1_0 := by
    show StableHlo.after hostOps0 _ _ = _
    after_results
    rfl
  rw [e]
  generalize m ((c : Thread nD τ).loc main_arg5) = y
  refine (transpose_apply [1, 0] _ transposes_S8x128_S128x8_1_0 (ix2 t g) (ix2 g t) (fun b => match b with
    | ⟨0, _⟩ => rfl
    | ⟨1, _⟩ => rfl)).trans (shapeCast_apply y _ _ (ix3 0 g t) ?_)
  show (S1x8x128.rowMajor (ix3 0 g t)).val = (S8x128.rowMajor (ix2 g t)).val
  rewrite [Shape.rowMajor_val_three, Shape.rowMajor_val_two]
  show (0 * 8 + g.val) * 128 + t.val = g.val * 128 + t.val
  omega

/-- The block of rows of the whole array. -/
def rowOf (n : Fin 64) (t : Fin 128) : Fin 8192 := ⟨128 * n.val + t.val, by omega⟩
/-- The block number of point `t`'s block `j`. -/
def blockOf (t : Fin cfg0.N) (j : Fin 8) : Fin 64 := ⟨8 * t.val + j.val, by have := lt_of_lt_of_eq t.isLt N_0; omega⟩

/-- The arguments' contents, in real numbers. -/
structure Holds (c : Dev nD) (Z : Fin 64 → Fin 128 → Fin 1024 → ℝ) (D : Fin 64 → Fin 128 → Fin 512 → ℝ) (G B : Fin 512 → ℝ) (W : Fin 8 → Fin 128 → Fin 128 → ℝ)
    (A : Fin 8 → Fin 128 → ℝ) : Prop where
  z : ∀ n t k, (m ((c : Thread nD τ).loc main_arg0) (ix2 (rowOf n t) k) : EReal) = ((Z n t k : ℝ) : EReal)
  d : ∀ n t k, (m ((c : Thread nD τ).loc main_arg1) (ix2 (rowOf n t) k) : EReal) = ((D n t k : ℝ) : EReal)
  g : ∀ k, (m ((c : Thread nD τ).loc main_arg2) (ix2 0 k) : EReal) = ((G k : ℝ) : EReal)
  b : ∀ k, (m ((c : Thread nD τ).loc main_arg3) (ix2 0 k) : EReal) = ((B k : ℝ) : EReal)
  w : ∀ h t s, (m ((c : Thread nD τ).loc main_arg4) (ix4 0 h t s) : EReal) = ((W h t s : ℝ) : EReal)
  a : ∀ h t, (m ((c : Thread nD τ).loc main_arg5) (ix3 0 h t) : EReal) = ((A h t : ℝ) : EReal)

/-- The weights, zero above the diagonal. -/
def below (W : Fin 8 → Fin 128 → Fin 128 → ℝ) (h : Fin 8) (t s : Fin 128) : ℝ := if s.val ≤ t.val then W h t s else 0

/-- Where the windows lie. -/
theorem place : ∀ t : Fin cfg0.N, win0_0.index t (0 : Fin 2) = t.val ∧ win0_0.index t (1 : Fin 2) = 0 ∧ win0_1.index t (0 : Fin 2) = t.val ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

theorem causal_at (t s : Fin 128) : causal (ix2 t s) = if s.val ≤ t.val then 1#1 else 0#1 := by
  unfold causal
  pointwise
  revert t s
  decide +kernel

theorem masked_at (x : Vec Ideal S1x128x128 .f32) (t s : Fin 128) : (masked x (ix2 t s) : EReal) = if s.val ≤ t.val then x (ix3 0 t s) else 0 := by
  have h := causal_at t s
  unfold masked
  generalize causal = l at h ⊢
  pointwise
  rw [h]
  by_cases hs : s.val ≤ t.val <;> simp [hs, Scalar.select]

theorem trimmed_at (x : Vec Ideal S1x128x128 .f32) (t s : Fin 128) : (trimmed x (ix3 0 t s) : EReal) = if s.val ≤ t.val then x (ix3 0 t s) else 0 := by
  refine Eq.trans ?_ (masked_at x t s)
  unfold trimmed
  generalize masked x = y
  pointwise

theorem page_val {e : EltTy} (X : Vec Ideal S8x128x128 e) (g : Fin 8) (t s : Fin 128) : page X g (ix3 0 t s) = X (ix3 g t s) := by
  unfold page
  pointwise

variable {m} {c : Dev nD} {Z : Fin 64 → Fin 128 → Fin 1024 → ℝ} {D : Fin 64 → Fin 128 → Fin 512 → ℝ} {G B : Fin 512 → ℝ} {W : Fin 8 → Fin 128 → Fin 128 → ℝ} {A : Fin 8 → Fin 128 → ℝ}

theorem zrows_real (H : Holds m c Z D G B W A) (t : Fin cfg0.N) (j : Fin 8) (r : Fin 128) (k : Fin 1024) :
    (zrows (iblk m c 0 t) j (ix2 r k) : EReal) = ((Z (blockOf t j) r k : ℝ) : EReal) := by
  obtain ⟨e0, e1, -⟩ := place t
  rw [← H.z, ← V_main_arg0 m c]
  refine congrArg (V m c main_arg0) (funext fun a => Fin.ext ?_)
  match a with
  | ⟨0, _⟩ => show win0_0.index t (0 : Fin 2) * 1024 + 1 * (128 * j.val + 1 * r.val) = 128 * (8 * t.val + j.val) + r.val; omega
  | ⟨1, _⟩ => show win0_0.index t (1 : Fin 2) * 1024 + 1 * (0 + 1 * k.val) = k.val; omega

theorem drows_real (H : Holds m c Z D G B W A) (t : Fin cfg0.N) (j : Fin 8) (r : Fin 128) (k : Fin 512) :
    (drows (iblk m c 1 t) j (ix2 r k) : EReal) = ((D (blockOf t j) r k : ℝ) : EReal) := by
  obtain ⟨-, -, e0, e1, -⟩ := place t
  rw [← H.d, ← V_main_arg1 m c]
  refine congrArg (V m c main_arg1) (funext fun a => Fin.ext ?_)
  match a with
  | ⟨0, _⟩ => show win0_1.index t (0 : Fin 2) * 1024 + 1 * (128 * j.val + 1 * r.val) = 128 * (8 * t.val + j.val) + r.val; omega
  | ⟨1, _⟩ => show win0_1.index t (1 : Fin 2) * 512 + 1 * (0 + 1 * k.val) = k.val; omega

theorem gain_real (H : Holds m c Z D G B W A) (t : Fin cfg0.N) (k : Fin 512) : (iblk m c 2 t (ix2 0 k) : EReal) = ((G k : ℝ) : EReal) := by
  obtain ⟨-, -, -, -, e0, e1, -⟩ := place t
  rw [← H.g, ← V_main_arg2 m c]
  refine congrArg (V m c main_arg2) (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

theorem offset_real (H : Holds m c Z D G B W A) (t : Fin cfg0.N) (k : Fin 512) : (iblk m c 3 t (ix2 0 k) : EReal) = ((B k : ℝ) : EReal) := by
  obtain ⟨-, -, -, -, -, -, e0, e1, -⟩ := place t
  rw [← H.b, ← V_main_arg3 m c]
  refine congrArg (V m c main_arg3) (funext fun a => Fin.ext ?_)
  match a with
  | ⟨0, _⟩ => show win0_3.index t (0 : Fin 2) * 1 + 1 * 0 = 0; omega
  | ⟨1, _⟩ => show win0_3.index t (1 : Fin 2) * 512 + 1 * k.val = k.val; omega

theorem kept_real (H : Holds m c Z D G B W A) (t : Fin cfg0.N) (g : Fin 8) (r s : Fin 128) :
    (kept (iblk m c 4 t) g (ix3 0 r s) : EReal) = ((below W g r s : ℝ) : EReal) := by
  obtain ⟨-, -, -, -, -, -, -, -, e0, e1, e2, -⟩ := place t
  have h : (page (iblk m c 4 t) g (ix3 0 r s) : EReal) = ((W g r s : ℝ) : EReal) := by
    rw [page_val, ← H.w, ← weights_at m c]
    refine congrArg (V m c main_v0) (funext fun a => Fin.ext ?_)
    match a with
    | ⟨0, _⟩ => show win0_4.index t (0 : Fin 3) * 8 + 1 * g.val = g.val; omega
    | ⟨1, _⟩ => show win0_4.index t (1 : Fin 3) * 128 + 1 * r.val = r.val; omega
    | ⟨2, _⟩ => show win0_4.index t (2 : Fin 3) * 128 + 1 * s.val = s.val; omega
  have h' := masked_at (page (iblk m c 4 t) g) r s
  rw [h] at h'
  unfold kept
  generalize masked (page (iblk m c 4 t) g) = y at h' ⊢
  pointwise
  rw [h']
  unfold below
  split_ifs <;> simp

theorem bias_real (H : Holds m c Z D G B W A) (t : Fin cfg0.N) (r : Fin 128) (g : Fin 8) : (iblk m c 5 t (ix2 r g) : EReal) = ((A g r : ℝ) : EReal) := by
  obtain ⟨-, -, -, -, -, -, -, -, -, -, -, e0, e1⟩ := place t
  rw [← H.a, ← biases_at m c]
  refine congrArg (V m c main_v2) (funext fun a => Fin.ext ?_)
  match a with
  | ⟨0, _⟩ => show win0_5.index t (0 : Fin 2) * 128 + 1 * r.val = r.val; omega
  | ⟨1, _⟩ => show win0_5.index t (1 : Fin 2) * 8 + 1 * g.val = g.val; omega

end Cert.KernelIdeal.Block
-- ==== Proof.Gmlp.Step.lean ====
/- One grid point of the gating MLP's backward kernel, in real numbers: it adds its eight blocks' shares to the sums that it carries. -/
module

public import proofs.«01_k».proof.Proof.Gmlp.Inputs

@[expose] public section

set_option maxRecDepth 16384
set_option maxHeartbeats 1000000

noncomputable section

namespace Cert.KernelIdeal.Block

open Cert.Gmlp Cert.KernelIdeal Cert.KernelIdeal.Gen Idealize.ShloMosaic Idealize.ShloMosaic.TcCoe Idealize.SL.Sem

/-- Eight additions, one after another. -/
theorem chain_real {α : Type} (rd : α → EReal) {a : α} {f : Fin 8 → α → α} {x : ℝ} {y : Fin 8 → ℝ} (ha : rd a = (x : EReal))
    (hf : ∀ j u, rd (f j u) = rd u + ((y j : ℝ) : EReal)) : rd (chain a f) = ((x + ∑ j, y j : ℝ) : EReal) := by
  unfold chain
  rw [hf, hf, hf, hf, hf, hf, hf, hf, ha]
  simp only [← EReal.coe_add]
  congr 1
  rw [Fin.sum_univ_eight]
  ring

/-- The sum over the blocks of the first points. -/
def upto (f : Fin 64 → ℝ) (n : ℕ) : ℝ := ∑ i ∈ Finset.range (8 * n), if h : i < 64 then f ⟨i, h⟩ else 0

theorem upto_zero (f : Fin 64 → ℝ) : upto f 0 = 0 := by simp [upto]

theorem upto_step (f : Fin 64 → ℝ) (t : Fin cfg0.N) : upto f t.val + ∑ j, f (blockOf t j) = upto f (t.val + 1) := by
  have ht := lt_of_lt_of_eq t.isLt N_0
  unfold upto
  rw [Nat.mul_add, Nat.mul_one, Finset.sum_range_add]
  congr 1
  rw [Finset.sum_range]
  refine Finset.sum_congr rfl fun j _ => ?_
  rw [dif_pos (by omega)]
  rfl

theorem upto_all (f : Fin 64 → ℝ) : upto f 8 = ∑ n, f n := by
  unfold upto
  rw [Finset.sum_range]
  exact Finset.sum_congr rfl fun n _ => dif_pos n.isLt

theorem add_page (x : Vec Ideal S1x128x128 .f32) (y : FVec Ideal S128x128 .f32) (t s : Fin 128) :
    (shapeCast S1x128x128 (addf (shapeCast S128x128 x shapeCasts_S1x128x128_S128x128) y) shapeCasts_S128x128_S1x128x128 (ix3 0 t s) : EReal) = x (ix3 0 t s) + y (ix2 t s) := by
  pointwise

theorem add_row (x : Vec Ideal S1x512 .f32) (y : FVec Ideal S1x512 .f32) (k : Fin 512) :
    (addf (shapeCast S1x512 x shapeCasts_S1x512_S1x512) y (ix2 0 k) : EReal) = x (ix2 0 k) + y (ix2 0 k) := by
  pointwise

theorem add_lanes (x : Vec Ideal S128x128 .f32) (y : FVec Ideal S128x128 .f32) (t s : Fin 128) :
    (shapeCast S128x128 (addf x y) shapeCasts_S128x128_S128x128 (ix2 t s) : EReal) = x (ix2 t s) + y (ix2 t s) := by
  pointwise

variable (Z : Fin 64 → Fin 128 → Fin 1024 → ℝ) (D : Fin 64 → Fin 128 → Fin 512 → ℝ) (G B : Fin 512 → ℝ) (W : Fin 8 → Fin 128 → Fin 128 → ℝ)

/-- What a point carries on, when the blocks of the first `k` points are in its sums. -/
structure Sums (k : ℕ) (w : Fin 8 → Vec Ideal S1x128x128 .f32) (g b : Vec Ideal S1x512 .f32) (a : Fin 4 → Vec Ideal S128x128 .f32) : Prop where
  w : ∀ h t s, (w h (ix3 0 t s) : EReal) = ((upto (fun n => DW (Z n) (D n) G B h t s) k : ℝ) : EReal)
  g : ∀ q, (g (ix2 0 q) : EReal) = ((upto (fun n => ∑ t, DV (Z n) (D n) (below W) t q * XH (Z n) t q) k : ℝ) : EReal)
  b : ∀ q, (b (ix2 0 q) : EReal) = ((upto (fun n => ∑ t, DV (Z n) (D n) (below W) t q) k : ℝ) : EReal)
  a : ∀ p t q, (a p (ix2 t q) : EReal) = ((upto (fun n => DS (Z n) (D n) t (lane p q)) k : ℝ) : EReal)

variable {Z D G B W} {m : (ℓ : Loc nD τ sig) → Buf (Elt Ideal) ℓ} {c : Dev nD} {A : Fin 8 → Fin 128 → ℝ}

theorem sums_zero : Sums Z D G B W 0 (page (F := Ideal) (e := .f32) (broadcast S8x128x128 (Scalar.ofBits (F := Ideal) .f32 0x00000000#32)))
      (broadcast S1x512 (Scalar.ofBits (F := Ideal) .f32 0x00000000#32)) (broadcast S1x512 (Scalar.ofBits (F := Ideal) .f32 0x00000000#32))
      (lanes (F := Ideal) (broadcast S128x512 (Scalar.ofBits (F := Ideal) .f32 0x00000000#32))) := by
  constructor
  all_goals
    intros
    rw [upto_zero]
    exact word_zero

theorem head_hd (g : Fin 8) : Block.hd (head g).1 (head g).2 = g := Fin.ext (by show 2 * (g.val / 2) + g.val % 2 = g.val; omega)

section step

variable (H : Holds m c Z D G B W A) (t : Fin cfg0.N)

include H

theorem lanes_step {a0 : Fin 4 → Vec Ideal S128x128 .f32}
    (h : ∀ p u q, (a0 p (ix2 u q) : EReal) = ((upto (fun n => DS (Z n) (D n) u (lane p q)) t.val : ℝ) : EReal)) (p : Fin 4) (u q : Fin 128) :
    (chain (a0 p) (fun j x => shapeCast S128x128 (addf x (dsp (zrows (iblk m c 0 t) j) (drows (iblk m c 1 t) j) p)) shapeCasts_S128x128_S128x128) (ix2 u q) : EReal)
      = ((upto (fun n => DS (Z n) (D n) u (lane p q)) (t.val + 1) : ℝ) : EReal) := by
  rw [← upto_step]
  exact chain_real (fun x : Vec Ideal S128x128 .f32 => (x (ix2 u q) : EReal)) (h p u q) fun j x =>
    (add_lanes x _ u q).trans (congrArg (x (ix2 u q) + ·) (dsp_real (zrows_real H t j) (drows_real H t j) p u q))

theorem pass_real {wc : Fin 8 → Vec Ideal S1x128x128 .bf16} {w0 : Fin 8 → Vec Ideal S1x128x128 .f32} {g0 b0 : Vec Ideal S1x512 .f32} {a0 : Fin 4 → Vec Ideal S128x128 .f32}
    {fin : Vec Ideal S1x128x128 .f32 → Vec Ideal S1x128x128 .f32} {s : St Ideal}
    (P : Pass (iblk m c 0 t) (iblk m c 1 t) (iblk m c 2 t) (iblk m c 3 t) (iblk m c 5 t) wc w0 g0 b0 a0 fin s)
    (hw : ∀ g r q, (wc g (ix3 0 r q) : EReal) = ((below W g r q : ℝ) : EReal)) (h : Sums Z D G B W t.val w0 g0 b0 a0) :
    (∀ j r k, (zpart s.1 j (ix2 r k) : EReal) = ((DZ (Z (blockOf t j)) (D (blockOf t j)) G B (below W) A r k : ℝ) : EReal))
    ∧ ∃ w, (∀ g, page s.2.1 g = fin (w g)) ∧ Sums Z D G B W (t.val + 1) w s.2.2.2.1 s.2.2.2.2.1 (lanes s.2.2.2.2.2.2) := by
  refine ⟨fun j r k => ?_, _, P.w, ?_, ?_, ?_, ?_⟩
  · rw [P.z]
    exact dz_real (zrows_real H t j) (gain_real H t) (offset_real H t) hw (bias_real H t) (drows_real H t j) r k
  · intro g r q
    rw [← upto_step]
    refine chain_real (fun x : Vec Ideal S1x128x128 .f32 => (x (ix3 0 r q) : EReal)) (h.w g r q) fun j x =>
      (add_page x _ r q).trans (congrArg (x (ix3 0 r q) + ·) ?_)
    refine (dw_real (zrows_real H t j) (gain_real H t) (offset_real H t) (drows_real H t j) _ _ r q).trans ?_
    rw [head_hd]
  · intro q
    rw [← upto_step, P.lg]
    exact chain_real (fun x : Vec Ideal S1x512 .f32 => (x (ix2 0 q) : EReal)) (h.g q) fun j x =>
      (add_row x _ q).trans (congrArg (x (ix2 0 q) + ·) (dlg_real (zrows_real H t j) hw (drows_real H t j) q))
  · intro q
    rw [← upto_step, P.lb]
    exact chain_real (fun x : Vec Ideal S1x512 .f32 => (x (ix2 0 q) : EReal)) (h.b q) fun j x =>
      (add_row x _ q).trans (congrArg (x (ix2 0 q) + ·) (dlb_real (zrows_real H t j) hw (drows_real H t j) q))
  · intro p u q
    rw [P.a]
    exact lanes_step H t h.a p u q

end step

/-- A sum over the columns, head by head. -/
theorem heads_sum (f : Fin 512 → ℝ) : ∑ k, f k = ∑ h, ∑ e, f (col h e) := by
  rw [← Fintype.sum_prod_type']
  refine (Fintype.sum_equiv (finProdFinEquiv : Fin 8 × Fin 64 ≃ Fin 512) _ _ fun x => congrArg f (Fin.ext ?_)).symm
  show 64 * x.1.val + x.2.val = x.2.val + 64 * x.1.val
  omega

theorem hh_col (h : Fin 8) (e : Fin 64) : hh (col h e) = h := Fin.ext (by show (64 * h.val + e.val) / 64 = h.val; omega)

/-- The last product's left operand picks the columns of a head. -/
theorem picks (X : FVec Ideal S128x512 .f32) : ∃ C : IVec S8x512 1,
    k0_pay22 X = matmul (φ₂ := .f32) dot_S8x512_S128x512_S8x128_1_1_0_0_n_n (some .fp32)
      (select C (broadcast S8x512 (Scalar.ofBits (F := Ideal) .f32 0x3F800000#32)) (broadcast S8x512 (Scalar.ofBits (F := Ideal) .f32 0x00000000#32))) X (constant S8x128 .f32 0x00000000#32)
    ∧ ∀ h k, C (ix2 h k) = if (hh k).val = h.val then 1#1 else 0#1 :=
  ⟨_, rfl, by decide +kernel⟩

theorem pick_real {X : Vec Ideal S128x512 .f32} {Y : Fin 128 → Fin 512 → ℝ} (hX : ∀ p t q, (lanes X p (ix2 t q) : EReal) = ((Y t (lane p q) : ℝ) : EReal))
    (h : Fin 8) (t : Fin 128) : (k0_pay22 X (ix2 h t) : EReal) = ((∑ e, Y t (col h e) : ℝ) : EReal) := by
  have hx : ∀ k, (X (ix2 t k) : EReal) = ((Y t k : ℝ) : EReal) := fun k => by
    have e := hX ⟨k.val / 128, by omega⟩ t ⟨k.val % 128, by omega⟩
    have hk : lane ⟨k.val / 128, by omega⟩ ⟨k.val % 128, by omega⟩ = k := Fin.ext (by show 128 * (k.val / 128) + k.val % 128 = k.val; omega)
    rw [hk] at e
    rw [← e]
    refine congrArg X (funext fun a => Fin.ext ?_)
    match a with
    | ⟨0, _⟩ => show t.val = 0 + 1 * t.val; omega
    | ⟨1, _⟩ => show k.val = 128 * (k.val / 128) + 1 * (k.val % 128); omega
  obtain ⟨C, e, hC⟩ := picks X
  rw [e]
  pointwise
  refine (Finset.sum_congr rfl fun k _ => (show _ = ((if hh k = h then Y t k else 0 : ℝ) : EReal) from ?_)).trans ?_
  · rw [hx, hC]
    by_cases hk : hh k = h
    · simp [hk, Scalar.select]
    · simp [hk, Scalar.select, Fin.val_inj]
  · rw [← coe_sum, heads_sum]
    refine congrArg _ ((Finset.sum_eq_single h (fun i _ hi => Finset.sum_eq_zero fun e _ => ?_) (by simp)).trans (Finset.sum_congr rfl fun e _ => ?_))
    · rw [hh_col, if_neg hi]
    · rw [hh_col, if_pos rfl]

end Cert.KernelIdeal.Block
-- ==== Proof.Gmlp.Reads.lean ====
/- Reading back a rectangle from a list of stores. -/
module

public import proofs.«01_k».proof.Proof.Gmlp.Block
public import proofs.«01_k».proof.Proof.Loads

@[expose] public section

noncomputable section

namespace Cert.KernelIdeal.Block

open Idealize.ShloMosaic Idealize.SL.Sem

theorem all8 {P : Fin 8 → Prop} (h0 : P 0) (h1 : P 1) (h2 : P 2) (h3 : P 3) (h4 : P 4) (h5 : P 5) (h6 : P 6) (h7 : P 7) : ∀ i, P i
  | 0 => h0 | 1 => h1 | 2 => h2 | 3 => h3 | 4 => h4 | 5 => h5 | 6 => h6 | 7 => h7

theorem all4 {P : Fin 4 → Prop} (h0 : P 0) (h1 : P 1) (h2 : P 2) (h3 : P 3) : ∀ i, P i
  | 0 => h0 | 1 => h1 | 2 => h2 | 3 => h3

section literal
open Cert.KernelIdeal.Gen
variable {F : FTy → Type} [FloatOps F] [Named F]

/-- A page at the offsets the body writes. -/
theorem page_at {e : EltTy} (X : Vec F S8x128x128 e) (g : Fin 8) {o : Fin 3 → ℕ} (h : ∀ a, o a + S1x128x128.size a ≤ S8x128x128.size a) (ho : o = ![g.val, 0, 0]) :
    page X g = View.ld X (Rect.unit o S1x128x128.size h) := by subst ho; rfl
theorem lanes_at (X : Vec F S128x512 .f32) (p : Fin 4) {o : Fin 2 → ℕ} (h : ∀ a, o a + S128x128.size a ≤ S128x512.size a) (ho : o = ![0, 128 * p.val]) :
    lanes X p = View.ld X (Rect.unit o S128x128.size h) := by subst ho; rfl
theorem zpart_at (X : Vec F S1024x1024 .bf16) (j : Fin 8) {o : Fin 2 → ℕ} (h : ∀ a, o a + S128x1024.size a ≤ S1024x1024.size a) (ho : o = ![128 * j.val, 0]) :
    zpart X j = View.ld X (Rect.unit o S128x1024.size h) := by subst ho; rfl

/-! Every part of a stored array, from the parts at the offsets the body writes. -/

theorem pages {e : EltTy} {X : Vec F S8x128x128 e} {Y : Fin 8 → Vec F S1x128x128 e} (h0 : View.ld X (Rect.unit _ S1x128x128.size inb_S8x128x128_S1x128x128_0_0_0) = Y 0) (h1 : View.ld X (Rect.unit _ S1x128x128.size inb_S8x128x128_S1x128x128_1_0_0) = Y 1) (h2 : View.ld X (Rect.unit _ S1x128x128.size inb_S8x128x128_S1x128x128_2_0_0) = Y 2) (h3 : View.ld X (Rect.unit _ S1x128x128.size inb_S8x128x128_S1x128x128_3_0_0) = Y 3) (h4 : View.ld X (Rect.unit _ S1x128x128.size inb_S8x128x128_S1x128x128_4_0_0) = Y 4) (h5 : View.ld X (Rect.unit _ S1x128x128.size inb_S8x128x128_S1x128x128_5_0_0) = Y 5) (h6 : View.ld X (Rect.unit _ S1x128x128.size inb_S8x128x128_S1x128x128_6_0_0) = Y 6) (h7 : View.ld X (Rect.unit _ S1x128x128.size inb_S8x128x128_S1x128x128_7_0_0) = Y 7) :
    ∀ i, page X i = Y i :=
  all8 ((page_at X 0 inb_S8x128x128_S1x128x128_0_0_0 rfl).trans h0) ((page_at X 1 inb_S8x128x128_S1x128x128_1_0_0 rfl).trans h1) ((page_at X 2 inb_S8x128x128_S1x128x128_2_0_0 rfl).trans h2) ((page_at X 3 inb_S8x128x128_S1x128x128_3_0_0 rfl).trans h3) ((page_at X 4 inb_S8x128x128_S1x128x128_4_0_0 rfl).trans h4) ((page_at X 5 inb_S8x128x128_S1x128x128_5_0_0 rfl).trans h5) ((page_at X 6 inb_S8x128x128_S1x128x128_6_0_0 rfl).trans h6) ((page_at X 7 inb_S8x128x128_S1x128x128_7_0_0 rfl).trans h7)

theorem every_lanes {X : Vec F S128x512 .f32} {Y : Fin 4 → Vec F S128x128 .f32} (h0 : View.ld X (Rect.unit _ S128x128.size inb_S128x512_S128x128_0_0) = Y 0) (h1 : View.ld X (Rect.unit _ S128x128.size inb_S128x512_S128x128_0_128) = Y 1) (h2 : View.ld X (Rect.unit _ S128x128.size inb_S128x512_S128x128_0_256) = Y 2) (h3 : View.ld X (Rect.unit _ S128x128.size inb_S128x512_S128x128_0_384) = Y 3) :
    ∀ i, lanes X i = Y i :=
  all4 ((lanes_at X 0 inb_S128x512_S128x128_0_0 rfl).trans h0) ((lanes_at X 1 inb_S128x512_S128x128_0_128 rfl).trans h1) ((lanes_at X 2 inb_S128x512_S128x128_0_256 rfl).trans h2) ((lanes_at X 3 inb_S128x512_S128x128_0_384 rfl).trans h3)

theorem every_zpart {X : Vec F S1024x1024 .bf16} {Y : Fin 8 → Vec F S128x1024 .bf16} (h0 : View.ld X (Rect.unit _ S128x1024.size inb_S1024x1024_S128x1024_0_0) = Y 0) (h1 : View.ld X (Rect.unit _ S128x1024.size inb_S1024x1024_S128x1024_128_0) = Y 1) (h2 : View.ld X (Rect.unit _ S128x1024.size inb_S1024x1024_S128x1024_256_0) = Y 2) (h3 : View.ld X (Rect.unit _ S128x1024.size inb_S1024x1024_S128x1024_384_0) = Y 3) (h4 : View.ld X (Rect.unit _ S128x1024.size inb_S1024x1024_S128x1024_512_0) = Y 4) (h5 : View.ld X (Rect.unit _ S128x1024.size inb_S1024x1024_S128x1024_640_0) = Y 5) (h6 : View.ld X (Rect.unit _ S128x1024.size inb_S1024x1024_S128x1024_768_0) = Y 6) (h7 : View.ld X (Rect.unit _ S128x1024.size inb_S1024x1024_S128x1024_896_0) = Y 7) :
    ∀ i, zpart X i = Y i :=
  all8 ((zpart_at X 0 inb_S1024x1024_S128x1024_0_0 rfl).trans h0) ((zpart_at X 1 inb_S1024x1024_S128x1024_128_0 rfl).trans h1) ((zpart_at X 2 inb_S1024x1024_S128x1024_256_0 rfl).trans h2) ((zpart_at X 3 inb_S1024x1024_S128x1024_384_0 rfl).trans h3) ((zpart_at X 4 inb_S1024x1024_S128x1024_512_0 rfl).trans h4) ((zpart_at X 5 inb_S1024x1024_S128x1024_640_0 rfl).trans h5) ((zpart_at X 6 inb_S1024x1024_S128x1024_768_0 rfl).trans h6) ((zpart_at X 7 inb_S1024x1024_S128x1024_896_0 rfl).trans h7)

/-- A row of four blocks, rewritten block by block. -/
theorem concat4_congr {a a' b b' c c' d d' : FVec F S128x128 .f32} (h) (ha : a = a') (hb : b = b') (hc : c = c') (hd : d = d') :
    concatenate S128x512 1 [⟨S128x128, a⟩, ⟨S128x128, b⟩, ⟨S128x128, c⟩, ⟨S128x128, d⟩] h
      = concatenate S128x512 1 [⟨S128x128, a'⟩, ⟨S128x128, b'⟩, ⟨S128x128, c'⟩, ⟨S128x128, d'⟩] h := by
  subst ha hb hc hd; rfl
/-- A row of four blocks and a half, rewritten block by block. -/
theorem concat5_congr {a a' b b' c c' d d' : FVec F S128x128 .f32} {e e' : FVec F S128x512 .f32} (h) (ha : a = a') (hb : b = b') (hc : c = c') (hd : d = d')
    (he : e = e') :
    concatenate S128x1024 1 [⟨S128x128, a⟩, ⟨S128x128, b⟩, ⟨S128x128, c⟩, ⟨S128x128, d⟩, ⟨S128x512, e⟩] h
      = concatenate S128x1024 1 [⟨S128x128, a'⟩, ⟨S128x128, b'⟩, ⟨S128x128, c'⟩, ⟨S128x128, d'⟩, ⟨S128x512, e'⟩] h := by
  subst ha hb hc hd he; rfl

end literal

end Cert.KernelIdeal.Block
-- ==== Proof.Gmlp.BodyA.lean ====
/- The first grid point of the gating MLP's backward body: its eight blocks, in the words of `Gmlp.Block`. -/
module

public import proofs.«01_k».proof.Proof.Gmlp.Reads

@[expose] public section

set_option maxRecDepth 16384
set_option maxHeartbeats 4000000

noncomputable section

namespace Cert.KernelIdeal.Block

open Cert.Loads Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

attribute [local congr] concat4_congr concat5_congr

theorem pass_A (c : Dev nD) (t : Fin cfg0.N) (acc : St F) (h0 : t.val % 8 = 0) (h1 : ¬t.val % 8 = 7) :
    Pass (iblk m c 0 t) (iblk m c 1 t) (iblk m c 2 t) (iblk m c 3 t) (iblk m c 5 t) (kept (iblk m c 4 t))
      (page (broadcast S8x128x128 (Scalar.ofBits .f32 0x00000000#32))) (broadcast S1x512 (Scalar.ofBits .f32 0x00000000#32))
      (broadcast S1x512 (Scalar.ofBits .f32 0x00000000#32)) (lanes (broadcast S128x512 (Scalar.ofBits .f32 0x00000000#32))) id
      (Value.stAt0 m c t.val t.isLt acc) := by
  rw [Value.stAt0_A m c t acc h0 h1]
  constructor
  case' z => refine every_zpart ?_ ?_ ?_ ?_ ?_ ?_ ?_ ?_
  case' w => refine pages ?_ ?_ ?_ ?_ ?_ ?_ ?_ ?_
  case' a => refine every_lanes ?_ ?_ ?_ ?_
  case' wc => refine pages ?_ ?_ ?_ ?_ ?_ ?_ ?_ ?_
  all_goals
    frame_open
    try rw [ld_writes]
    simp (disch := decide) only [↓ View.readCov_skip, ↓ View.readCov_cons_toLoadRect, ↓ View.readCov_fill]
    frame_out
    repeat rw [read_unread_whole]
    repeat rw [Memref.IsWhole.read_unread]
    rfl

end Cert.KernelIdeal.Block
-- ==== Proof.Gmlp.BodyB.lean ====
/- A middle grid point of the gating MLP's backward body: its eight blocks, in the words of `Gmlp.Block`. -/
module

public import proofs.«01_k».proof.Proof.Gmlp.Reads

@[expose] public section

set_option maxRecDepth 16384
set_option maxHeartbeats 4000000

noncomputable section

namespace Cert.KernelIdeal.Block

open Cert.Loads Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

attribute [local congr] concat4_congr concat5_congr

theorem pass_B (c : Dev nD) (t : Fin cfg0.N) (acc : St F) (h0 : ¬t.val % 8 = 0) (h1 : ¬t.val % 8 = 7) :
    Pass (iblk m c 0 t) (iblk m c 1 t) (iblk m c 2 t) (iblk m c 3 t) (iblk m c 5 t) (page acc.2.2.2.2.2.1)
      (page acc.2.1) acc.2.2.2.1 acc.2.2.2.2.1 (lanes acc.2.2.2.2.2.2) id (Value.stAt0 m c t.val t.isLt acc) := by
  rw [Value.stAt0_B m c t acc h0 h1]
  constructor
  case wc => intro g; rfl
  case' z => refine every_zpart ?_ ?_ ?_ ?_ ?_ ?_ ?_ ?_
  case' w => refine pages ?_ ?_ ?_ ?_ ?_ ?_ ?_ ?_
  case' a => refine every_lanes ?_ ?_ ?_ ?_
  all_goals
    frame_open
    try rw [ld_writes]
    simp (disch := decide) only [↓ View.readCov_skip, ↓ View.readCov_cons_toLoadRect, ↓ View.readCov_fill]
    frame_out
    repeat rw [read_unread_whole]
    repeat rw [Memref.IsWhole.read_unread]
    rfl

end Cert.KernelIdeal.Block
-- ==== Proof.Gmlp.BodyC.lean ====
/- The last grid point of the gating MLP's backward body: its eight blocks, in the words of `Gmlp.Block`. -/
module

public import proofs.«01_k».proof.Proof.Gmlp.Reads

@[expose] public section

set_option maxRecDepth 16384
set_option maxHeartbeats 4000000

noncomputable section

namespace Cert.KernelIdeal.Block

open Cert.Loads Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

attribute [local congr] concat4_congr concat5_congr

theorem pass_C (c : Dev nD) (t : Fin cfg0.N) (acc : St F) (h0 : ¬t.val % 8 = 0) (h1 : t.val % 8 = 7) :
    Pass (iblk m c 0 t) (iblk m c 1 t) (iblk m c 2 t) (iblk m c 3 t) (iblk m c 5 t) (page acc.2.2.2.2.2.1)
      (page acc.2.1) acc.2.2.2.1 acc.2.2.2.2.1 (lanes acc.2.2.2.2.2.2) trimmed (Value.stAt0 m c t.val t.isLt acc) := by
  rw [Value.stAt0_C m c t acc h0 h1]
  constructor
  case wc => intro g; rfl
  case' z => refine every_zpart ?_ ?_ ?_ ?_ ?_ ?_ ?_ ?_
  case' w => refine pages ?_ ?_ ?_ ?_ ?_ ?_ ?_ ?_
  case' a => refine every_lanes ?_ ?_ ?_ ?_
  all_goals
    frame_open
    try rw [ld_writes]
    simp (disch := decide) only [↓ View.readCov_skip, ↓ View.readCov_cons_toLoadRect, ↓ View.readCov_fill]
    frame_out
    repeat rw [read_unread_whole]
    repeat rw [Memref.IsWhole.read_unread]
    rfl

/-- The biases' gradient, at the end of the last point: a word of a sum whose lanes are the chains. -/
theorem bias_C (c : Dev nD) (t : Fin cfg0.N) (acc : St F) (h0 : ¬t.val % 8 = 0) (h1 : t.val % 8 = 7) :
    ∃ X : Vec F S128x512 .f32, (Value.stAt0 m c t.val t.isLt acc).2.2.1 = k0_pay22 X ∧ ∀ p, lanes X p = chain (lanes acc.2.2.2.2.2.2 p) fun j x =>
      shapeCast S128x128 (addf x (dsp (zrows (iblk m c 0 t) j) (drows (iblk m c 1 t) j) p)) shapeCasts_S128x128_S128x128 := by
  rw [Value.stAt0_C m c t acc h0 h1]
  frame_open
  refine ⟨_, (View.read_writes_junk_eq_canon _ _).trans (View.canon_unit_zero (funext (by decide)) _ _), every_lanes ?_ ?_ ?_ ?_⟩
  all_goals
    rw [ld_readCov _ _ _ (by decide)]
    simp (disch := decide) only [↓ View.readCov_skip, ↓ View.readCov_cons_toLoadRect, ↓ View.readCov_fill]
    frame_out
    repeat rw [read_unread_whole]
    repeat rw [Memref.IsWhole.read_unread]
    rfl

end Cert.KernelIdeal.Block
-- ==== Proof.Gmlp.Fold.lean ====
/- What the gating MLP's backward kernel leaves in its five results, in real numbers. -/
module

public import proofs.«01_k».proof.Proof.Gmlp.Step
public import proofs.«01_k».proof.Proof.Gmlp.BodyA
public import proofs.«01_k».proof.Proof.Gmlp.BodyB
public import proofs.«01_k».proof.Proof.Gmlp.BodyC

@[expose] public section

set_option maxRecDepth 16384
set_option maxHeartbeats 1000000

noncomputable section

namespace Cert.KernelIdeal.Block

open Cert.Gmlp Cert.KernelIdeal Cert.KernelIdeal.Gen Idealize.ShloMosaic Idealize.ShloMosaic.TcCoe Idealize.SL.Sem

variable {Z : Fin 64 → Fin 128 → Fin 1024 → ℝ} {D : Fin 64 → Fin 128 → Fin 512 → ℝ} {G B : Fin 512 → ℝ} {W : Fin 8 → Fin 128 → Fin 128 → ℝ}
  {m : (ℓ : Loc nD τ sig) → Buf (Elt Ideal) ℓ} {c : Dev nD} {A : Fin 8 → Fin 128 → ℝ} (H : Holds m c Z D G B W A)

include H

/-- The state after a point that is not the last. -/
theorem early (n : ℕ) (hn : n < cfg0.N) (h7 : n < 7) :
    (∀ j r k, (zpart (outsAt0 m c n hn).1 j (ix2 r k) : EReal) = ((DZ (Z (blockOf ⟨n, hn⟩ j)) (D (blockOf ⟨n, hn⟩ j)) G B (below W) A r k : ℝ) : EReal))
    ∧ (∀ g r q, (page (outsAt0 m c n hn).2.2.2.2.2.1 g (ix3 0 r q) : EReal) = ((below W g r q : ℝ) : EReal))
    ∧ Sums Z D G B W (n + 1) (page (outsAt0 m c n hn).2.1) (outsAt0 m c n hn).2.2.2.1 (outsAt0 m c n hn).2.2.2.2.1 (lanes (outsAt0 m c n hn).2.2.2.2.2.2) := by
  induction n with
  | zero =>
    have P := pass_A m c ⟨0, hn⟩ Value.junk0 (Nat.zero_mod 8) (by show ¬0 % 8 = 7; omega)
    have e : outsAt0 m c 0 hn = Value.stAt0 m c 0 hn Value.junk0 := Value.outsAt0_zero m c hn
    rw [e]
    obtain ⟨hz, w, hw, hs⟩ := pass_real H ⟨0, hn⟩ P (kept_real H ⟨0, hn⟩) sums_zero
    obtain rfl : _ = w := funext hw
    exact ⟨hz, fun g r q => (congrFun (P.wc g) _).trans (kept_real H ⟨0, hn⟩ g r q), hs⟩
  | succ n ih =>
    obtain ⟨-, iw, is⟩ := ih (Nat.lt_of_succ_lt hn) (by omega)
    have P := pass_B m c ⟨n + 1, hn⟩ (outsAt0 m c n (Nat.lt_of_succ_lt hn)) (by show ¬(n + 1) % 8 = 0; omega) (by show ¬(n + 1) % 8 = 7; omega)
    have e := Value.outsAt0_succ m c n hn
    rw [e]
    obtain ⟨hz, w, hw, hs⟩ := pass_real H ⟨n + 1, hn⟩ P iw is
    obtain rfl : _ = w := funext hw
    exact ⟨hz, fun g r q => (congrFun (P.wc g) _).trans (iw g r q), hs⟩

/-- The state after the last point. -/
theorem final (hn : 7 < cfg0.N) :
    (∀ j r k, (zpart (outsAt0 m c 7 hn).1 j (ix2 r k) : EReal) = ((DZ (Z (blockOf ⟨7, hn⟩ j)) (D (blockOf ⟨7, hn⟩ j)) G B (below W) A r k : ℝ) : EReal))
    ∧ ∃ w, (∀ g, page (outsAt0 m c 7 hn).2.1 g = trimmed (w g))
      ∧ Sums Z D G B W 8 w (outsAt0 m c 7 hn).2.2.2.1 (outsAt0 m c 7 hn).2.2.2.2.1 (lanes (outsAt0 m c 7 hn).2.2.2.2.2.2) := by
  obtain ⟨-, iw, is⟩ := early H 6 (Nat.lt_of_succ_lt hn) (by omega)
  have P := pass_C m c ⟨7, hn⟩ (outsAt0 m c 6 (Nat.lt_of_succ_lt hn)) (by show ¬7 % 8 = 0; omega) (by show 7 % 8 = 7; omega)
  have e := Value.outsAt0_succ m c 6 hn
  rw [e]
  exact pass_real H ⟨7, hn⟩ P iw is

/-- The gradient of the gates' inputs. -/
theorem dz_result (n : Fin 64) (r : Fin 128) (k : Fin 1024) :
    (Value.G6 m c (ix2 (rowOf n r) k) : EReal) = ((DZ (Z n) (D n) G B (below W) A r k : ℝ) : EReal) := by
  have hp : Value.pt6Of (ix2 (rowOf n r) k) = n.val / 8 := by
    show 1 * ((128 * n.val + r.val) / 1024 - 0) + 1 * (k.val / 1024 - 0) = _
    omega
  have hN : n.val / 8 < cfg0.N := lt_of_lt_of_eq (by omega) N_0.symm
  have hb : blockOf ⟨n.val / 8, hN⟩ ⟨n.val % 8, by omega⟩ = n := Fin.ext (by show 8 * (n.val / 8) + n.val % 8 = n.val; omega)
  have e : (Value.G6 m c (ix2 (rowOf n r) k) : EReal) = (zpart (outsAt0 m c (n.val / 8) hN).1 ⟨n.val % 8, by omega⟩ (ix2 r k) : EReal) := by
    unfold Value.G6
    rw [dif_pos (by rw [hp]; exact hN), Value.fold0_congr m c _ _ _ (by omega) hp, ← Value.outsAt0_sweep m c _ hN]
    refine congrArg (outsAt0 m c (n.val / 8) hN).1 (funext fun a => Fin.ext ?_)
    match a with
    | ⟨0, _⟩ => show (128 * n.val + r.val) % 1024 = 128 * (n.val % 8) + 1 * r.val; omega
    | ⟨1, _⟩ => show k.val % 1024 = 0 + 1 * k.val; omega
  refine e.trans ?_
  by_cases h7 : n.val / 8 < 7
  · exact ((early H _ hN h7).1 _ r k).trans (by rw [hb])
  · have h8 : n.val / 8 = 7 := by omega
    have q : ∀ (i : ℕ) (hi : i < cfg0.N), i = 7 → ∀ j r k, (zpart (outsAt0 m c i hi).1 j (ix2 r k) : EReal) = ((DZ (Z (blockOf ⟨i, hi⟩ j)) (D (blockOf ⟨i, hi⟩ j)) G B (below W) A r k : ℝ) : EReal) := by
      rintro i hi rfl
      exact (final H hi).1
    exact (q _ hN h8 _ r k).trans (by rw [hb])

/-- The gradient of the spatial weights. -/
theorem dws_result (h : Fin 8) (t s : Fin 128) :
    (Value.G7 m c (ix3 h t s) : EReal) = ((if s.val ≤ t.val then ∑ n, DW (Z n) (D n) G B h t s else 0 : ℝ) : EReal) := by
  have hN : 7 < cfg0.N := lt_of_lt_of_eq (by decide) N_0.symm
  obtain ⟨-, w, hw, hs⟩ := final H hN
  have e : (Value.G7 m c (ix3 h t s) : EReal) = (trimmed (w h) (ix3 0 t s) : EReal) := by
    rw [Value.G7_last, ← Value.outsAt0_sweep m c 7 hN, ← hw, page_val]
  refine e.trans ((trimmed_at (w h) t s).trans ?_)
  rw [hs.w, upto_all]
  split_ifs <;> simp

/-- The gradient of the spatial biases. -/
theorem dbs_result (h : Fin 8) (t : Fin 128) :
    (Value.G8 m c (ix2 h t) : EReal) = ((∑ e, ∑ n, DS (Z n) (D n) t (col h e) : ℝ) : EReal) := by
  have hN : 7 < cfg0.N := lt_of_lt_of_eq (by decide) N_0.symm
  obtain ⟨-, iw, is⟩ := early H 6 (Nat.lt_of_succ_lt hN) (by omega)
  obtain ⟨X, e1, e2⟩ := bias_C m c ⟨7, hN⟩ (outsAt0 m c 6 (Nat.lt_of_succ_lt hN)) (by show ¬7 % 8 = 0; omega) (by show 7 % 8 = 7; omega)
  have e : (Value.G8 m c (ix2 h t) : EReal) = (k0_pay22 X (ix2 h t) : EReal) := by
    rw [Value.G8_last, ← Value.outsAt0_sweep m c 7 hN, Value.outsAt0_succ m c 6 hN, ← e1]
  refine e.trans ((pick_real (Y := fun t k => ∑ n, DS (Z n) (D n) t k) (fun p t q => ?_) h t))
  rw [e2]
  refine (lanes_step H ⟨7, hN⟩ is.a p t q).trans ?_
  rw [← upto_all]

/-- The gradient of the layer norm's gain. -/
theorem dlg_result (k : Fin 512) : (Value.G9 m c (ix2 0 k) : EReal) = ((∑ n, ∑ t, DV (Z n) (D n) (below W) t k * XH (Z n) t k : ℝ) : EReal) := by
  have hN : 7 < cfg0.N := lt_of_lt_of_eq (by decide) N_0.symm
  obtain ⟨-, w, hw, hs⟩ := final H hN
  have e : (Value.G9 m c (ix2 0 k) : EReal) = ((outsAt0 m c 7 hN).2.2.2.1 (ix2 0 k) : EReal) := by
    rw [Value.G9_last, ← Value.outsAt0_sweep m c 7 hN]
  exact e.trans ((hs.g k).trans (by rw [upto_all]))

/-- The gradient of the layer norm's offset. -/
theorem dlb_result (k : Fin 512) : (Value.G10 m c (ix2 0 k) : EReal) = ((∑ n, ∑ t, DV (Z n) (D n) (below W) t k : ℝ) : EReal) := by
  have hN : 7 < cfg0.N := lt_of_lt_of_eq (by decide) N_0.symm
  obtain ⟨-, w, hw, hs⟩ := final H hN
  have e : (Value.G10 m c (ix2 0 k) : EReal) = ((outsAt0 m c 7 hN).2.2.2.2.1 (ix2 0 k) : EReal) := by
    rw [Value.G10_last, ← Value.outsAt0_sweep m c 7 hN]
  exact e.trans ((hs.b k).trans (by rw [upto_all]))

end Cert.KernelIdeal.Block
-- ==== Proof.Gmlp.RefBase.lean ====
/- The reference's forward half in real numbers: the gates and the layer norm, stage by stage. -/
module

public import proofs.«01_k».proof.Proof.Gmlp.Inputs

@[expose] public section

set_option maxRecDepth 16384
set_option maxHeartbeats 1000000

noncomputable section

namespace Cert.Gmlp

open Idealize.ShloMosaic

/-- A number of the program is this real number. -/
def Is (a : Ideal .f32) (x : ℝ) : Prop := (a : EReal) = (x : EReal)

namespace Is

variable {a b : Ideal .f32} {x y : ℝ}

theorem of (e : a = b) (h : Is b x) : Is a x := (show (a : EReal) = (b : EReal) from e).trans h
theorem be (h : Is a x) (e : x = y) : Is a y := e ▸ h
theorem at_ {S : Shape} {X : S.Idx → Ideal .f32} {i j : S.Idx} (h : Is (X i) x) (e : j = i) : Is (X j) x := e ▸ h
theorem mul (h : Is a x) (k : Is b y) : Is (FloatOps.mulf a b) (x * y) :=
  (congrArg₂ (fun p q : EReal => p * q) h k).trans (EReal.coe_mul x y).symm
theorem add (h : Is a x) (k : Is b y) : Is (FloatOps.addf a b) (x + y) :=
  (congrArg₂ (fun p q : EReal => p + q) h k).trans (EReal.coe_add x y).symm
theorem sub (h : Is a x) (k : Is b y) : Is (FloatOps.subf a b) (x - y) :=
  (congrArg₂ (fun p q : EReal => p - q) h k).trans (EReal.coe_sub x y).symm
theorem neg (h : Is a x) : Is (FloatOps.hostNegf a) (-x) :=
  (congrArg (fun p : EReal => -p) h).trans (EReal.coe_neg x).symm
theorem tanh (h : Is a x) : Is (FloatOps.hostUnary .tanh a) (Real.tanh x) :=
  (congrArg Ideal.tanh h).trans (Ideal.tanh_coe x)
theorem rsqrt (h : Is a x) (p : 0 < x) : Is (FloatOps.hostUnary .rsqrt a) (Real.sqrt x)⁻¹ :=
  (congrArg Ideal.rsqrt h).trans (rsqrt_pos p)
theorem div (h : Is a x) (k : Is b y) (p : y ≠ 0) : Is (FloatOps.hostDivf a b) (x * (1 / y)) :=
  (congrArg₂ Ideal.div h k).trans ((Ideal.div_coe p _).trans (EReal.coe_mul x (1 / y)).symm)
theorem total {ι : Type} [Fintype ι] {f : ι → EReal} {g : ι → ℝ} (h : ∀ k, f k = (g k : EReal)) : (∑ k, f k) = ((∑ k, g k : ℝ) : EReal) :=
  (Finset.sum_congr rfl fun k _ => h k).trans (coe_sum Finset.univ g).symm
theorem red {ι : Type} [Fintype ι] {c f : EReal} {F : ι → EReal} {g : ι → ℝ} (e : f = c + ∑ k, F k) (z : c = ((0 : ℝ) : EReal))
    (h : ∀ k, F k = (g k : EReal)) : f = ((∑ k, g k : ℝ) : EReal) := by
  rw [e, z, total h, EReal.coe_zero, zero_add]

end Is

end Cert.Gmlp

namespace Cert.ReferenceIdeal.Real

open Cert.KernelIdeal.Block (rowOf below)
open Cert.Gmlp Cert.ReferenceIdeal Cert.ReferenceIdeal.Gen Cert.ReferenceIdeal.Read Idealize.ShloMosaic

/-- The reference's arguments, in real numbers. -/
structure Given (x0 : (⟨S8192x1024, .bf16⟩ : BufTy).Contents (Elt Ideal)) (x1 : (⟨S8192x512, .bf16⟩ : BufTy).Contents (Elt Ideal))
    (x2 x3 : (⟨S1x512, .f32⟩ : BufTy).Contents (Elt Ideal)) (x4 : (⟨S1x8x128x128, .f32⟩ : BufTy).Contents (Elt Ideal))
    (x5 : (⟨S1x8x128, .f32⟩ : BufTy).Contents (Elt Ideal)) (Z : Fin 64 → Fin 128 → Fin 1024 → ℝ) (D : Fin 64 → Fin 128 → Fin 512 → ℝ) (G B : Fin 512 → ℝ)
    (W : Fin 8 → Fin 128 → Fin 128 → ℝ) (A : Fin 8 → Fin 128 → ℝ) : Prop where
  z : ∀ n t k, (x0 (ix2 (rowOf n t) k) : EReal) = ((Z n t k : ℝ) : EReal)
  d : ∀ n t k, (x1 (ix2 (rowOf n t) k) : EReal) = ((D n t k : ℝ) : EReal)
  g : ∀ k, (x2 (ix2 0 k) : EReal) = ((G k : ℝ) : EReal)
  b : ∀ k, (x3 (ix2 0 k) : EReal) = ((B k : ℝ) : EReal)
  w : ∀ h t s, (x4 (ix4 0 h t s) : EReal) = ((W h t s : ℝ) : EReal)
  a : ∀ h t, (x5 (ix3 0 h t) : EReal) = ((A h t : ℝ) : EReal)

variable {x0 : (⟨S8192x1024, .bf16⟩ : BufTy).Contents (Elt Ideal)} {x1 : (⟨S8192x512, .bf16⟩ : BufTy).Contents (Elt Ideal)}
  {x2 x3 : (⟨S1x512, .f32⟩ : BufTy).Contents (Elt Ideal)} {x4 : (⟨S1x8x128x128, .f32⟩ : BufTy).Contents (Elt Ideal)}
  {x5 : (⟨S1x8x128, .f32⟩ : BufTy).Contents (Elt Ideal)} {Z : Fin 64 → Fin 128 → Fin 1024 → ℝ} {D : Fin 64 → Fin 128 → Fin 512 → ℝ} {G B : Fin 512 → ℝ}
  {W : Fin 8 → Fin 128 → Fin 128 → ℝ} {A : Fin 8 → Fin 128 → ℝ}

theorem word_8943 : Ideal.ofBits .f32 0x460BBC00#32 = ((8943 : ℝ) : EReal) := by
  simp [Ideal.ofBits, Ideal.ieee, -EReal.coe_mul]; norm_num
theorem word_200000 : Ideal.ofBits .f32 0x48435000#32 = ((200000 : ℝ) : EReal) := by
  simp [Ideal.ofBits, Ideal.ieee, -EReal.coe_mul]; norm_num

/-- The coefficient. -/
theorem v6 (i : S_.Idx) : Is (val_main_v6 (F := Ideal) i) cub :=
  Is.be (Is.of (val_main_v6_apply i) (Is.div (Is.of (val_main_cst_apply i) word_8943) (Is.of (val_main_cst_0_apply i) word_200000) (by norm_num)))
    (by unfold cub; norm_num)

section gates

variable (H : Given x0 x1 x2 x3 x4 x5 Z D G B W A) (n : Fin 64) (t : Fin 128)
include H

theorem v1 (k : Fin 1024) : Is (val_main_v1 (F := Ideal) x0 (ix3 0 (rowOf n t) k)) (Z n t k) :=
  Is.of (val_main_v1_apply x0 _) (Is.of (val_main_v0_apply x0 _) ((congrArg x0 (eq_ix2 _)).trans (H.z n t k)))

theorem v17 (k : Fin 1024) : Is (val_main_v17 (F := Ideal) x0 (ix3 0 (rowOf n t) k)) (tnh (Z n t k)) := by
  have z := v1 H n t k
  refine Is.of (val_main_v17_apply x0 _) (Is.tanh (Is.be (Is.of (val_main_v16_apply x0 _) (Is.mul
    (Is.of (val_main_v15_apply _) (Is.of (val_main_cst_2_apply _) word_root))
    (Is.of (val_main_v14_apply x0 _) (Is.add z (Is.of (val_main_v13_apply x0 _) (Is.mul (Is.of (val_main_v12_apply _) (v6 _))
      (Is.of (val_main_v8_apply x0 _) (Is.mul (Is.of (val_main_v7_apply x0 _) (Is.mul z z)) z)))))))) ?_))
  ring

theorem v22 (k : Fin 1024) : Is (val_main_v22 (F := Ideal) x0 (ix3 0 (rowOf n t) k)) ((1 + tnh (Z n t k)) * (1 - tnh (Z n t k))) :=
  Is.of (val_main_v22_apply x0 _) (Is.mul
    (Is.of (val_main_v19_apply x0 _) (Is.add (Is.of (val_main_v18_apply _) (Is.of (val_main_cst_3_apply _) word_one)) (v17 H n t k)))
    (Is.of (val_main_v21_apply x0 _) (Is.sub (Is.of (val_main_v20_apply _) (Is.of (val_main_cst_4_apply _) word_one)) (v17 H n t k))))

theorem v26 (k : Fin 1024) : Is (val_main_v26 (F := Ideal) x0 (ix3 0 (rowOf n t) k)) (1 / 2 * (1 + tnh (Z n t k))) :=
  Is.of (val_main_v26_apply x0 _) (Is.mul (Is.of (val_main_v25_apply _) (Is.of (val_main_cst_6_apply _) word_half))
    (Is.of (val_main_v24_apply x0 _) (Is.add (Is.of (val_main_v23_apply _) (Is.of (val_main_cst_5_apply _) word_one)) (v17 H n t k))))

theorem v27 (k : Fin 1024) : Is (val_main_v27 (F := Ideal) x0 (ix3 0 (rowOf n t) k)) (gelu (Z n t k)) :=
  Is.be (Is.of (val_main_v27_apply x0 _) (Is.mul (v1 H n t k) (v26 H n t k))) (by unfold gelu; ring)

theorem v28 (k : Fin 512) : Is (val_main_v28 (F := Ideal) x0 (ix3 0 (rowOf n t) k)) (U (Z n) t k) :=
  Is.of (val_main_v28_apply x0 _) (Is.at_ (v27 H n t (lo k)) (by
    funext a
    refine Fin.ext ?_
    match a with
    | ⟨0, _⟩ => rfl
    | ⟨1, _⟩ => rfl
    | ⟨2, _⟩ => rfl))

theorem v29 (k : Fin 512) : Is (val_main_v29 (F := Ideal) x0 (ix3 0 (rowOf n t) k)) (V (Z n) t k) :=
  Is.of (val_main_v29_apply x0 _) (Is.at_ (v27 H n t (hi k)) (by
    funext a
    refine Fin.ext ?_
    match a with
    | ⟨0, _⟩ => rfl
    | ⟨1, _⟩ => rfl
    | ⟨2, _⟩ => rfl))

theorem v33 : Is (val_main_v33 (F := Ideal) x0 (ix3 0 (rowOf n t) 0)) (mn (V (Z n) t)) :=
  Is.of (val_main_v33_apply x0 _) (Is.div
    (Is.of (val_main_v31_apply x0 _) (Is.red (val_main_v30_apply x0 _) word_zero fun k => Is.at_ (X := val_main_v29 (F := Ideal) x0) (v29 H n t k) (eq_ix3 _)))
    (Is.of (val_main_v32_apply _) (Is.of (val_main_cst_8_apply _) word_512)) (by norm_num))

theorem v35 (k : Fin 512) : Is (val_main_v35 (F := Ideal) x0 (ix3 0 (rowOf n t) k)) (XC (Z n) t k) :=
  Is.of (val_main_v35_apply x0 _) (Is.sub (v29 H n t k) (Is.of (val_main_v34_apply x0 _) (Is.at_ (v33 H n t) (eq_ix3 _))))

theorem v38 (k : Fin 512) : Is (val_main_v38 (F := Ideal) x0 (ix3 0 (rowOf n t) k)) (2 * XC (Z n) t k) :=
  Is.of (val_main_v38_apply x0 _) (Is.mul (Is.of (val_main_v37_apply _) (Is.of (val_main_cst_9_apply _) word_two)) (v35 H n t k))

theorem v42 : Is (val_main_v42 (F := Ideal) x0 (ix3 0 (rowOf n t) 0)) (mn fun k => XC (Z n) t k * XC (Z n) t k) :=
  Is.of (val_main_v42_apply x0 _) (Is.div
    (Is.of (val_main_v40_apply x0 _) (Is.red (val_main_v39_apply x0 _) word_zero fun k =>
      Is.at_ (X := val_main_v36 (F := Ideal) x0) (Is.of (val_main_v36_apply x0 _) (Is.mul (v35 H n t k) (v35 H n t k))) (eq_ix3 _)))
    (Is.of (val_main_v41_apply _) (Is.of (val_main_cst_11_apply _) word_512)) (by norm_num))

theorem v44 (k : Fin 512) : Is (val_main_v44 (F := Ideal) x0 (ix3 0 (rowOf n t) k)) (XC (Z n) t k) :=
  Is.of (val_main_v44_apply x0 _) (Is.sub (v29 H n t k) (Is.of (val_main_v43_apply x0 _) (Is.at_ (v33 H n t) (eq_ix3 _))))

theorem v46 : Is (val_main_v46 (F := Ideal) x0 (ix3 0 (rowOf n t) 0)) (VR (Z n) t) :=
  Is.of (val_main_v46_apply x0 _) (Is.add (v42 H n t) (Is.of (val_main_v45_apply _) (Is.of (val_main_cst_12_apply _) word_tiny)))

theorem v47 : Is (val_main_v47 (F := Ideal) x0 (ix3 0 (rowOf n t) 0)) (RS (Z n) t) :=
  Is.of (val_main_v47_apply x0 _) (Is.rsqrt (v46 H n t) (VR_pos (Z n) t))

theorem v50 : Is (val_main_v50 (F := Ideal) x0 (ix3 0 (rowOf n t) 0)) (-(1 / 2) * (RS (Z n) t * (1 / VR (Z n) t))) :=
  Is.of (val_main_v50_apply x0 _) (Is.mul (Is.of (val_main_v49_apply _) (Is.of (val_main_cst_13_apply _) word_neg_half))
    (Is.of (val_main_v48_apply x0 _) (Is.div (v47 H n t) (v46 H n t) (VR_pos (Z n) t).ne')))

theorem v52 (k : Fin 512) : Is (val_main_v52 (F := Ideal) x0 (ix3 0 (rowOf n t) k)) (XH (Z n) t k) :=
  Is.of (val_main_v52_apply x0 _) (Is.mul (v44 H n t k) (Is.of (val_main_v51_apply x0 _) (Is.at_ (v47 H n t) (eq_ix3 _))))

omit n t in
theorem v53 (k : Fin 512) : Is (val_main_v53 (F := Ideal) x2 (ix3 0 0 k)) (G k) :=
  Is.of (val_main_v53_apply x2 _) (Is.of (val_main_v4_apply x2 _) ((congrArg x2 (by
    funext a
    refine Fin.ext ?_
    match a with
    | ⟨0, _⟩ => rfl
    | ⟨1, _⟩ => exact Nat.mod_eq_of_lt k.isLt)).trans (H.g k)))

omit n t in
theorem v56 (k : Fin 512) : Is (val_main_v56 (F := Ideal) x3 (ix3 0 0 k)) (B k) :=
  Is.of (val_main_v56_apply x3 _) (Is.of (val_main_v5_apply x3 _) ((congrArg x3 (by
    funext a
    refine Fin.ext ?_
    match a with
    | ⟨0, _⟩ => rfl
    | ⟨1, _⟩ => exact Nat.mod_eq_of_lt k.isLt)).trans (H.b k)))

theorem v58 (k : Fin 512) : Is (val_main_v58 (F := Ideal) x0 x2 x3 (ix3 0 (rowOf n t) k)) (LN (Z n) G B t k) :=
  Is.of (val_main_v58_apply x0 x2 x3 _) (Is.add
    (Is.of (val_main_v55_apply x0 x2 _) (Is.mul (v52 H n t k) (Is.of (val_main_v54_apply x2 _) (Is.at_ (v53 H k) (eq_ix3 _)))))
    (Is.of (val_main_v57_apply x3 _) (Is.at_ (v56 H k) (eq_ix3 _))))

end gates

end Cert.ReferenceIdeal.Real
-- ==== Proof.Gmlp.RefMid.lean ====
/- The reference's gating in real numbers: the causal weights, the gate's sums, and the gradients of the weights, of the biases and of the normalised rows. -/
module

public import proofs.«01_k».proof.Proof.Gmlp.RefBase
public import proofs.«01_k».proof.Proof.Gmlp.Step

@[expose] public section

set_option maxRecDepth 16384
set_option maxHeartbeats 1000000

noncomputable section

namespace Cert.Gmlp

open Idealize.ShloMosaic

/-- A sum over several axes, by any listing of the elements that it adds. -/
theorem reduce_over {s t : Shape} {axes : List (Fin s.rank)} (h : s.ReducesTo axes t) (x : s.Idx → EReal) (init : EReal) (j : t.Idx) {ι : Type} [Fintype ι]
    (e : ι → s.Idx) (inj : Function.Injective e) (on : ∀ k, h.drop (e k) = j) (out : ∀ i, h.drop i = j → ∃ k, e k = i) :
    Ideal.hostReduceAdd h x init j = init + ∑ k, x (e k) := by
  unfold Ideal.hostReduceAdd
  refine congrArg (fun v : EReal => init + v) (Finset.sum_bij (fun k _ => e k) (fun k _ => ?_) (fun _ _ _ _ h => inj h) (fun i hi => ?_) fun _ _ => rfl).symm
  · exact Finset.mem_filter.mpr ⟨Finset.mem_univ _, on k⟩
  · obtain ⟨k, hk⟩ := out i (Finset.mem_filter.mp hi).2
    exact ⟨k, Finset.mem_univ _, hk⟩

/-- The one coordinate of an axis of size one. -/
theorem one_only (a : Fin 1) : a = 0 := Fin.ext (Nat.lt_one_iff.mp a.isLt)

/-- Every column is a head's. -/
theorem col_all (k : Fin 512) : ∃ (h : Fin 8) (e : Fin 64), k = col h e :=
  ⟨hh k, ⟨k.val % 64, Nat.mod_lt _ (by decide)⟩, Fin.ext (by show k.val = 64 * (k.val / 64) + k.val % 64; omega)⟩

end Cert.Gmlp

namespace Cert.ReferenceIdeal.Real

open Cert.KernelIdeal.Block (rowOf below hh_col)
open Cert.Gmlp Cert.ReferenceIdeal Cert.ReferenceIdeal.Gen Cert.ReferenceIdeal.Read Idealize.ShloMosaic

variable {x0 : (⟨S8192x1024, .bf16⟩ : BufTy).Contents (Elt Ideal)} {x1 : (⟨S8192x512, .bf16⟩ : BufTy).Contents (Elt Ideal)}
  {x2 x3 : (⟨S1x512, .f32⟩ : BufTy).Contents (Elt Ideal)} {x4 : (⟨S1x8x128x128, .f32⟩ : BufTy).Contents (Elt Ideal)}
  {x5 : (⟨S1x8x128, .f32⟩ : BufTy).Contents (Elt Ideal)} {Z : Fin 64 → Fin 128 → Fin 1024 → ℝ} {D : Fin 64 → Fin 128 → Fin 512 → ℝ} {G B : Fin 512 → ℝ}
  {W : Fin 8 → Fin 128 → Fin 128 → ℝ} {A : Fin 8 → Fin 128 → ℝ}

/-- A row and a column of the whole array, from a block, a row of it, a head and a column of that. -/
theorem split_rows (n : Fin 64) (t : Fin 128) (h : Fin 8) (e : Fin 64) : idx_main_v59 (ix5 0 n t h e) = ix3 0 (rowOf n t) (col h e) := by
  funext a
  refine Fin.ext ?_
  match a with
  | ⟨0, _⟩ => rfl
  | ⟨1, _⟩ =>
    show ((((0 * 64 + n.val) * 128 + t.val) * 8 + h.val) * 64 + e.val) / 512 % 8192 = 128 * n.val + t.val
    omega
  | ⟨2, _⟩ =>
    show ((((0 * 64 + n.val) * 128 + t.val) * 8 + h.val) * 64 + e.val) % 512 = 64 * h.val + e.val
    omega

/-- And back. -/
theorem join_rows (n : Fin 64) (t : Fin 128) (h : Fin 8) (e : Fin 64) : idx_main_v71 (ix3 0 (rowOf n t) (col h e)) = ix5 0 n t h e := by
  funext a
  refine Fin.ext ?_
  match a with
  | ⟨0, _⟩ => rfl
  | ⟨1, _⟩ =>
    show ((0 * 8192 + (128 * n.val + t.val)) * 512 + (64 * h.val + e.val)) / 65536 % 64 = n.val
    omega
  | ⟨2, _⟩ =>
    show ((0 * 8192 + (128 * n.val + t.val)) * 512 + (64 * h.val + e.val)) / 512 % 128 = t.val
    omega
  | ⟨3, _⟩ =>
    show ((0 * 8192 + (128 * n.val + t.val)) * 512 + (64 * h.val + e.val)) / 64 % 8 = h.val
    omega
  | ⟨4, _⟩ =>
    show ((0 * 8192 + (128 * n.val + t.val)) * 512 + (64 * h.val + e.val)) % 64 = e.val
    omega

/-- The lower triangle. -/
theorem tril_word : ∀ t s : Fin 128, IntOp.cmpi .sge (IntOp.addi (BitVec.ofNat 32 t.val) 0#32) (BitVec.ofNat 32 s.val) = if s.val ≤ t.val then 1#1 else 0#1 := by
  decide +kernel

theorem v61 (t s : Fin 128) : Is (val_main_v61 (F := Ideal) (ix2 t s)) (if s.val ≤ t.val then 1 else 0) := by
  have e : val_main_call0_v4 (F := Ideal) (ix2 t s) = if s.val ≤ t.val then 1#1 else 0#1 := by
    rw [val_main_call0_v4_apply, val_main_call0_v2_apply, val_main_call0_v0_apply, val_main_call0_v3_apply, val_main_call0_v1_apply, val_main_call0_c_apply]
    exact tril_word t s
  have one : Is (val_main_v60 (F := Ideal) (ix2 t s)) 1 := Is.of (val_main_v60_apply _) (Is.of (val_main_cst_14_apply _) word_one)
  have none : Is (val_main_call0_v5 (F := Ideal) (ix2 t s)) 0 := Is.of (val_main_call0_v5_apply _) (Is.of (val_main_call0_cst_apply _) word_zero)
  refine Is.of (val_main_v61_apply _) ?_
  rw [e]
  by_cases hs : s.val ≤ t.val
  · rw [if_pos hs, if_pos hs]; exact one
  · rw [if_neg hs, if_neg hs]; exact none

theorem v62 (t s : Fin 128) : Is (val_main_v62 (F := Ideal) (ix3 0 t s)) (if s.val ≤ t.val then 1 else 0) :=
  Is.of (val_main_v62_apply _) (Is.at_ (v61 t s) (eq_ix2 _))

section gate

variable (H : Given x0 x1 x2 x3 x4 x5 Z D G B W A)
include H

theorem v64 (h : Fin 8) (t s : Fin 128) : Is (val_main_v64 (F := Ideal) x4 (ix3 h t s)) (below W h t s) := by
  have w : Is (val_main_v2 (F := Ideal) x4 (ix3 h t s)) (W h t s) := Is.of (val_main_v2_apply x4 _) ((congrArg x4 (by
    funext a
    refine Fin.ext ?_
    match a with
    | ⟨0, _⟩ => rfl
    | ⟨1, _⟩ => show ((h.val * 128 + t.val) * 128 + s.val) / 16384 % 8 = h.val; omega
    | ⟨2, _⟩ => show ((h.val * 128 + t.val) * 128 + s.val) / 128 % 128 = t.val; omega
    | ⟨3, _⟩ => show ((h.val * 128 + t.val) * 128 + s.val) % 128 = s.val; omega)).trans (H.w h t s))
  refine Is.be (Is.of (val_main_v64_apply x4 _) (Is.mul w (Is.of (val_main_v63_apply _) (Is.at_ (v62 t s) (eq_ix3 _))))) ?_
  unfold below
  by_cases hs : s.val ≤ t.val <;> simp [hs]

variable (n : Fin 64)

theorem v59 (t : Fin 128) (h : Fin 8) (e : Fin 64) : Is (val_main_v59 (F := Ideal) x0 x2 x3 (ix5 0 n t h e)) (LN (Z n) G B t (col h e)) :=
  Is.of (val_main_v59_apply x0 x2 x3 _) (Is.at_ (v58 H n t (col h e)) (split_rows n t h e))

theorem v70 (t : Fin 128) (h : Fin 8) (e : Fin 64) : Is (val_main_v70 (F := Ideal) x0 x2 x3 x4 x5 (ix5 0 n t h e)) (SP (Z n) G B (below W) A t (col h e)) := by
  have l : Is (val_main_v65 (F := Ideal) x0 x2 x3 x4 (ix5 h 0 n e t)) (∑ s, below W h t s * LN (Z n) G B s (col h e)) :=
    Is.of (val_main_v65_apply x0 x2 x3 x4 _) (Is.total fun s => (Is.be (Is.mul
      (Is.at_ (X := val_main_v59 (F := Ideal) x0 x2 x3) (v59 H n s h e) (eq_ix5 _)) (Is.at_ (X := val_main_v64 (F := Ideal) x4) (v64 H h t s) (eq_ix3 _))) (mul_comm _ _)))
  have a : Is (val_main_v69 (F := Ideal) x5 (ix5 0 n t h e)) (A h t) :=
    Is.of (val_main_v69_apply x5 _) (Is.of (val_main_v68_apply x5 _) (Is.of (val_main_v67_apply x5 _) (Is.of (val_main_v3_apply x5 _) ((congrArg x5 (by
      funext a
      refine Fin.ext ?_
      match a with
      | ⟨0, _⟩ => rfl
      | ⟨1, _⟩ => show (h.val * 128 + t.val) / 128 % 8 = h.val; omega
      | ⟨2, _⟩ => show (h.val * 128 + t.val) % 128 = t.val; omega)).trans (H.a h t)))))
  refine Is.be (Is.of (val_main_v70_apply x0 x2 x3 x4 x5 _) (Is.add (Is.of (val_main_v66_apply x0 x2 x3 x4 _) (Is.at_ l (eq_ix5 _))) a)) ?_
  unfold SP
  rw [hh_col]

theorem v71 (t : Fin 128) (k : Fin 512) : Is (val_main_v71 (F := Ideal) x0 x2 x3 x4 x5 (ix3 0 (rowOf n t) k)) (SP (Z n) G B (below W) A t k) := by
  obtain ⟨h, e, rfl⟩ := col_all k
  exact Is.of (val_main_v71_apply x0 x2 x3 x4 x5 _) (Is.at_ (v70 H n t h e) (join_rows n t h e))

theorem v74 (t : Fin 128) (k : Fin 512) : Is (val_main_v74 (F := Ideal) x1 (ix3 0 (rowOf n t) k)) (D n t k) :=
  Is.of (val_main_v74_apply x1 _) (Is.of (val_main_v73_apply x1 _) ((congrArg x1 (eq_ix2 _)).trans (H.d n t k)))

theorem v76 (t : Fin 128) (k : Fin 512) : Is (val_main_v76 (F := Ideal) x0 x1 x2 x3 x4 x5 (ix3 0 (rowOf n t) k)) (DU (Z n) (D n) G B (below W) A t k) :=
  Is.of (val_main_v76_apply x0 x1 x2 x3 x4 x5 _) (Is.mul (v74 H n t k) (v71 H n t k))

theorem v77 (t : Fin 128) (h : Fin 8) (e : Fin 64) : Is (val_main_v77 (F := Ideal) x0 x1 (ix5 0 n t h e)) (DS (Z n) (D n) t (col h e)) :=
  Is.of (val_main_v77_apply x0 x1 _) (Is.at_ (Is.be (Is.of (val_main_v75_apply x0 x1 _) (Is.mul (v28 H n t (col h e)) (v74 H n t (col h e)))) (mul_comm _ _)) (split_rows n t h e))

theorem v82 (t : Fin 128) (h : Fin 8) (e : Fin 64) : Is (val_main_v82 (F := Ideal) x0 x1 (ix5 h 0 n e t)) (DS (Z n) (D n) t (col h e)) :=
  Is.of (val_main_v82_apply x0 x1 _) (Is.at_ (v77 H n t h e) (eq_ix5 _))

theorem v88 (s : Fin 128) (k : Fin 512) : Is (val_main_v88 (F := Ideal) x0 x1 x4 (ix3 0 (rowOf n s) k)) (DV (Z n) (D n) (below W) s k) := by
  obtain ⟨h, e, rfl⟩ := col_all k
  have l : Is (val_main_v84 (F := Ideal) x0 x1 x4 (ix5 h 0 n e s)) (∑ t, below W h t s * DS (Z n) (D n) t (col h e)) :=
    Is.of (val_main_v84_apply x0 x1 x4 _) (Is.total fun t => (Is.be (Is.mul
      (Is.at_ (X := val_main_v82 (F := Ideal) x0 x1) (v82 H n t h e) (eq_ix5 _)) (Is.at_ (X := val_main_v64 (F := Ideal) x4) (v64 H h t s) (eq_ix3 _))) (mul_comm _ _)))
  refine Is.be (Is.of (val_main_v88_apply x0 x1 x4 _) (Is.at_ (Is.of (val_main_v85_apply x0 x1 x4 _) (Is.at_ l (eq_ix5 _))) (join_rows n s h e))) ?_
  unfold DV
  rw [hh_col]

omit n

/-- The gradient of the biases. -/
theorem v78 (h : Fin 8) (t : Fin 128) : Is (val_main_v78 (F := Ideal) x0 x1 (ix3 0 t h)) (∑ e, ∑ n, DS (Z n) (D n) t (col h e)) := by
  refine Is.be (Is.red (F := fun p : Fin 64 × Fin 64 => val_main_v77 (F := Ideal) x0 x1 (ix5 0 p.2 t h p.1)) ?_ word_zero fun p => v77 H p.2 t h p.1)
    (Fintype.sum_prod_type' fun e n => DS (Z n) (D n) t (col h e))
  unfold val_main_v78
  simp only [Host.reduceAdd, Ideal.hostReduceAdd_def]
  refine reduce_over _ _ _ _ (fun p : Fin 64 × Fin 64 => ix5 0 p.2 t h p.1) (fun p q e => Prod.ext (congrFun e (4 : Fin 5)) (congrFun e (1 : Fin 5)))
    (fun p => eq_ix3 _) fun i hi => ⟨(i 4, i 1), ?_⟩
  refine Eq.trans ?_ (eq_ix5 i).symm
  have h1 : i 2 = t := Fin.ext (congrArg Fin.val (congrFun hi (1 : Fin 3)))
  have h2 : i 3 = h := Fin.ext (congrArg Fin.val (congrFun hi (2 : Fin 3)))
  rw [h1, h2]
  exact congrArg (fun a => ix5 a (i 1) t h (i 4)) (one_only (i 0)).symm

theorem v81 (h : Fin 8) (t : Fin 128) : Is (val_main_v81 (F := Ideal) x0 x1 (ix2 h t)) (∑ e, ∑ n, DS (Z n) (D n) t (col h e)) := by
  have l : Is (val_main_v79 (F := Ideal) x0 x1 (ix5 0 0 t h 0)) (∑ e, ∑ n, DS (Z n) (D n) t (col h e)) :=
    Is.of (val_main_v79_apply x0 x1 _) (Is.at_ (v78 H h t) (by
      funext a
      refine Fin.ext ?_
      match a with
      | ⟨0, _⟩ => rfl
      | ⟨1, _⟩ => show ((((0 * 1 + 0) * 128 + t.val) * 8 + h.val) * 1 + 0) / 8 % 128 = t.val; omega
      | ⟨2, _⟩ => show ((((0 * 1 + 0) * 128 + t.val) * 8 + h.val) * 1 + 0) % 8 = h.val; omega))
  refine Is.of (val_main_v81_apply x0 x1 _) (Is.at_ (i := ix2 t h) (Is.be (Is.red (F := fun _ : Unit => val_main_v79 (F := Ideal) x0 x1 (ix5 0 0 t h 0)) ?_ word_zero fun _ => l)
    (Fintype.sum_unique _)) (eq_ix2 _))
  unfold val_main_v80
  simp only [Host.reduceAdd, Ideal.hostReduceAdd_def]
  refine reduce_over _ _ _ _ (fun _ : Unit => ix5 0 0 t h 0) (fun _ _ _ => rfl) (fun p => eq_ix2 _) fun i hi => ⟨(), ?_⟩
  refine Eq.trans ?_ (eq_ix5 i).symm
  have h1 : i 2 = t := Fin.ext (congrArg Fin.val (congrFun hi (0 : Fin 2)))
  have h2 : i 3 = h := Fin.ext (congrArg Fin.val (congrFun hi (1 : Fin 2)))
  rw [h1, h2]
  exact congrFun (congrArg₂ (fun a b c => ix5 a b t h c) (one_only (i 0)).symm (one_only (i 1)).symm) _ |>.trans (congrArg (fun c => ix5 (i 0) (i 1) t h c) (one_only (i 4)).symm)

end gate

end Cert.ReferenceIdeal.Real
-- ==== Proof.Gmlp.RefNorm.lean ====
/- The reference's layer norm backward in real numbers, and what it sums over the rows. -/
module

public import proofs.«01_k».proof.Proof.Gmlp.RefMid

@[expose] public section

set_option maxRecDepth 16384
set_option maxHeartbeats 1000000

noncomputable section

namespace Cert.Gmlp

open Cert.KernelIdeal.Block (rowOf)
open Idealize.ShloMosaic

/-- A sum over the rows, block by block. -/
theorem rows_sum {M : Type} [AddCommMonoid M] (f : Fin 8192 → M) : ∑ r, f r = ∑ p : Fin 64 × Fin 128, f (rowOf p.1 p.2) := by
  refine (Fintype.sum_equiv (finProdFinEquiv : Fin 64 × Fin 128 ≃ Fin 8192) _ _ fun x => congrArg f (Fin.ext ?_)).symm
  show 128 * x.1.val + x.2.val = x.2.val + 128 * x.1.val
  omega

theorem XC_sum (z : Fin 128 → Fin 1024 → ℝ) (t : Fin 128) : ∑ k, XC z t k = 0 := by
  unfold XC mn
  rw [Finset.sum_sub_distrib, Finset.sum_const, Finset.card_univ, Fintype.card_fin, nsmul_eq_mul]
  push_cast
  ring

theorem RS_sq (z : Fin 128 → Fin 1024 → ℝ) (t : Fin 128) : RS z t * RS z t = 1 / VR z t := by
  unfold RS
  rw [← mul_inv, Real.mul_self_sqrt (VR_pos z t).le, one_div]

/-- The derivative by the centred rows, by the variance and by the mean, together. -/
theorem norm_back (z : Fin 128 → Fin 1024 → ℝ) (t : Fin 128) (x : Fin 512 → ℝ) (k : Fin 512) :
    x k * RS z t + (∑ j, XC z t j * x j) * (-(1 / 2) * (RS z t * (1 / VR z t))) * (1 / 512) * (2 * XC z t k)
      + ((∑ j, -(x j * RS z t)) + ∑ l, -((∑ j, XC z t j * x j) * (-(1 / 2) * (RS z t * (1 / VR z t))) * (1 / 512) * (2 * XC z t l))) * (1 / 512)
    = RS z t * (x k - mn x - XH z t k * mn fun k => x k * XH z t k) := by
  generalize hS : ∑ j, XC z t j * x j = S
  have e1 : ∑ j, -(x j * RS z t) = -((∑ j, x j) * RS z t) := by rw [Finset.sum_neg_distrib, Finset.sum_mul]
  have e2 : ∑ l, -(S * (-(1 / 2) * (RS z t * (1 / VR z t))) * (1 / 512) * (2 * XC z t l)) = 0 := by
    rw [Finset.sum_neg_distrib, ← Finset.mul_sum, ← Finset.mul_sum, XC_sum]
    ring
  have e3 : (mn fun k => x k * XH z t k) = S * RS z t * (1 / 512) := by
    unfold mn XH
    rw [← hS]
    refine congrArg (fun v : ℝ => v * (1 / 512)) ?_
    rw [Finset.sum_mul]
    exact Finset.sum_congr rfl fun j _ => by ring
  rw [e1, e2, e3]
  unfold mn XH
  linear_combination (RS z t * XC z t k * S * (1 / 512)) * RS_sq z t

theorem gelu_back (e z : ℝ) : e * (1 / 2 * (1 + tnh z)) + root * (1 / 2 * (z * e) * ((1 + tnh z) * (1 - tnh z)))
    + cub * (root * (1 / 2 * (z * e) * ((1 + tnh z) * (1 - tnh z)))) * (3 * (z * z)) = e * gelud z := by
  unfold gelud
  ring

end Cert.Gmlp

namespace Cert.ReferenceIdeal.Real

open Cert.KernelIdeal.Block (rowOf below)
open Cert.Gmlp Cert.ReferenceIdeal Cert.ReferenceIdeal.Gen Cert.ReferenceIdeal.Read Idealize.ShloMosaic

variable {x0 : (⟨S8192x1024, .bf16⟩ : BufTy).Contents (Elt Ideal)} {x1 : (⟨S8192x512, .bf16⟩ : BufTy).Contents (Elt Ideal)}
  {x2 x3 : (⟨S1x512, .f32⟩ : BufTy).Contents (Elt Ideal)} {x4 : (⟨S1x8x128x128, .f32⟩ : BufTy).Contents (Elt Ideal)}
  {x5 : (⟨S1x8x128, .f32⟩ : BufTy).Contents (Elt Ideal)} {Z : Fin 64 → Fin 128 → Fin 1024 → ℝ} {D : Fin 64 → Fin 128 → Fin 512 → ℝ} {G B : Fin 512 → ℝ}
  {W : Fin 8 → Fin 128 → Fin 128 → ℝ} {A : Fin 8 → Fin 128 → ℝ}

/-- A sum over all rows of a column. -/
theorem down {X : FVec Ideal S1x8192x512 .f32} {a c : Ideal .f32} {k : Fin 512} {j : Fin 8192 → S1x8192x512.Idx} {g : Fin 64 → Fin 128 → ℝ}
    (e : (a : EReal) = (c : EReal) + ∑ r, (X (j r) : EReal)) (hj : ∀ r, j r = ix3 0 r k) (z : Is c 0)
    (h : ∀ n t, Is (X (ix3 0 (rowOf n t) k)) (g n t)) : Is a (∑ n, ∑ t, g n t) := by
  refine Is.be (Is.red (F := fun p : Fin 64 × Fin 128 => X (ix3 0 (rowOf p.1 p.2) k)) (e.trans (congrArg (fun v : EReal => (c : EReal) + v) ?_)) z fun p => h p.1 p.2)
    (Fintype.sum_prod_type' g)
  exact (rows_sum _).trans (Finset.sum_congr rfl fun p _ => congrArg X (hj _))

/-- A sum over two axes of size one. -/
theorem last_cols {X : FVec Ideal S1x1x512 .f32} {c : FVec Ideal S_ .f32} {k : Fin 512} {x : ℝ} (z : Is (c (Shape.Idx.first h_S_)) 0) (h : Is (X (ix3 0 0 k)) x) :
    Is (Host.reduceAdd X c reducesTo_S1x1x512_S512_d0_1 h_S_ (ix1 k)) x := by
  refine Is.be (Is.red (F := fun _ : Unit => X (ix3 0 0 k)) ?_ z fun _ => h) (Fintype.sum_unique _)
  simp only [Host.reduceAdd, Ideal.hostReduceAdd_def]
  refine reduce_over _ _ _ _ (fun _ : Unit => ix3 0 0 k) (fun _ _ _ => rfl) (fun p => eq_ix1 _) fun i hi => ⟨(), ?_⟩
  refine Eq.trans ?_ (eq_ix3 i).symm
  have h1 : i 2 = k := Fin.ext (congrArg Fin.val (congrFun hi (0 : Fin 1)))
  rw [h1]
  exact congrArg₂ (fun a b => ix3 a b k) (one_only (i 0)).symm (one_only (i 1)).symm

theorem last_rows {X : FVec Ideal S1x8192x1 .f32} {c : FVec Ideal S_ .f32} {r : Fin 8192} {x : ℝ} (z : Is (c (Shape.Idx.first h_S_)) 0) (h : Is (X (ix3 0 r 0)) x) :
    Is (Host.reduceAdd X c reducesTo_S1x8192x1_S8192_d0_2 h_S_ (ix1 r)) x := by
  refine Is.be (Is.red (F := fun _ : Unit => X (ix3 0 r 0)) ?_ z fun _ => h) (Fintype.sum_unique _)
  simp only [Host.reduceAdd, Ideal.hostReduceAdd_def]
  refine reduce_over _ _ _ _ (fun _ : Unit => ix3 0 r 0) (fun _ _ _ => rfl) (fun p => eq_ix1 _) fun i hi => ⟨(), ?_⟩
  refine Eq.trans ?_ (eq_ix3 i).symm
  have h1 : i 1 = r := Fin.ext (congrArg Fin.val (congrFun hi (0 : Fin 1)))
  rw [h1]
  exact congrArg₂ (fun a b => ix3 a r b) (one_only (i 0)).symm (one_only (i 2)).symm

variable (H : Given x0 x1 x2 x3 x4 x5 Z D G B W A)
include H

/-- The gradient of the layer norm's shift, and of its scale. -/
theorem v137 (k : Fin 512) : Is (val_main_v137 (F := Ideal) x0 x1 x4 (ix2 0 k)) (∑ n, ∑ t, DV (Z n) (D n) (below W) t k) := by
  have l : Is (val_main_v89 (F := Ideal) x0 x1 x4 (ix2 0 k)) (∑ n, ∑ t, DV (Z n) (D n) (below W) t k) :=
    down (val_main_v89_apply x0 x1 x4 _) (fun r => eq_ix3 _) word_zero fun n t => v88 H n t k
  refine Is.of (val_main_v137_apply x0 x1 x4 _) (Is.at_ (i := ix1 k) (last_cols word_zero (Is.of (val_main_v90_apply x0 x1 x4 _) (Is.at_ l ?_))) (eq_ix1 _))
  funext a
  refine Fin.ext ?_
  match a with
  | ⟨0, _⟩ => rfl
  | ⟨1, _⟩ => show ((0 * 1 + 0) * 512 + k.val) % 512 = k.val; omega

theorem v138 (k : Fin 512) : Is (val_main_v138 (F := Ideal) x0 x1 x4 (ix2 0 k)) (∑ n, ∑ t, DV (Z n) (D n) (below W) t k * XH (Z n) t k) := by
  have l : Is (val_main_v93 (F := Ideal) x0 x1 x4 (ix2 0 k)) (∑ n, ∑ t, DV (Z n) (D n) (below W) t k * XH (Z n) t k) :=
    down (val_main_v93_apply x0 x1 x4 _) (fun r => eq_ix3 _) word_zero fun n t =>
      Is.be (Is.of (val_main_v92_apply x0 x1 x4 _) (Is.mul (v52 H n t k) (v88 H n t k))) (mul_comm _ _)
  refine Is.of (val_main_v138_apply x0 x1 x4 _) (Is.at_ (i := ix1 k) (last_cols word_zero (Is.of (val_main_v94_apply x0 x1 x4 _) (Is.at_ l ?_))) (eq_ix1 _))
  funext a
  refine Fin.ext ?_
  match a with
  | ⟨0, _⟩ => rfl
  | ⟨1, _⟩ => show ((0 * 1 + 0) * 512 + k.val) % 512 = k.val; omega

section row

variable (n : Fin 64) (t : Fin 128)

theorem v96 (k : Fin 512) : Is (val_main_v96 (F := Ideal) x0 x1 x2 x4 (ix3 0 (rowOf n t) k)) (DX (Z n) (D n) G (below W) t k) :=
  Is.of (val_main_v96_apply x0 x1 x2 x4 _) (Is.mul (v88 H n t k) (Is.of (val_main_v95_apply x2 _) (Is.at_ (v53 H k) (eq_ix3 _))))

theorem v102 (k : Fin 512) : Is (val_main_v102 (F := Ideal) x0 x1 x2 x4 (ix3 0 (rowOf n t) k)) (DX (Z n) (D n) G (below W) t k * RS (Z n) t) :=
  Is.of (val_main_v102_apply x0 x1 x2 x4 _) (Is.mul (v96 H n t k) (Is.of (val_main_v101_apply x0 _) (Is.at_ (v47 H n t) (eq_ix3 _))))

omit H in
/-- A row's one element, of the array that keeps the summed axis. -/
theorem row_at (j : S1x8192.Idx) (h : (j 1).val = (rowOf n t).val) : j = ix2 0 (rowOf n t) := by
  refine (eq_ix2 j).trans (congrArg₂ ix2 (one_only (j 0)) (Fin.ext h))

theorem v103 : Is (val_main_v103 (F := Ideal) x0 x1 x2 x4 (ix3 0 (rowOf n t) 0))
    ((∑ j, XC (Z n) t j * DX (Z n) (D n) G (below W) t j) * (-(1 / 2) * (RS (Z n) t * (1 / VR (Z n) t)))) := by
  have l : Is (val_main_v99 (F := Ideal) x0 x1 x2 x4 (ix2 0 (rowOf n t))) (∑ j, XC (Z n) t j * DX (Z n) (D n) G (below W) t j) :=
    Is.red (val_main_v99_apply x0 x1 x2 x4 _) word_zero fun k =>
      Is.at_ (X := val_main_v98 (F := Ideal) x0 x1 x2 x4) (Is.of (val_main_v98_apply x0 x1 x2 x4 _) (Is.mul (v44 H n t k) (v96 H n t k))) (eq_ix3 _)
  exact Is.of (val_main_v103_apply x0 x1 x2 x4 _) (Is.mul (Is.of (val_main_v100_apply x0 x1 x2 x4 _) (Is.at_ l (row_at n t _ (by
    show ((0 * 8192 + (128 * n.val + t.val)) * 1 + 0) % 8192 = 128 * n.val + t.val
    omega)))) (v50 H n t))

theorem v112 (k : Fin 512) : Is (val_main_v112 (F := Ideal) x0 x1 x2 x4 (ix3 0 (rowOf n t) k))
    ((∑ j, XC (Z n) t j * DX (Z n) (D n) G (below W) t j) * (-(1 / 2) * (RS (Z n) t * (1 / VR (Z n) t))) * (1 / 512) * (2 * XC (Z n) t k)) := by
  have l := Is.of (val_main_v108_apply x0 x1 x2 x4 _) (Is.div (v103 H n t) (Is.of (val_main_v107_apply _) (Is.of (val_main_cst_23_apply _) word_512)) (by norm_num))
  have m : Is (val_main_v109 (F := Ideal) x0 x1 x2 x4 (ix1 (rowOf n t))) _ := last_rows word_zero l
  exact Is.of (val_main_v112_apply x0 x1 x2 x4 _) (Is.mul (Is.of (val_main_v111_apply x0 x1 x2 x4 _) (Is.of (val_main_v110_apply x0 x1 x2 x4 _) (Is.at_ m (eq_ix1 _)))) (v38 H n t k))

theorem v123 (k : Fin 512) : Is (val_main_v123 (F := Ideal) x0 x1 x2 x4 (ix3 0 (rowOf n t) k)) (DG (Z n) (D n) G (below W) t k) := by
  have p : Is (val_main_v105 (F := Ideal) x0 x1 x2 x4 (ix2 0 (rowOf n t))) _ :=
    Is.red (val_main_v105_apply x0 x1 x2 x4 _) word_zero fun k =>
      Is.at_ (X := val_main_v104 (F := Ideal) x0 x1 x2 x4) (Is.of (val_main_v104_apply x0 x1 x2 x4 _) (Is.neg (v102 H n t k))) (eq_ix3 _)
  have q : Is (val_main_v114 (F := Ideal) x0 x1 x2 x4 (ix2 0 (rowOf n t))) _ :=
    Is.red (val_main_v114_apply x0 x1 x2 x4 _) word_zero fun k =>
      Is.at_ (X := val_main_v113 (F := Ideal) x0 x1 x2 x4) (Is.of (val_main_v113_apply x0 x1 x2 x4 _) (Is.neg (v112 H n t k))) (eq_ix3 _)
  have l := Is.of (val_main_v119_apply x0 x1 x2 x4 (ix3 0 (rowOf n t) 0)) (Is.div (Is.of (val_main_v117_apply x0 x1 x2 x4 _) (Is.add
    (Is.of (val_main_v106_apply x0 x1 x2 x4 _) (Is.at_ p (row_at n t _ (by
      show ((0 * 8192 + (128 * n.val + t.val)) * 1 + 0) % 8192 = 128 * n.val + t.val
      omega))))
    (Is.of (val_main_v115_apply x0 x1 x2 x4 _) (Is.at_ q (row_at n t _ (by
      show ((0 * 8192 + (128 * n.val + t.val)) * 1 + 0) % 8192 = 128 * n.val + t.val
      omega)))))) (Is.of (val_main_v118_apply _) (Is.of (val_main_cst_26_apply _) word_512)) (by norm_num))
  have m : Is (val_main_v120 (F := Ideal) x0 x1 x2 x4 (ix1 (rowOf n t))) _ := last_rows word_zero l
  exact Is.be (Is.of (val_main_v123_apply x0 x1 x2 x4 _) (Is.add (Is.of (val_main_v116_apply x0 x1 x2 x4 _) (Is.add (v102 H n t k) (v112 H n t k)))
    (Is.of (val_main_v122_apply x0 x1 x2 x4 _) (Is.of (val_main_v121_apply x0 x1 x2 x4 _) (Is.at_ m (eq_ix1 _)))))) (norm_back (Z n) t (DX (Z n) (D n) G (below W) t) k)

theorem v124 (k : Fin 1024) : Is (val_main_v124 (F := Ideal) x0 x1 x2 x3 x4 x5 (ix3 0 (rowOf n t) k)) (DE (Z n) (D n) G B (below W) A t k) := by
  unfold DE
  by_cases hk : k.val < 512
  · rw [dif_pos hk]
    refine Is.of ?_ (v76 H n t ⟨k.val, hk⟩)
    unfold val_main_v124
    generalize val_main_v76 (F := Ideal) x0 x1 x2 x3 x4 x5 = p
    generalize val_main_v123 (F := Ideal) x0 x1 x2 x4 = q
    exact concatenate_pair_apply_left (2 : Fin S1x8192x1024.rank) p q concatenates_S1x8192x512_S1x8192x512_S1x8192x1024_d2 (ix3 0 (rowOf n t) k) rfl
      (ix3 (0 : Fin 1) (rowOf n t) (⟨k.val, hk⟩ : Fin 512)) fun b => by
        match b with
        | ⟨0, _⟩ => rfl
        | ⟨1, _⟩ => rfl
        | ⟨2, _⟩ => rfl
  · rw [dif_neg hk]
    refine Is.of ?_ (v123 H n t ⟨k.val - 512, by omega⟩)
    unfold val_main_v124
    generalize val_main_v76 (F := Ideal) x0 x1 x2 x3 x4 x5 = p
    generalize val_main_v123 (F := Ideal) x0 x1 x2 x4 = q
    refine concatenate_pair_apply_right (2 : Fin S1x8192x1024.rank) p q concatenates_S1x8192x512_S1x8192x512_S1x8192x1024_d2 (ix3 0 (rowOf n t) k) rfl rfl
      (ix3 (0 : Fin 1) (rowOf n t) (⟨k.val - 512, by omega⟩ : Fin 512)) (fun b hb => ?_) ?_
    · match b with
      | ⟨0, _⟩ => rfl
      | ⟨1, _⟩ => rfl
      | ⟨2, _⟩ => exact absurd rfl hb
    · show k.val - 512 + 512 = k.val
      omega

/-- The gradient of the rows. -/
theorem v140 (k : Fin 1024) : (val_main_v140 (F := Ideal) x0 x1 x2 x3 x4 x5 (ix2 (rowOf n t) k) : EReal) = ((DZ (Z n) (D n) G B (below W) A t k : ℝ) : EReal) := by
  have z := v1 H n t k
  have e := v124 H n t k
  have r := Is.of (val_main_v131_apply x0 x1 x2 x3 x4 x5 _) (Is.mul (Is.of (val_main_v130_apply _) (Is.of (val_main_cst_29_apply _) word_root))
    (Is.of (val_main_v129_apply x0 x1 x2 x3 x4 x5 _) (Is.mul (Is.of (val_main_v128_apply x0 x1 x2 x3 x4 x5 _) (Is.mul
      (Is.of (val_main_v127_apply _) (Is.of (val_main_cst_28_apply _) word_half)) (Is.of (val_main_v125_apply x0 x1 x2 x3 x4 x5 _) (Is.mul z e)))) (v22 H n t k))))
  have c : Is (val_main_v11 (F := Ideal) x0 (ix3 0 (rowOf n t) k)) (3 * (Z n t k * Z n t k)) :=
    Is.of (val_main_v11_apply x0 _) (Is.mul (Is.of (val_main_v10_apply _) (Is.of (val_main_cst_1_apply _) word_three)) (Is.of (val_main_v9_apply x0 _) (Is.mul z z)))
  have l : Is (val_main_v136 (F := Ideal) x0 x1 x2 x3 x4 x5 (ix3 0 (rowOf n t) k)) (DZ (Z n) (D n) G B (below W) A t k) :=
    Is.be (Is.of (val_main_v136_apply x0 x1 x2 x3 x4 x5 _) (Is.add
      (Is.of (val_main_v132_apply x0 x1 x2 x3 x4 x5 _) (Is.add (Is.of (val_main_v126_apply x0 x1 x2 x3 x4 x5 _) (Is.mul e (v26 H n t k))) r))
      (Is.of (val_main_v135_apply x0 x1 x2 x3 x4 x5 _) (Is.mul (Is.of (val_main_v134_apply x0 x1 x2 x3 x4 x5 _) (Is.mul (Is.of (val_main_v133_apply _) (v6 _)) r)) c))))
      (gelu_back _ _)
  refine (val_main_v140_apply x0 x1 x2 x3 x4 x5 _).trans ((val_main_v139_apply x0 x1 x2 x3 x4 x5 _).trans (Is.at_ l ?_))
  funext a
  refine Fin.ext ?_
  match a with
  | ⟨0, _⟩ => rfl
  | ⟨1, _⟩ => show ((128 * n.val + t.val) * 1024 + k.val) / 1024 % 8192 = 128 * n.val + t.val; omega
  | ⟨2, _⟩ => show ((128 * n.val + t.val) * 1024 + k.val) % 1024 = k.val; omega

end row

end Cert.ReferenceIdeal.Real
-- ==== Proof.Gmlp.RefDot.lean ====
/- The reference's gradient of the gating weights in real numbers: a product that sums over the blocks and a head's columns at once. -/
module

public import proofs.«01_k».proof.Proof.Gmlp.RefMid

@[expose] public section

set_option maxRecDepth 16384
set_option maxHeartbeats 1000000

noncomputable section

namespace Cert.ReferenceIdeal.Real

open Cert.KernelIdeal.Block (rowOf below)
open Cert.Gmlp Cert.ReferenceIdeal Cert.ReferenceIdeal.Gen Cert.ReferenceIdeal.Read Idealize.ShloMosaic

variable {x0 : (⟨S8192x1024, .bf16⟩ : BufTy).Contents (Elt Ideal)} {x1 : (⟨S8192x512, .bf16⟩ : BufTy).Contents (Elt Ideal)}
  {x2 x3 : (⟨S1x512, .f32⟩ : BufTy).Contents (Elt Ideal)} {x4 : (⟨S1x8x128x128, .f32⟩ : BufTy).Contents (Elt Ideal)}
  {x5 : (⟨S1x8x128, .f32⟩ : BufTy).Contents (Elt Ideal)} {Z : Fin 64 → Fin 128 → Fin 1024 → ℝ} {D : Fin 64 → Fin 128 → Fin 512 → ℝ} {G B : Fin 512 → ℝ}
  {W : Fin 8 → Fin 128 → Fin 128 → ℝ} {A : Fin 8 → Fin 128 → ℝ}

/-- The product's axes. -/
abbrev pairs := dot_S8x1x64x64x128_S1x64x128x8x64_S8x128x128_123_014_4_2_0_3

/-- A block and a column, as a coordinate of what is summed over. -/
def pair (p : Fin 64 × Fin 64) : pairs.contr.Idx := fun a => match a with
  | ⟨0, _⟩ => (0 : Fin 1)
  | ⟨1, _⟩ => p.1
  | ⟨2, _⟩ => p.2

theorem pair_onto (q : pairs.contr.Idx) : ∃ p, pair p = q := by
  refine ⟨(q ⟨1, by decide⟩, q ⟨2, by decide⟩), funext fun a => ?_⟩
  match a with
  | ⟨0, _⟩ => exact (one_only _).symm
  | ⟨1, _⟩ => rfl
  | ⟨2, _⟩ => rfl

theorem pair_one (p q : Fin 64 × Fin 64) (e : pair p = pair q) : p = q :=
  Prod.ext (congrFun e ⟨1, by decide⟩) (congrFun e ⟨2, by decide⟩)

theorem left_at (h : Fin 8) (t s : Fin 128) (p : Fin 64 × Fin 64) : pairs.lhsIdx (ix3 h t s) (pair p) = ix5 h 0 p.1 p.2 t := by
  funext a
  refine Fin.ext ?_
  match a with
  | ⟨0, _⟩ =>
    show (pairs.lhsIdx (ix3 h t s) (pair p) (0 : Fin S8x1x64x64x128.rank)).val = _
    unfold DotDims.lhsIdx
    rw [dif_pos (show (0 : Fin S8x1x64x64x128.rank) ∈ pairs.lhsBatch by decide)]
    rfl
  | ⟨1, _⟩ =>
    show (pairs.lhsIdx (ix3 h t s) (pair p) (1 : Fin S8x1x64x64x128.rank)).val = _
    unfold DotDims.lhsIdx
    rw [dif_neg (show ¬(1 : Fin S8x1x64x64x128.rank) ∈ pairs.lhsBatch by decide), dif_neg (show ¬(1 : Fin S8x1x64x64x128.rank) ∈ pairs.lhsNonContracting by decide)]
    rfl
  | ⟨2, _⟩ =>
    show (pairs.lhsIdx (ix3 h t s) (pair p) (2 : Fin S8x1x64x64x128.rank)).val = _
    unfold DotDims.lhsIdx
    rw [dif_neg (show ¬(2 : Fin S8x1x64x64x128.rank) ∈ pairs.lhsBatch by decide), dif_neg (show ¬(2 : Fin S8x1x64x64x128.rank) ∈ pairs.lhsNonContracting by decide)]
    rfl
  | ⟨3, _⟩ =>
    show (pairs.lhsIdx (ix3 h t s) (pair p) (3 : Fin S8x1x64x64x128.rank)).val = _
    unfold DotDims.lhsIdx
    rw [dif_neg (show ¬(3 : Fin S8x1x64x64x128.rank) ∈ pairs.lhsBatch by decide), dif_neg (show ¬(3 : Fin S8x1x64x64x128.rank) ∈ pairs.lhsNonContracting by decide)]
    rfl
  | ⟨4, _⟩ =>
    show (pairs.lhsIdx (ix3 h t s) (pair p) (4 : Fin S8x1x64x64x128.rank)).val = _
    unfold DotDims.lhsIdx
    rw [dif_neg (show ¬(4 : Fin S8x1x64x64x128.rank) ∈ pairs.lhsBatch by decide), dif_pos (show (4 : Fin S8x1x64x64x128.rank) ∈ pairs.lhsNonContracting by decide)]
    rfl

theorem right_at (h : Fin 8) (t s : Fin 128) (p : Fin 64 × Fin 64) : pairs.rhsIdx (ix3 h t s) (pair p) = ix5 0 p.1 s h p.2 := by
  funext a
  refine Fin.ext ?_
  match a with
  | ⟨0, _⟩ =>
    show (pairs.rhsIdx (ix3 h t s) (pair p) (0 : Fin S1x64x128x8x64.rank)).val = _
    unfold DotDims.rhsIdx
    rw [dif_neg (show ¬(0 : Fin S1x64x128x8x64.rank) ∈ pairs.rhsBatch by decide), dif_neg (show ¬(0 : Fin S1x64x128x8x64.rank) ∈ pairs.rhsNonContracting by decide)]
    rfl
  | ⟨1, _⟩ =>
    show (pairs.rhsIdx (ix3 h t s) (pair p) (1 : Fin S1x64x128x8x64.rank)).val = _
    unfold DotDims.rhsIdx
    rw [dif_neg (show ¬(1 : Fin S1x64x128x8x64.rank) ∈ pairs.rhsBatch by decide), dif_neg (show ¬(1 : Fin S1x64x128x8x64.rank) ∈ pairs.rhsNonContracting by decide)]
    rfl
  | ⟨2, _⟩ =>
    show (pairs.rhsIdx (ix3 h t s) (pair p) (2 : Fin S1x64x128x8x64.rank)).val = _
    unfold DotDims.rhsIdx
    rw [dif_neg (show ¬(2 : Fin S1x64x128x8x64.rank) ∈ pairs.rhsBatch by decide), dif_pos (show (2 : Fin S1x64x128x8x64.rank) ∈ pairs.rhsNonContracting by decide)]
    rfl
  | ⟨3, _⟩ =>
    show (pairs.rhsIdx (ix3 h t s) (pair p) (3 : Fin S1x64x128x8x64.rank)).val = _
    unfold DotDims.rhsIdx
    rw [dif_pos (show (3 : Fin S1x64x128x8x64.rank) ∈ pairs.rhsBatch by decide)]
    rfl
  | ⟨4, _⟩ =>
    show (pairs.rhsIdx (ix3 h t s) (pair p) (4 : Fin S1x64x128x8x64.rank)).val = _
    unfold DotDims.rhsIdx
    rw [dif_neg (show ¬(4 : Fin S1x64x128x8x64.rank) ∈ pairs.rhsBatch by decide), dif_neg (show ¬(4 : Fin S1x64x128x8x64.rank) ∈ pairs.rhsNonContracting by decide)]
    rfl

variable (H : Given x0 x1 x2 x3 x4 x5 Z D G B W A)
include H

theorem v83 (h : Fin 8) (t s : Fin 128) : Is (val_main_v83 (F := Ideal) x0 x1 x2 x3 (ix3 h t s)) (∑ n, DW (Z n) (D n) G B h t s) := by
  have l : ∀ p : Fin 64 × Fin 64, Is _ _ := fun p => Is.mul (v82 H p.1 t h p.2) (v59 H p.1 s h p.2)
  refine Is.be (Is.of ?_ (Is.total l)) (Fintype.sum_prod_type' fun n c => DS (Z n) (D n) t (col h c) * LN (Z n) G B s (col h c))
  unfold val_main_v83
  generalize val_main_v82 (F := Ideal) x0 x1 = y
  generalize val_main_v59 (F := Ideal) x0 x2 x3 = x
  simp only [Host.dotGeneral]
  rw [Ideal.dotGeneral_apply]
  refine (Fintype.sum_bijective pair ⟨pair_one, pair_onto⟩ _ _ fun p => ?_).symm
  rw [left_at, right_at]
  rfl

/-- The gradient of the gating weights. -/
theorem v87 (h : Fin 8) (t s : Fin 128) : Is (val_main_v87 (F := Ideal) x0 x1 x2 x3 (ix3 h t s)) (if s.val ≤ t.val then ∑ n, DW (Z n) (D n) G B h t s else 0) := by
  refine Is.be (Is.of (val_main_v87_apply x0 x1 x2 x3 _) (Is.mul (v83 H h t s) (Is.of (val_main_v86_apply _) (Is.at_ (v62 t s) (eq_ix3 _))))) ?_
  by_cases hs : s.val ≤ t.val <;> simp [hs]

end Cert.ReferenceIdeal.Real
-- ==== Proof.Gmlp.Agree.lean ====
/- The gating MLP's backward pass: from finite arguments the kernel and the reference end with the same five results. -/
module

public import proofs.«01_k».proof.Defs
public import proofs.«01_k».proof.Proof.Gmlp.Fold
public import proofs.«01_k».proof.Proof.Gmlp.RefNorm
public import proofs.«01_k».proof.Proof.Gmlp.RefDot
public import Idealize.ShloMosaic.Lib.ReduceAll

@[expose] public section

set_option maxRecDepth 16384
set_option maxHeartbeats 1000000

noncomputable section

namespace Cert.Gmlp

open Idealize.ShloMosaic Idealize.ShloMosaic.TcCoe Idealize.SL.Sem
open Cert.KernelIdeal.Block (rowOf below Holds)
open Cert.ReferenceIdeal.Real (Given)

/-- An extended real whose size lies below something is a real number. -/
theorem real_of_lt (x b : EReal) (h : max x (-x) < b) : x = ((x.toReal : ℝ) : EReal) := by
  refine (EReal.coe_toReal (fun e => ?_) fun e => ?_).symm
  · exact not_top_lt (lt_of_le_of_lt (le_max_left (⊤ : EReal) _) (e ▸ h))
  · exact not_top_lt (lt_of_le_of_lt (le_max_right (⊥ : EReal) _) (e ▸ h))

instance : Subsingleton Pre_finite.S_.Idx := ⟨fun _ _ => funext fun a => a.elim0⟩

/-- The entries of an array whose sizes all lie below something. -/
theorem entries {φ : FTy} {s : Shape} {axes : List (Fin s.rank)} (x b : FVec Ideal s φ) (v : IVec Pre_finite.S_ 1) (h : s.ReducesTo axes Pre_finite.S_)
    (hu : 0 < Pre_finite.S_.numel) (e : Host.reduce IntOp.andi (cmpf .olt (Host.absf x) b) v h hu = fun _ => 1#1) (i : s.Idx) :
    (x i : EReal) = (((x i : EReal).toReal : ℝ) : EReal) := by
  refine real_of_lt _ (b i) ?_
  have o : BitVec.ofBool (decide (max (x i : EReal) (-(x i : EReal)) < b i)) = 1#1 := Host.reduce_andi_all _ _ h hu (Shape.Idx.first hu) (congrFun e _) i
  by_contra n
  rw [decide_eq_false n] at o
  exact absurd o (by decide)

/-- What the kernel's arguments hold, when they are finite. -/
theorem holds [Pre_finite.Facts] (m : (ℓ : Loc KernelIdeal.nD KernelIdeal.τ KernelIdeal.sig) → Buf (Elt Ideal) ℓ) (p : Pre_KernelIdeal_finite m) (c : Dev KernelIdeal.nD) :
    ∃ Z D G B W A, Holds m c Z D G B W A := by
  have e := p c
  simp only [Pre_finite.fn, Pre_finite.fn_part1] at e
  obtain ⟨e0, e1, e2, e3, e4, e5⟩ := e
  exact ⟨_, _, _, _, _, _, fun n t k => entries _ _ _ _ _ e0 (ix2 (rowOf n t) k), fun n t k => entries _ _ _ _ _ e1 (ix2 (rowOf n t) k),
    fun k => entries _ _ _ _ _ e2 (ix2 0 k), fun k => entries _ _ _ _ _ e3 (ix2 0 k), fun h t s => entries _ _ _ _ _ e4 (ix4 0 h t s),
    fun h t => entries _ _ _ _ _ e5 (ix3 0 h t)⟩

/-- Every row is a block's. -/
theorem row_all (r : Fin 8192) : ∃ n t, r = rowOf n t :=
  ⟨⟨r.val / 128, by omega⟩, ⟨r.val % 128, Nat.mod_lt _ (by decide)⟩, Fin.ext (by show r.val = 128 * (r.val / 128) + r.val % 128; omega)⟩

theorem agrees [KernelIdeal.Facts] [ReferenceIdeal.Facts] [Pre_finite.Facts] : algebraic_KernelIdeal_ReferenceIdeal_pre_finite := by
  intro m g m' g' p h
  refine ⟨fun c => KernelIdeal.Value.G6 m c, fun c => KernelIdeal.Value.G7 m c, fun c => KernelIdeal.Value.G8 m c, fun c => KernelIdeal.Value.G9 m c,
    fun c => KernelIdeal.Value.G10 m c, KernelIdeal.Value.run m g, ?_⟩
  refine (θ_run _ _ _).mono (fun r hr c => ?_) (ReferenceIdeal.Value.run m' g')
  obtain ⟨Z, D, G, B, W, A, H⟩ := holds m p c
  obtain ⟨a0, a1, a2, a3, a4, a5⟩ := h c
  have K : Given (StableHlo.launchContents m' c (Proc.tc.devRef ReferenceIdeal.main_arg0)) (StableHlo.launchContents m' c (Proc.tc.devRef ReferenceIdeal.main_arg1))
      (StableHlo.launchContents m' c (Proc.tc.devRef ReferenceIdeal.main_arg2)) (StableHlo.launchContents m' c (Proc.tc.devRef ReferenceIdeal.main_arg3))
      (StableHlo.launchContents m' c (Proc.tc.devRef ReferenceIdeal.main_arg4)) (StableHlo.launchContents m' c (Proc.tc.devRef ReferenceIdeal.main_arg5)) Z D G B W A :=
    ⟨fun n t k => (congrFun a0 _).trans (H.z n t k), fun n t k => (congrFun a1 _).trans (H.d n t k), fun k => (congrFun a2 _).trans (H.g k),
      fun k => (congrFun a3 _).trans (H.b k), fun h t s => (congrFun a4 _).trans (H.w h t s), fun h t => (congrFun a5 _).trans (H.a h t)⟩
  obtain ⟨h0, h1, h2, h3, h4, h5⟩ := hr c
  refine ⟨h0.trans ?_, h1.trans ?_, h2.trans ?_, h3.trans ?_, h4.trans ?_, h5⟩
  · rw [ReferenceIdeal.Read.val_main_v140_eq]
    funext i
    obtain ⟨r, k, rfl⟩ : ∃ (r : Fin 8192) (k : Fin 1024), i = ix2 r k := ⟨i 0, i 1, eq_ix2 i⟩
    obtain ⟨n, t, rfl⟩ := row_all r
    exact (ReferenceIdeal.Real.v140 K n t k).trans (KernelIdeal.Block.dz_result H n t k).symm
  · rw [ReferenceIdeal.Read.val_main_v87_eq]
    funext i
    obtain ⟨b, t, s, rfl⟩ : ∃ (b : Fin 8) (t s : Fin 128), i = ix3 b t s := ⟨i 0, i 1, i 2, eq_ix3 i⟩
    exact (ReferenceIdeal.Real.v87 K b t s).trans (KernelIdeal.Block.dws_result H b t s).symm
  · rw [ReferenceIdeal.Read.val_main_v81_eq]
    funext i
    obtain ⟨b, t, rfl⟩ : ∃ (b : Fin 8) (t : Fin 128), i = ix2 b t := ⟨i 0, i 1, eq_ix2 i⟩
    exact (ReferenceIdeal.Real.v81 K b t).trans (KernelIdeal.Block.dbs_result H b t).symm
  · rw [ReferenceIdeal.Read.val_main_v138_eq]
    funext i
    obtain ⟨z, k, rfl⟩ : ∃ (z : Fin 1) (k : Fin 512), i = ix2 z k := ⟨i 0, i 1, eq_ix2 i⟩
    obtain rfl : z = 0 := Fin.ext (Nat.lt_one_iff.mp z.isLt)
    exact (ReferenceIdeal.Real.v138 K k).trans (KernelIdeal.Block.dlg_result H k).symm
  · rw [ReferenceIdeal.Read.val_main_v137_eq]
    funext i
    obtain ⟨z, k, rfl⟩ : ∃ (z : Fin 1) (k : Fin 512), i = ix2 z k := ⟨i 0, i 1, eq_ix2 i⟩
    obtain rfl : z = 0 := Fin.ext (Nat.lt_one_iff.mp z.isLt)
    exact (ReferenceIdeal.Real.v137 K k).trans (KernelIdeal.Block.dlb_result H k).symm

end Cert.Gmlp

end
-- ==== Proof.Dn.Point.lean ====
/- One grid point of the feed-forward's input gradient: what its body leaves, in the words of its two halves of 256 rows. -/
module

public import proofs.«01_k».proof.Proof.Loads
public import proofs.«01_k».proof.Proof.Gen.DnGradIdeal.Value

@[expose] public section

set_option maxRecDepth 16384
set_option maxHeartbeats 4000000

noncomputable section

namespace Cert.DnGradIdeal.Result

open Cert.Loads Cert.DnGradIdeal Cert.DnGradIdeal.Gen Idealize.ShloMosaic Idealize.ShloMosaic.TcCoe Idealize.SL.Sem

variable {F : FTy → Type} [FloatOps F] [Named F]
variable (m : (ℓ : Loc nD τ sig) → Buf (Elt F) ℓ)

theorem rows_u (j : Fin 2) : ∀ a, (![256 * j.val, 0] : Fin 2 → ℕ) a + S256x5632.size a ≤ S512x5632.size a := by revert j; decide
theorem rows_x (j : Fin 2) : ∀ a, (![256 * j.val, 0] : Fin 2 → ℕ) a + S256x1024.size a ≤ S512x1024.size a := by revert j; decide

/-- Half `j`'s rows. -/
def urows (X : Vec F S512x5632 .bf16) (j : Fin 2) : Vec F S256x5632 .bf16 := View.ld X (Rect.unit ![256 * j.val, 0] S256x5632.size (rows_u j))
def xrows (X : Vec F S512x1024 .f32) (j : Fin 2) : Vec F S256x1024 .f32 := View.ld X (Rect.unit ![256 * j.val, 0] S256x1024.size (rows_x j))

/-- What a point leaves, over what its three sums began at. -/
structure Pass (X0 : Vec F S512x5632 .bf16) (X1 : Vec F S5632x1024 .bf16) (X2 X3 : Vec F S512x1024 .f32) (X4 X5 : Vec F S1x1024 .f32)
    (a b c : Vec F S1x1024 .f32) (st : Vec F S512x1024 .f32 × Vec F S1x1024 .f32 × Vec F S1x1024 .f32 × Vec F S1x1024 .f32) : Prop where
  rows0 : View.ld st.1 (Rect.unit ![0, 0] S256x1024.size inb_S512x1024_S256x1024_0_0) = k0_pay13 (k0_pay10 (urows X0 0) X1 (xrows X2 0) X5 X4) (xrows X3 0)
  rows1 : View.ld st.1 (Rect.unit ![256, 0] S256x1024.size inb_S512x1024_S256x1024_256_0) = k0_pay13 (k0_pay10 (urows X0 1) X1 (xrows X2 1) X5 X4) (xrows X3 1)
  shift : st.2.1 = k0_pay14 (k0_pay11 (urows X0 1) X1) (k0_pay14 (k0_pay11 (urows X0 0) X1) a)
  scale : st.2.2.1 = k0_pay15 X5 (k0_pay12 (urows X0 1) X1 (xrows X2 1)) (k0_pay15 X5 (k0_pay12 (urows X0 0) X1 (xrows X2 0)) b)
  gain : st.2.2.2 = k0_pay16 (k0_pay7 (urows X0 1) X1) X4 (k0_pay9 (xrows X2 1)) (k0_pay16 (k0_pay7 (urows X0 0) X1) X4 (k0_pay9 (xrows X2 0)) c)

theorem xrows_at (X : Vec F S512x1024 .f32) (j : Fin 2) {o : Fin 2 → ℕ} (h : ∀ a, o a + S256x1024.size a ≤ S512x1024.size a) (ho : o = ![256 * j.val, 0]) :
    xrows X j = View.ld X (Rect.unit o S256x1024.size h) := by subst ho; rfl

/-- Either half's rows. -/
theorem Pass.rows {X0 : Vec F S512x5632 .bf16} {X1 : Vec F S5632x1024 .bf16} {X2 X3 : Vec F S512x1024 .f32} {X4 X5 a b c : Vec F S1x1024 .f32} {st}
    (P : Pass X0 X1 X2 X3 X4 X5 a b c st) : ∀ j, xrows st.1 j = k0_pay13 (k0_pay10 (urows X0 j) X1 (xrows X2 j) X5 X4) (xrows X3 j)
  | 0 => (xrows_at st.1 0 inb_S512x1024_S256x1024_0_0 rfl).trans P.rows0
  | 1 => (xrows_at st.1 1 inb_S512x1024_S256x1024_256_0 rfl).trans P.rows1

theorem pass_A (c : Dev nD) (t : Fin cfg0.N) (h0 : t.val % 16 = 0) :
    Pass (iblk m c 0 t) (iblk m c 1 t) (iblk m c 2 t) (iblk m c 3 t) (iblk m c 4 t) (iblk m c 5 t) k0_pay4 k0_pay5 k0_pay6 (outsAt0 m c t.val t.isLt) := by
  rw [outsAt0_A m c t h0]
  constructor
  all_goals
    frame_open
    try rw [ld_writes]
    simp (disch := decide) only [↓ View.readCov_skip, ↓ View.readCov_cons_toLoadRect, ↓ View.readCov_fill]
    frame_out
    repeat rw [read_unread_whole]
    repeat rw [Memref.IsWhole.read_unread]
    rfl

theorem pass_B (c : Dev nD) (t : Fin cfg0.N) (h0 : ¬t.val % 16 = 0) (h : t.val - 1 < cfg0.N) :
    Pass (iblk m c 0 t) (iblk m c 1 t) (iblk m c 2 t) (iblk m c 3 t) (iblk m c 4 t) (iblk m c 5 t) (outsAt0 m c (t.val - 1) h).2.1
      (outsAt0 m c (t.val - 1) h).2.2.1 (outsAt0 m c (t.val - 1) h).2.2.2 (outsAt0 m c t.val t.isLt) := by
  rw [outsAt0_B m c t h0]
  generalize outsAt0 m c (t.val - 1) _ = acc
  constructor
  all_goals
    frame_open
    try rw [ld_writes]
    simp (disch := decide) only [↓ View.readCov_skip, ↓ View.readCov_cons_toLoadRect, ↓ View.readCov_fill]
    frame_out
    repeat rw [read_unread_whole]
    repeat rw [Memref.IsWhole.read_unread]
    rfl

end Cert.DnGradIdeal.Result
-- ==== Proof.Dn.Model.lean ====
/- The backward pass of a root-mean-square norm with a shift and a scale, over the real numbers, row by row. -/
module

public import proofs.«01_k».proof.Proof.Gmlp.Model

@[expose] public section

noncomputable section

namespace Cert.Dn

open Cert.Gmlp (tiny coe_sum)
open Idealize.ShloMosaic

/-- A row's mean. -/
def mn (f : Fin 1024 → ℝ) : ℝ := (∑ k, f k) * (1 / 1024)

section row

variable (u : Fin 5632 → ℝ) (w : Fin 5632 → Fin 1024 → ℝ) (x g s : Fin 1024 → ℝ)

def VR : ℝ := mn (fun k => x k * x k) + tiny
def RS : ℝ := (Real.sqrt (VR x))⁻¹
def XH (k : Fin 1024) : ℝ := x k * RS x
/-- The gradient of the normed row: a row of the product. -/
def DN (k : Fin 1024) : ℝ := ∑ j, u j * w j k
def TG (k : Fin 1024) : ℝ := DN u w k * (1 + s k) * g k
def DX (k : Fin 1024) : ℝ := RS x * (TG u w g s k - XH x k * mn fun k => TG u w g s k * XH x k)
/-- A row's share of the gradients of the scale and of the gain. -/
def DC (k : Fin 1024) : ℝ := DN u w k * XH x k * g k
def DP (k : Fin 1024) : ℝ := DN u w k * (1 + s k) * XH x k

end row

theorem VR_pos (x : Fin 1024 → ℝ) : 0 < VR x := by
  have := Finset.sum_nonneg (s := Finset.univ) fun (k : Fin 1024) _ => mul_self_nonneg (x k)
  unfold VR mn tiny
  positivity

theorem RS_sq (x : Fin 1024 → ℝ) : RS x * RS x = 1 / VR x := by
  unfold RS
  rw [← mul_inv, Real.mul_self_sqrt (VR_pos x).le, one_div]

theorem word_1024 : Ideal.ofBits .f32 0x44800000#32 = ((1024 : ℝ) : EReal) := by
  simp [Ideal.ofBits, Ideal.ieee, -EReal.coe_mul]; norm_num

theorem div_1024 (x : ℝ) : Ideal.div (x : EReal) ((1024 : ℝ) : EReal) = ((x * (1 / 1024) : ℝ) : EReal) := by
  rw [Ideal.div_coe (by norm_num), ← EReal.coe_mul]

/-- The gradient `t` of a normed row, taken back through the norm of the row `x`. -/
def BX (t x : Fin 1024 → ℝ) (k : Fin 1024) : ℝ := RS x * (t k - XH x k * mn fun j => t j * XH x j)

/-- The two ways of writing the gradient of a row. -/
theorem norm_back (t x : Fin 1024 → ℝ) (k : Fin 1024) :
    t k * RS x + x k * ((∑ j, x j * t j) * (-(1 / 2) * (RS x * (1 / VR x))) * (1 / 1024)) + ((∑ j, x j * t j) * (-(1 / 2) * (RS x * (1 / VR x))) * (1 / 1024)) * x k = BX t x k := by
  have e : (∑ j, t j * XH x j) = (∑ j, x j * t j) * RS x := by
    rw [Finset.sum_mul]
    exact Finset.sum_congr rfl fun j _ => by unfold XH; ring
  unfold BX mn
  rw [e, ← RS_sq]
  unfold XH
  ring

theorem row_back (u : Fin 5632 → ℝ) (w : Fin 5632 → Fin 1024 → ℝ) (x g s : Fin 1024 → ℝ) (k : Fin 1024) :
    TG u w g s k * RS x + x k * ((∑ j, x j * TG u w g s j) * (-(1 / 2) * (RS x * (1 / VR x))) * (1 / 1024))
      + ((∑ j, x j * TG u w g s j) * (-(1 / 2) * (RS x * (1 / VR x))) * (1 / 1024)) * x k = DX u w x g s k := norm_back (TG u w g s) x k

end Cert.Dn
-- ==== Proof.Dn.Words.lean ====
/- What a half of a point's rows works out to when the arrays hold real numbers. -/
module

public import proofs.«01_k».proof.Proof.Dn.Point
public import proofs.«01_k».proof.Proof.Dn.Model

@[expose] public section

set_option maxRecDepth 16384
set_option maxHeartbeats 1000000

noncomputable section

namespace Cert.DnGradIdeal.Result

open Cert.Gmlp (coe_sum word_one word_zero word_tiny rsqrt_pos)
open Cert.Dn Cert.DnGradIdeal Cert.DnGradIdeal.Gen Idealize.ShloMosaic Idealize.SL.Sem

/-- Reals in the rows and columns of an array. -/
abbrev Has {a b : ℕ} (x : (⟨2, ![a, b]⟩ : Shape).Idx → EReal) (X : Fin a → Fin b → ℝ) : Prop := ∀ t k, x (ix2 t k) = ((X t k : ℝ) : EReal)
/-- Reals in a row. -/
abbrev Row {b : ℕ} (x : (⟨2, ![1, b]⟩ : Shape).Idx → EReal) (X : Fin b → ℝ) : Prop := ∀ k, x (ix2 0 k) = ((X k : ℝ) : EReal)

variable {u : Vec Ideal S256x5632 .bf16} {w : Vec Ideal S5632x1024 .bf16} {x : Vec Ideal S256x1024 .f32} {g s : Vec Ideal S1x1024 .f32}
  {U : Fin 256 → Fin 5632 → ℝ} {W : Fin 5632 → Fin 1024 → ℝ} {X : Fin 256 → Fin 1024 → ℝ} {G S : Fin 1024 → ℝ}

theorem dn_real (hu : Has u U) (hw : Has w W) : Has (k0_pay7 u w) fun t => DN (U t) W := by
  intro t k
  unfold k0_pay7
  pointwise
  unfold DN
  rw [coe_sum]
  exact Finset.sum_congr rfl fun j _ => by rw [hu, hw, EReal.coe_mul]

theorem rs_real (hx : Has x X) (t : Fin 256) : (k0_pay8 x (ix2 t 0) : EReal) = ((RS (X t) : ℝ) : EReal) := by
  unfold k0_pay8
  pointwise
  rw [word_1024, word_tiny, Finset.sum_congr rfl fun k _ => (by rw [hx, ← EReal.coe_mul] : (x (ix2 t k) : EReal) * x (ix2 t k) = ((X t k * X t k : ℝ) : EReal)), ← coe_sum, div_1024, ← EReal.coe_add]
  exact rsqrt_pos (VR_pos (X t))

theorem xh_real (hx : Has x X) : Has (k0_pay9 x) fun t => XH (X t) := by
  intro t k
  have h := rs_real hx t
  unfold k0_pay9
  generalize k0_pay8 x = y at h ⊢
  pointwise
  rw [h, hx, ← EReal.coe_mul]
  rfl

theorem dx_real (hu : Has u U) (hw : Has w W) (hx : Has x X) (hg : Row g G) (hs : Row s S) : Has (k0_pay10 u w x g s) fun t => DX (U t) W (X t) G S := by
  intro t k
  have h1 := dn_real hu hw
  have h2 := rs_real hx
  have h3 := xh_real hx
  unfold k0_pay10
  generalize k0_pay7 u w = y1 at h1 ⊢
  generalize k0_pay8 x = y2 at h2 ⊢
  generalize k0_pay9 x = y3 at h3 ⊢
  pointwise
  rw [word_1024, Finset.sum_congr rfl fun j _ => (by rw [h1, h3, hg, hs, ← EReal.coe_one]; simp only [← EReal.coe_mul, ← EReal.coe_add]; rfl :
    (y1 (ix2 t j) : EReal) * (1 + s (ix2 0 j)) * g (ix2 0 j) * y3 (ix2 t j) = ((TG (U t) W G S j * XH (X t) j : ℝ) : EReal)),
    ← coe_sum, div_1024, h1, h2, h3, hg, hs, ← EReal.coe_one]
  simp only [← EReal.coe_mul, ← EReal.coe_add, ← EReal.coe_sub]
  rfl

theorem dc_real (hu : Has u U) (hw : Has w W) (hx : Has x X) (hg : Row g G) {a : Vec Ideal S1x1024 .f32} {A : Fin 1024 → ℝ} (ha : Row a A) :
    Row (k0_pay15 g (k0_pay12 u w x) a) fun k => A k + ∑ t, DC (U t) W (X t) G k := by
  intro k
  have h1 := dn_real hu hw
  have h3 := xh_real hx
  unfold k0_pay15 k0_pay12
  generalize k0_pay7 u w = y1 at h1 ⊢
  generalize k0_pay9 x = y3 at h3 ⊢
  pointwise
  rw [ha, EReal.coe_add, coe_sum]
  congr 1
  exact Finset.sum_congr rfl fun t _ => by rw [h1, h3, hg, ← EReal.coe_mul, ← EReal.coe_mul]; rfl

theorem dp_real (hu : Has u U) (hw : Has w W) (hx : Has x X) (hs : Row s S) {a : Vec Ideal S1x1024 .f32} {A : Fin 1024 → ℝ} (ha : Row a A) :
    Row (k0_pay16 (k0_pay7 u w) s (k0_pay9 x) a) fun k => A k + ∑ t, DP (U t) W (X t) S k := by
  intro k
  have h1 := dn_real hu hw
  have h3 := xh_real hx
  unfold k0_pay16
  generalize k0_pay7 u w = y1 at h1 ⊢
  generalize k0_pay9 x = y3 at h3 ⊢
  pointwise
  rw [ha, EReal.coe_add, coe_sum]
  congr 1
  exact Finset.sum_congr rfl fun t _ => by rw [h1, h3, hs, ← EReal.coe_one]; simp only [← EReal.coe_mul, ← EReal.coe_add]; rfl

theorem ds_real (hu : Has u U) (hw : Has w W) {a : Vec Ideal S1x1024 .f32} {A : Fin 1024 → ℝ} (ha : Row a A) :
    Row (k0_pay14 (k0_pay11 u w) a) fun k => A k + ∑ t, DN (U t) W k := by
  intro k
  have h1 := dn_real hu hw
  unfold k0_pay14 k0_pay11
  generalize k0_pay7 u w = y1 at h1 ⊢
  pointwise
  rw [ha, EReal.coe_add, coe_sum]
  congr 1
  exact Finset.sum_congr rfl fun t _ => h1 t k

end Cert.DnGradIdeal.Result
-- ==== Proof.Dn.Sum.lean ====
/- What the feed-forward's input gradient leaves in its four results when its arguments hold real numbers. -/
module

public import proofs.«01_k».proof.Proof.Dn.Words

@[expose] public section

set_option maxRecDepth 16384
set_option maxHeartbeats 1000000

noncomputable section

namespace Cert.DnGradIdeal.Result

open Cert.Gmlp (coe_sum word_zero)
open Cert.Dn Cert.DnGradIdeal Cert.DnGradIdeal.Gen Idealize.ShloMosaic Idealize.ShloMosaic.TcCoe Idealize.SL.Sem

variable (m : (ℓ : Loc nD τ sig) → Buf (Elt Ideal) ℓ)

/-- Row number `r`. -/
def row (r : ℕ) : Fin 8192 := ⟨r % 8192, by omega⟩

/-- Real numbers in the arguments; the gradient that the rows' is added to may be any. -/
structure Given (c : Dev nD) (U : Fin 8192 → Fin 5632 → ℝ) (W : Fin 5632 → Fin 1024 → ℝ) (X : Fin 8192 → Fin 1024 → ℝ) (S G : Fin 1024 → ℝ) : Prop where
  u : Has (m ((c : Thread nD τ).loc main_arg0)) U
  w : Has (m ((c : Thread nD τ).loc main_arg1)) W
  x : Has (m ((c : Thread nD τ).loc main_arg2)) X
  s : Row (m ((c : Thread nD τ).loc main_arg4)) S
  g : Row (m ((c : Thread nD τ).loc main_arg5)) G

/-- The gradient the rows' is added to. -/
def onto (c : Dev nD) (s : Fin 8192) (k : Fin 1024) : EReal := m ((c : Thread nD τ).loc main_arg3) (ix2 s k)

/-- Where the blocks lie. -/
theorem place : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = t.val ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N, _)

/-- A place in an array of rows and columns, by its two numbers. -/
theorem spot {a b : ℕ} {i : (⟨2, ![a, b]⟩ : Shape).Idx} {t : Fin a} {k : Fin b} (h0 : (i 0).val = t.val) (h1 : (i 1).val = k.val) : i = ix2 t k :=
  funext fun a => Fin.ext (by match a with | ⟨0, _⟩ => exact h0 | ⟨1, _⟩ => exact h1)

section blocks
variable (c : Dev nD) (t : Fin cfg0.N) (j : Fin 2)

theorem pt_lt (t : Fin cfg0.N) : t.val < 16 := lt_of_lt_of_eq t.isLt N_0

theorem u_at (q : Fin 256) (k : Fin 5632) : urows (iblk m c 0 t) j (ix2 q k) = m ((c : Thread nD τ).loc main_arg0) (ix2 (row (512 * t.val + 256 * j.val + q.val)) k) := by
  obtain ⟨⟨e, e'⟩, -⟩ := place t
  have ht := pt_lt t
  refine congrArg (m ((c : Thread nD τ).loc main_arg0)) (spot ?_ ?_)
  · show win0_0.index t (0 : Fin 2) * 512 + 1 * (256 * j.val + 1 * q.val) = (512 * t.val + 256 * j.val + q.val) % 8192; omega
  · show win0_0.index t (1 : Fin 2) * 5632 + 1 * (0 + 1 * k.val) = k.val; omega

theorem w_at (q : Fin 5632) (k : Fin 1024) : iblk m c 1 t (ix2 q k) = m ((c : Thread nD τ).loc main_arg1) (ix2 q k) := by
  obtain ⟨-, ⟨e, e'⟩, -⟩ := place t
  refine congrArg (m ((c : Thread nD τ).loc main_arg1)) (spot ?_ ?_)
  · show win0_1.index t (0 : Fin 2) * 5632 + 1 * q.val = q.val; omega
  · show win0_1.index t (1 : Fin 2) * 1024 + 1 * k.val = k.val; omega

theorem x_at (q : Fin 256) (k : Fin 1024) : xrows (iblk m c 2 t) j (ix2 q k) = m ((c : Thread nD τ).loc main_arg2) (ix2 (row (512 * t.val + 256 * j.val + q.val)) k) := by
  obtain ⟨-, -, ⟨e, e'⟩, -⟩ := place t
  have ht := pt_lt t
  refine congrArg (m ((c : Thread nD τ).loc main_arg2)) (spot ?_ ?_)
  · show win0_2.index t (0 : Fin 2) * 512 + 1 * (256 * j.val + 1 * q.val) = (512 * t.val + 256 * j.val + q.val) % 8192; omega
  · show win0_2.index t (1 : Fin 2) * 1024 + 1 * (0 + 1 * k.val) = k.val; omega

theorem d_at (q : Fin 256) (k : Fin 1024) : xrows (iblk m c 3 t) j (ix2 q k) = onto m c (row (512 * t.val + 256 * j.val + q.val)) k := by
  obtain ⟨-, -, -, ⟨e, e'⟩, -⟩ := place t
  have ht := pt_lt t
  refine congrArg (m ((c : Thread nD τ).loc main_arg3)) (spot ?_ ?_)
  · show win0_3.index t (0 : Fin 2) * 512 + 1 * (256 * j.val + 1 * q.val) = (512 * t.val + 256 * j.val + q.val) % 8192; omega
  · show win0_3.index t (1 : Fin 2) * 1024 + 1 * (0 + 1 * k.val) = k.val; omega

theorem s_at (k : Fin 1024) : iblk m c 4 t (ix2 0 k) = m ((c : Thread nD τ).loc main_arg4) (ix2 0 k) := by
  obtain ⟨-, -, -, -, ⟨e, e'⟩, -⟩ := place t
  refine congrArg (m ((c : Thread nD τ).loc main_arg4)) (spot ?_ ?_)
  · show win0_4.index t (0 : Fin 2) * 1 + 1 * 0 = 0; omega
  · show win0_4.index t (1 : Fin 2) * 1024 + 1 * k.val = k.val; omega

theorem g_at (k : Fin 1024) : iblk m c 5 t (ix2 0 k) = m ((c : Thread nD τ).loc main_arg5) (ix2 0 k) := by
  obtain ⟨-, -, -, -, -, ⟨e, e'⟩, -⟩ := place t
  refine congrArg (m ((c : Thread nD τ).loc main_arg5)) (spot ?_ ?_)
  · show win0_5.index t (0 : Fin 2) * 1 + 1 * 0 = 0; omega
  · show win0_5.index t (1 : Fin 2) * 1024 + 1 * k.val = k.val; omega

end blocks

/-- A sum over the rows of the points so far, one point's two halves added. -/
theorem slab_sum (f : ℕ → ℝ) (n : ℕ) : (∑ r ∈ Finset.range (512 * n), f r) + (∑ q : Fin 256, f (512 * n + 256 * (0 : Fin 2).val + q.val)) + (∑ q : Fin 256, f (512 * n + 256 * (1 : Fin 2).val + q.val))
    = ∑ r ∈ Finset.range (512 * (n + 1)), f r := by
  rw [show 512 * (n + 1) = 512 * n + 256 + 256 by omega, Finset.sum_range_add f (512 * n + 256) 256, Finset.sum_range_add f (512 * n) 256,
    Finset.sum_range fun x => f (512 * n + x), Finset.sum_range fun x => f (512 * n + 256 + x)]
  rfl

theorem rows_sum (f : Fin 8192 → ℝ) {n : ℕ} (h : n = 15) : (∑ r ∈ Finset.range (512 * (n + 1)), f (row r)) = ∑ r, f r := by
  subst h
  rw [Finset.sum_range]
  exact Finset.sum_congr rfl fun r _ => congrArg f (Fin.ext (Nat.mod_eq_of_lt r.isLt))

/-- Points that write a sum back are the last. -/
theorem once {t t' : Fin cfg0.N} {p p' : Prop} (e : p ↔ t.val % 16 = 15) (h : p) (e' : p' ↔ t'.val % 16 = 15) (h' : p') : t.val = t'.val := by
  have a := e.mp h
  have b := e'.mp h'
  have := pt_lt t
  have := pt_lt t'
  omega

theorem last_point : ∃ t : Fin cfg0.N, t.val = 15 := ⟨⟨15, lt_of_lt_of_eq (by omega) N_0.symm⟩, rfl⟩

section sums
variable {m} {c : Dev nD} {U : Fin 8192 → Fin 5632 → ℝ} {W : Fin 5632 → Fin 1024 → ℝ} {X : Fin 8192 → Fin 1024 → ℝ} {S G : Fin 1024 → ℝ}
  (H : Given m c U W X S G)
include H

/-- The three sums after a point, from the sums before it. -/
theorem point (t : Fin cfg0.N) {a b d : Vec Ideal S1x1024 .f32} {st}
    (P : Pass (iblk m c 0 t) (iblk m c 1 t) (iblk m c 2 t) (iblk m c 3 t) (iblk m c 4 t) (iblk m c 5 t) a b d st)
    (ha : Row a fun k => ∑ r ∈ Finset.range (512 * t.val), DN (U (row r)) W k) (hb : Row b fun k => ∑ r ∈ Finset.range (512 * t.val), DC (U (row r)) W (X (row r)) G k)
    (hd : Row d fun k => ∑ r ∈ Finset.range (512 * t.val), DP (U (row r)) W (X (row r)) S k) :
    (Row st.2.1 fun k => ∑ r ∈ Finset.range (512 * (t.val + 1)), DN (U (row r)) W k)
      ∧ (Row st.2.2.1 fun k => ∑ r ∈ Finset.range (512 * (t.val + 1)), DC (U (row r)) W (X (row r)) G k)
      ∧ (Row st.2.2.2 fun k => ∑ r ∈ Finset.range (512 * (t.val + 1)), DP (U (row r)) W (X (row r)) S k) := by
  have hu : ∀ j, Has (urows (iblk m c 0 t) j) fun q => U (row (512 * t.val + 256 * j.val + q.val)) := fun j q k => (u_at m c t j q k).trans (H.u _ _)
  have hw : Has (iblk m c 1 t) W := fun q k => (w_at m c t q k).trans (H.w _ _)
  have hx : ∀ j, Has (xrows (iblk m c 2 t) j) fun q => X (row (512 * t.val + 256 * j.val + q.val)) := fun j q k => (x_at m c t j q k).trans (H.x _ _)
  have hs : Row (iblk m c 4 t) S := fun k => (s_at m c t k).trans (H.s _)
  have hg : Row (iblk m c 5 t) G := fun k => (g_at m c t k).trans (H.g _)
  refine ⟨fun k => ?_, fun k => ?_, fun k => ?_⟩
  · rw [P.shift]
    refine Eq.trans ?_ (congrArg _ (slab_sum (fun r => DN (U (row r)) W k) t.val))
    exact ds_real (hu 1) hw (ds_real (hu 0) hw ha) k
  · rw [P.scale]
    refine Eq.trans ?_ (congrArg _ (slab_sum (fun r => DC (U (row r)) W (X (row r)) G k) t.val))
    exact dc_real (hu 1) hw (hx 1) hg (dc_real (hu 0) hw (hx 0) hg hb) k
  · rw [P.gain]
    refine Eq.trans ?_ (congrArg _ (slab_sum (fun r => DP (U (row r)) W (X (row r)) S k) t.val))
    exact dp_real (hu 1) hw (hx 1) hs (dp_real (hu 0) hw (hx 0) hs hd) k

theorem sums : ∀ (n : ℕ) (hn : n < cfg0.N), (Row (outsAt0 m c n hn).2.1 fun k => ∑ r ∈ Finset.range (512 * (n + 1)), DN (U (row r)) W k)
    ∧ (Row (outsAt0 m c n hn).2.2.1 fun k => ∑ r ∈ Finset.range (512 * (n + 1)), DC (U (row r)) W (X (row r)) G k)
    ∧ (Row (outsAt0 m c n hn).2.2.2 fun k => ∑ r ∈ Finset.range (512 * (n + 1)), DP (U (row r)) W (X (row r)) S k)
  | 0, hn => point H ⟨0, hn⟩ (pass_A m c ⟨0, hn⟩ rfl) (fun _ => word_zero) (fun _ => word_zero) (fun _ => word_zero)
  | n + 1, hn => by
    obtain ⟨h1, h2, h3⟩ := sums n (Nat.lt_of_succ_lt hn)
    have hN := pt_lt ⟨n + 1, hn⟩
    exact point H ⟨n + 1, hn⟩ (pass_B m c ⟨n + 1, hn⟩ (by show ¬(n + 1) % 16 = 0; simp only at hN; omega) (Nat.lt_of_succ_lt hn)) h1 h2 h3

/-- The rows a point leaves. -/
theorem rows (t : Fin cfg0.N) {a b d : Vec Ideal S1x1024 .f32} {st}
    (P : Pass (iblk m c 0 t) (iblk m c 1 t) (iblk m c 2 t) (iblk m c 3 t) (iblk m c 4 t) (iblk m c 5 t) a b d st) (j : Fin 2) (q : Fin 256) (k : Fin 1024) (p : Fin 512)
    (hp : p.val = 256 * j.val + q.val) :
    (st.1 (ix2 p k) : EReal) = onto m c (row (512 * t.val + 256 * j.val + q.val)) k
      + ((DX (U (row (512 * t.val + 256 * j.val + q.val))) W (X (row (512 * t.val + 256 * j.val + q.val))) G S k : ℝ) : EReal) := by
  have hu : Has (urows (iblk m c 0 t) j) fun q => U (row (512 * t.val + 256 * j.val + q.val)) := fun q k => (u_at m c t j q k).trans (H.u _ _)
  have hw : Has (iblk m c 1 t) W := fun q k => (w_at m c t q k).trans (H.w _ _)
  have hx : Has (xrows (iblk m c 2 t) j) fun q => X (row (512 * t.val + 256 * j.val + q.val)) := fun q k => (x_at m c t j q k).trans (H.x _ _)
  have hs : Row (iblk m c 4 t) S := fun k => (s_at m c t k).trans (H.s _)
  have hg : Row (iblk m c 5 t) G := fun k => (g_at m c t k).trans (H.g _)
  have e := dx_real hu hw hx hg hs q k
  refine Eq.trans ?_ (congrArg₂ (· + ·) (d_at m c t j q k) e)
  refine Eq.trans (congrArg st.1 (spot ?_ ?_)).symm (congrFun (P.rows j) (ix2 q k))
  · show 256 * j.val + 1 * q.val = p.val; omega
  · show 0 + 1 * k.val = k.val; omega

theorem rows_any (t : Fin cfg0.N) (j : Fin 2) (q : Fin 256) (k : Fin 1024) (p : Fin 512) (hp : p.val = 256 * j.val + q.val) :
    ((outsAt0 m c t.val t.isLt).1 (ix2 p k) : EReal) = onto m c (row (512 * t.val + 256 * j.val + q.val)) k
      + ((DX (U (row (512 * t.val + 256 * j.val + q.val))) W (X (row (512 * t.val + 256 * j.val + q.val))) G S k : ℝ) : EReal) := by
  by_cases h0 : t.val % 16 = 0
  · exact rows H t (pass_A m c t h0) j q k p hp
  · exact rows H t (pass_B m c t h0 (lt_of_le_of_lt (Nat.sub_le _ _) t.isLt)) j q k p hp

/-- The first result: the rows' gradient, added on. -/
theorem result (s : Fin 8192) (k : Fin 1024) :
    ((dats m 0 c).arrAt 6 cfg0.N (ix2 s k) : EReal) = onto m c s k + ((DX (U s) W (X s) G S k : ℝ) : EReal) := by
  have hN : s.val / 512 < cfg0.N := lt_of_lt_of_eq (by omega) N_0.symm
  have hr : row (512 * (s.val / 512) + 256 * (s.val % 512 / 256) + s.val % 256) = s := Fin.ext (by show (512 * (s.val / 512) + 256 * (s.val % 512 / 256) + s.val % 256) % 8192 = s.val; omega)
  have e := rows_any H ⟨s.val / 512, hN⟩ ⟨s.val % 512 / 256, by omega⟩ ⟨s.val % 256, by omega⟩ k ⟨s.val % 512, by omega⟩ (by show s.val % 512 = 256 * (s.val % 512 / 256) + s.val % 256; omega)
  simp only [hr] at e
  obtain ⟨-, -, -, -, -, -, ⟨e0, e1⟩, -⟩ := place ⟨s.val / 512, hN⟩
  have h := (dats m 0 c).arrAt_emb_eq_flushed 6 Value.disjoint6 ⟨s.val / 512, hN⟩ (flush0_6 _) (ix2 (⟨s.val % 512, by omega⟩ : Fin 512) k)
  rw [Value.flushed6] at h
  refine Eq.trans (congrArg ((dats m 0 c).arrAt 6 cfg0.N) (spot ?_ ?_)).symm (h.trans e)
  · show win0_6.index _ (0 : Fin 2) * 512 + 1 * (s.val % 512) = s.val; rw [e0]; show s.val / 512 * 512 + 1 * (s.val % 512) = s.val; omega
  · show win0_6.index _ (1 : Fin 2) * 1024 + 1 * k.val = k.val; omega

/-- The second: the gradient of the shift. -/
theorem shift_result (k : Fin 1024) : ((dats m 0 c).arrAt 7 cfg0.N (ix2 0 k) : EReal) = ((∑ r, DN (U r) W k : ℝ) : EReal) := by
  obtain ⟨t, ht⟩ := last_point
  have e := (sums H t.val t.isLt).1 k
  replace e := e.trans (congrArg _ (rows_sum (fun r => DN (U r) W k) ht))
  obtain ⟨-, -, -, -, -, -, -, ⟨e0, e1⟩, -⟩ := place t
  have h := (dats m 0 c).arrAt_emb_eq_flushed 7 (fun t t' hf hf' hne => absurd (Fin.ext (once (flush0_7 t) hf (flush0_7 t') hf')) hne) t ((flush0_7 _).mpr (by omega)) (ix2 (0 : Fin 1) k)
  rw [Value.flushed7] at h
  refine Eq.trans (congrArg ((dats m 0 c).arrAt 7 cfg0.N) (spot ?_ ?_)).symm (h.trans e)
  · show win0_7.index _ (0 : Fin 2) * 1 + 1 * 0 = 0; omega
  · show win0_7.index _ (1 : Fin 2) * 1024 + 1 * k.val = k.val; omega

/-- The third: that of the scale. -/
theorem scale_result (k : Fin 1024) : ((dats m 0 c).arrAt 8 cfg0.N (ix2 0 k) : EReal) = ((∑ r, DC (U r) W (X r) G k : ℝ) : EReal) := by
  obtain ⟨t, ht⟩ := last_point
  have e := (sums H t.val t.isLt).2.1 k
  replace e := e.trans (congrArg _ (rows_sum (fun r => DC (U r) W (X r) G k) ht))
  obtain ⟨-, -, -, -, -, -, -, -, ⟨e0, e1⟩, -⟩ := place t
  have h := (dats m 0 c).arrAt_emb_eq_flushed 8 (fun t t' hf hf' hne => absurd (Fin.ext (once (flush0_8 t) hf (flush0_8 t') hf')) hne) t ((flush0_8 _).mpr (by omega)) (ix2 (0 : Fin 1) k)
  rw [Value.flushed8] at h
  refine Eq.trans (congrArg ((dats m 0 c).arrAt 8 cfg0.N) (spot ?_ ?_)).symm (h.trans e)
  · show win0_8.index _ (0 : Fin 2) * 1 + 1 * 0 = 0; omega
  · show win0_8.index _ (1 : Fin 2) * 1024 + 1 * k.val = k.val; omega

/-- The last: that of the gain. -/
theorem gain_result (k : Fin 1024) : ((dats m 0 c).arrAt 9 cfg0.N (ix2 0 k) : EReal) = ((∑ r, DP (U r) W (X r) S k : ℝ) : EReal) := by
  obtain ⟨t, ht⟩ := last_point
  have e := (sums H t.val t.isLt).2.2 k
  replace e := e.trans (congrArg _ (rows_sum (fun r => DP (U r) W (X r) S k) ht))
  obtain ⟨-, -, -, -, -, -, -, -, -, ⟨e0, e1⟩⟩ := place t
  have h := (dats m 0 c).arrAt_emb_eq_flushed 9 (fun t t' hf hf' hne => absurd (Fin.ext (once (flush0_9 t) hf (flush0_9 t') hf')) hne) t ((flush0_9 _).mpr (by omega)) (ix2 (0 : Fin 1) k)
  rw [Value.flushed9] at h
  refine Eq.trans (congrArg ((dats m 0 c).arrAt 9 cfg0.N) (spot ?_ ?_)).symm (h.trans e)
  · show win0_9.index _ (0 : Fin 2) * 1 + 1 * 0 = 0; omega
  · show win0_9.index _ (1 : Fin 2) * 1024 + 1 * k.val = k.val; omega

end sums

end Cert.DnGradIdeal.Result
-- ==== Proof.Dn.Ref.lean ====
/- The reference of the feed-forward's input gradient in real numbers, stage by stage. -/
module

public import proofs.«01_k».proof.Proof.Dn.Model
public import proofs.«01_k».proof.Proof.Gmlp.RefMid
public import proofs.«01_k».proof.Proof.Gen.DnReferenceIdeal.Read

@[expose] public section

set_option maxRecDepth 16384
set_option maxHeartbeats 1000000

noncomputable section

namespace Cert.DnReferenceIdeal.Real

open Cert.Gmlp (Is word_tiny word_one word_zero word_neg_half reduce_over one_only)
open Cert.Dn Cert.DnReferenceIdeal Cert.DnReferenceIdeal.Gen Cert.DnReferenceIdeal.Read Idealize.ShloMosaic

/-- The reference's arguments, in real numbers. -/
structure Given (x0 : (⟨S8192x5632, .bf16⟩ : BufTy).Contents (Elt Ideal)) (x1 : (⟨S5632x1024, .bf16⟩ : BufTy).Contents (Elt Ideal))
    (x2 : (⟨S8192x1024, .f32⟩ : BufTy).Contents (Elt Ideal)) (x4 x5 : (⟨S1x1024, .f32⟩ : BufTy).Contents (Elt Ideal))
    (U : Fin 8192 → Fin 5632 → ℝ) (W : Fin 5632 → Fin 1024 → ℝ) (X : Fin 8192 → Fin 1024 → ℝ) (S G : Fin 1024 → ℝ) : Prop where
  u : ∀ r j, (x0 (ix2 r j) : EReal) = ((U r j : ℝ) : EReal)
  w : ∀ j k, (x1 (ix2 j k) : EReal) = ((W j k : ℝ) : EReal)
  x : ∀ r k, (x2 (ix2 r k) : EReal) = ((X r k : ℝ) : EReal)
  s : ∀ k, (x4 (ix2 0 k) : EReal) = ((S k : ℝ) : EReal)
  g : ∀ k, (x5 (ix2 0 k) : EReal) = ((G k : ℝ) : EReal)

variable {x0 : (⟨S8192x5632, .bf16⟩ : BufTy).Contents (Elt Ideal)} {x1 : (⟨S5632x1024, .bf16⟩ : BufTy).Contents (Elt Ideal)}
  {x2 : (⟨S8192x1024, .f32⟩ : BufTy).Contents (Elt Ideal)} {x4 x5 : (⟨S1x1024, .f32⟩ : BufTy).Contents (Elt Ideal)}
  {U : Fin 8192 → Fin 5632 → ℝ} {W : Fin 5632 → Fin 1024 → ℝ} {X : Fin 8192 → Fin 1024 → ℝ} {S G : Fin 1024 → ℝ}

/-- A sum over two axes of size one. -/
theorem last_cols {X : FVec Ideal S1x1x1024 .f32} {c : FVec Ideal S_ .f32} {k : Fin 1024} {x : ℝ} (z : Is (c (Shape.Idx.first h_S_)) 0) (h : Is (X (ix3 0 0 k)) x) :
    Is (Host.reduceAdd X c reducesTo_S1x1x1024_S1024_d0_1 h_S_ (ix1 k)) x := by
  refine Is.be (Is.red (F := fun _ : Unit => X (ix3 0 0 k)) ?_ z fun _ => h) (Fintype.sum_unique _)
  simp only [Host.reduceAdd, Ideal.hostReduceAdd_def]
  refine reduce_over _ _ _ _ (fun _ : Unit => ix3 0 0 k) (fun _ _ _ => rfl) (fun p => eq_ix1 _) fun i hi => ⟨(), ?_⟩
  refine Eq.trans ?_ (eq_ix3 i).symm
  have h1 : i 2 = k := Fin.ext (congrArg Fin.val (congrFun hi (0 : Fin 1)))
  rw [h1]
  exact congrArg₂ (fun a b => ix3 a b k) (one_only (i 0)).symm (one_only (i 1)).symm

theorem last_rows {X : FVec Ideal S1x8192x1 .f32} {c : FVec Ideal S_ .f32} {r : Fin 8192} {x : ℝ} (z : Is (c (Shape.Idx.first h_S_)) 0) (h : Is (X (ix3 0 r 0)) x) :
    Is (Host.reduceAdd X c reducesTo_S1x8192x1_S8192_d0_2 h_S_ (ix1 r)) x := by
  refine Is.be (Is.red (F := fun _ : Unit => X (ix3 0 r 0)) ?_ z fun _ => h) (Fintype.sum_unique _)
  simp only [Host.reduceAdd, Ideal.hostReduceAdd_def]
  refine reduce_over _ _ _ _ (fun _ : Unit => ix3 0 r 0) (fun _ _ _ => rfl) (fun p => eq_ix1 _) fun i hi => ⟨(), ?_⟩
  refine Eq.trans ?_ (eq_ix3 i).symm
  have h1 : i 1 = r := Fin.ext (congrArg Fin.val (congrFun hi (0 : Fin 1)))
  rw [h1]
  exact congrArg₂ (fun a b => ix3 a r b) (one_only (i 0)).symm (one_only (i 2)).symm

/-- A column's one element, of the array that keeps the summed axes. -/
theorem col_at (k : Fin 1024) (j : S1x1024.Idx) (h : (j 1).val = k.val) : j = ix2 0 k :=
  (eq_ix2 j).trans (congrArg₂ ix2 (one_only (j 0)) (Fin.ext h))
theorem row_at (r : Fin 8192) (j : S1x8192.Idx) (h : (j 1).val = r.val) : j = ix2 0 r :=
  (eq_ix2 j).trans (congrArg₂ ix2 (one_only (j 0)) (Fin.ext h))

variable (H : Given x0 x1 x2 x4 x5 U W X S G)
include H

theorem v16 (k : Fin 1024) : Is (val_main_v16 (F := Ideal) x5 (ix3 0 0 k)) (G k) :=
  Is.of (val_main_v16_apply x5 _) (Is.of (val_main_v2_apply x5 _) ((congrArg x5 (col_at k _ (Nat.mod_eq_of_lt k.isLt))).trans (H.g k)))

theorem v21 (k : Fin 1024) : Is (val_main_v21 (F := Ideal) x4 (ix3 0 0 k)) (1 + S k) :=
  Is.of (val_main_v21_apply x4 _) (Is.add (Is.of (val_main_v20_apply _) (Is.of (val_main_cst_4_apply _) word_one))
    (Is.of (val_main_v19_apply x4 _) ((congrArg x4 (col_at k _ rfl)).trans (H.s k))))

section row

variable (r : Fin 8192)

theorem v0 (k : Fin 1024) : Is (val_main_v0 (F := Ideal) x2 (ix3 0 r k)) (X r k) :=
  Is.of (val_main_v0_apply x2 _) ((congrArg x2 (eq_ix2 _)).trans (H.x r k))

theorem v9 : Is (val_main_v9 (F := Ideal) x2 (ix3 0 r 0)) (VR (X r)) :=
  Is.of (val_main_v9_apply x2 _) (Is.add
    (Is.of (val_main_v7_apply x2 _) (Is.div
      (Is.of (val_main_v5_apply x2 _) (Is.red (val_main_v4_apply x2 _) word_zero fun k =>
        Is.at_ (X := val_main_v3 (F := Ideal) x2) (Is.of (val_main_v3_apply x2 _) (Is.mul (v0 H r k) (v0 H r k))) (eq_ix3 _)))
      (Is.of (val_main_v6_apply _) (Is.of (val_main_cst_1_apply _) word_1024)) (by norm_num)))
    (Is.of (val_main_v8_apply _) (Is.of (val_main_cst_2_apply _) word_tiny)))

theorem v10 : Is (val_main_v10 (F := Ideal) x2 (ix3 0 r 0)) (RS (X r)) :=
  Is.of (val_main_v10_apply x2 _) (Is.rsqrt (v9 H r) (VR_pos (X r)))

theorem v13 : Is (val_main_v13 (F := Ideal) x2 (ix3 0 r 0)) (-(1 / 2) * (RS (X r) * (1 / VR (X r)))) :=
  Is.of (val_main_v13_apply x2 _) (Is.mul (Is.of (val_main_v12_apply _) (Is.of (val_main_cst_3_apply _) word_neg_half))
    (Is.of (val_main_v11_apply x2 _) (Is.div (v10 H r) (v9 H r) (VR_pos (X r)).ne')))

theorem v15 (k : Fin 1024) : Is (val_main_v15 (F := Ideal) x2 (ix3 0 r k)) (XH (X r) k) :=
  Is.of (val_main_v15_apply x2 _) (Is.mul (v0 H r k) (Is.of (val_main_v14_apply x2 _) (Is.at_ (v10 H r) (eq_ix3 _))))

theorem v18 (k : Fin 1024) : Is (val_main_v18 (F := Ideal) x2 x5 (ix3 0 r k)) (XH (X r) k * G k) :=
  Is.of (val_main_v18_apply x2 x5 _) (Is.mul (v15 H r k) (Is.of (val_main_v17_apply x5 _) (Is.at_ (v16 H k) (eq_ix3 _))))

theorem v32 (k : Fin 1024) : Is (val_main_v32 (F := Ideal) x0 x1 (ix3 0 r k)) (DN (U r) W k) := by
  refine (val_main_v32_apply x0 x1 _).trans (Is.total fun j => ?_)
  refine Is.mul (a := val_main_v31 (F := Ideal) x0 _) (b := val_main_v28 (F := Ideal) x1 _) ?_ ?_
  · exact Is.of (val_main_v31_apply x0 _) (Is.of (val_main_v30_apply x0 _) ((congrArg x0 (eq_ix2 _)).trans (H.u r j)))
  · exact Is.of (val_main_v28_apply x1 _) (Is.of (val_main_v27_apply x1 _) ((congrArg x1 (eq_ix2 _)).trans (H.w j k)))

theorem v41 (k : Fin 1024) : Is (val_main_v41 (F := Ideal) x0 x1 x4 (ix3 0 r k)) (DN (U r) W k * (1 + S k)) :=
  Is.of (val_main_v41_apply x0 x1 x4 _) (Is.mul (v32 H r k) (Is.of (val_main_v40_apply x4 _) (Is.at_ (v21 H k) (eq_ix3 _))))

theorem v48 (k : Fin 1024) : Is (val_main_v48 (F := Ideal) x0 x1 x4 x5 (ix3 0 r k)) (TG (U r) W G S k) :=
  Is.of (val_main_v48_apply x0 x1 x4 x5 _) (Is.mul (v41 H r k) (Is.of (val_main_v47_apply x5 _) (Is.at_ (v16 H k) (eq_ix3 _))))

theorem v57 : Is (val_main_v57 (F := Ideal) x0 x1 x2 x4 x5 (ix3 0 r 0))
    ((∑ j, X r j * TG (U r) W G S j) * (-(1 / 2) * (RS (X r) * (1 / VR (X r)))) * (1 / 1024)) := by
  have l : Is (val_main_v51 (F := Ideal) x0 x1 x2 x4 x5 (ix2 0 r)) (∑ j, X r j * TG (U r) W G S j) :=
    Is.red (val_main_v51_apply x0 x1 x2 x4 x5 _) word_zero fun k =>
      Is.at_ (X := val_main_v50 (F := Ideal) x0 x1 x2 x4 x5) (Is.of (val_main_v50_apply x0 x1 x2 x4 x5 _) (Is.mul (v0 H r k) (v48 H r k))) (eq_ix3 _)
  exact Is.of (val_main_v57_apply x0 x1 x2 x4 x5 _) (Is.div
    (Is.of (val_main_v55_apply x0 x1 x2 x4 x5 _) (Is.mul
      (Is.of (val_main_v52_apply x0 x1 x2 x4 x5 _) (Is.at_ l (row_at r _ (by show ((0 * 8192 + r.val) * 1 + 0) % 8192 = r.val; omega)))) (v13 H r)))
    (Is.of (val_main_v56_apply _) (Is.of (val_main_cst_12_apply _) word_1024)) (by norm_num))

theorem v60 (k : Fin 1024) : Is (val_main_v60 (F := Ideal) x0 x1 x2 x4 x5 (ix3 0 r k))
    ((∑ j, X r j * TG (U r) W G S j) * (-(1 / 2) * (RS (X r) * (1 / VR (X r)))) * (1 / 1024)) :=
  Is.of (val_main_v60_apply x0 x1 x2 x4 x5 _) (Is.of (val_main_v59_apply x0 x1 x2 x4 x5 _)
    (Is.at_ (i := ix1 r) (last_rows word_zero (v57 H r)) (eq_ix1 _)))

/-- The rows' gradient. -/
theorem v64 (k : Fin 1024) : Is (val_main_v64 (F := Ideal) x0 x1 x2 x4 x5 (ix3 0 r k)) (DX (U r) W (X r) G S k) :=
  Is.be (Is.of (val_main_v64_apply x0 x1 x2 x4 x5 _) (Is.add
    (Is.of (val_main_v62_apply x0 x1 x2 x4 x5 _) (Is.add
      (Is.of (val_main_v54_apply x0 x1 x2 x4 x5 _) (Is.mul (v48 H r k) (Is.of (val_main_v53_apply x2 _) (Is.at_ (v10 H r) (eq_ix3 _)))))
      (Is.of (val_main_v61_apply x0 x1 x2 x4 x5 _) (Is.mul (v0 H r k) (v60 H r k)))))
    (Is.of (val_main_v63_apply x0 x1 x2 x4 x5 _) (Is.mul (v60 H r k) (v0 H r k))))) (row_back (U r) W (X r) G S k)

theorem v66 (k : Fin 1024) : Is (val_main_v66 (F := Ideal) x0 x1 x2 x4 x5 (ix2 r k)) (DX (U r) W (X r) G S k) :=
  Is.of (val_main_v66_apply x0 x1 x2 x4 x5 _) (Is.at_ (v64 H r k) (by
    funext a
    refine Fin.ext ?_
    match a with
    | ⟨0, _⟩ => rfl
    | ⟨1, _⟩ => show (r.val * 1024 + k.val) / 1024 % 8192 = r.val; omega
    | ⟨2, _⟩ => show (r.val * 1024 + k.val) % 1024 = k.val; omega))

end row

/-- The gradients of the shift, of the scale and of the gain. -/
theorem v36 (k : Fin 1024) : Is (val_main_v36 (F := Ideal) x0 x1 (ix2 0 k)) (∑ r, DN (U r) W k) := by
  have l : Is (val_main_v33 (F := Ideal) x0 x1 (ix2 0 k)) (∑ r, DN (U r) W k) :=
    Is.red (val_main_v33_apply x0 x1 _) word_zero fun r => Is.at_ (X := val_main_v32 (F := Ideal) x0 x1) (v32 H r k) (eq_ix3 _)
  exact Is.of (val_main_v36_apply x0 x1 _) (Is.at_ (i := ix1 k) (last_cols word_zero (Is.of (val_main_v34_apply x0 x1 _)
    (Is.at_ l (col_at k _ (by show ((0 * 1 + 0) * 1024 + k.val) % 1024 = k.val; omega))))) (eq_ix1 _))

theorem v43 (k : Fin 1024) : Is (val_main_v43 (F := Ideal) x0 x1 x2 x5 (ix2 0 k)) (∑ r, DC (U r) W (X r) G k) := by
  have l : Is (val_main_v38 (F := Ideal) x0 x1 x2 x5 (ix2 0 k)) (∑ r, DC (U r) W (X r) G k) :=
    Is.red (val_main_v38_apply x0 x1 x2 x5 _) word_zero fun r => Is.at_ (X := val_main_v37 (F := Ideal) x0 x1 x2 x5)
      (Is.be (Is.of (val_main_v37_apply x0 x1 x2 x5 _) (Is.mul (v18 H r k) (v32 H r k))) (by unfold DC; ring)) (eq_ix3 _)
  exact Is.of (val_main_v43_apply x0 x1 x2 x5 _) (Is.at_ (i := ix1 k) (last_cols word_zero (Is.of (val_main_v39_apply x0 x1 x2 x5 _)
    (Is.at_ l (col_at k _ (by show ((0 * 1 + 0) * 1024 + k.val) % 1024 = k.val; omega))))) (eq_ix1 _))

theorem v65 (k : Fin 1024) : Is (val_main_v65 (F := Ideal) x0 x1 x2 x4 (ix2 0 k)) (∑ r, DP (U r) W (X r) S k) := by
  have l : Is (val_main_v45 (F := Ideal) x0 x1 x2 x4 (ix2 0 k)) (∑ r, DP (U r) W (X r) S k) :=
    Is.red (val_main_v45_apply x0 x1 x2 x4 _) word_zero fun r => Is.at_ (X := val_main_v44 (F := Ideal) x0 x1 x2 x4)
      (Is.be (Is.of (val_main_v44_apply x0 x1 x2 x4 _) (Is.mul (v15 H r k) (v41 H r k))) (by unfold DP; ring)) (eq_ix3 _)
  exact Is.of (val_main_v65_apply x0 x1 x2 x4 _) (Is.at_ (i := ix1 k) (last_cols word_zero (Is.of (val_main_v46_apply x0 x1 x2 x4 _)
    (Is.at_ l (col_at k _ (by show ((0 * 1 + 0) * 1024 + k.val) % 1024 = k.val; omega))))) (eq_ix1 _))

end Cert.DnReferenceIdeal.Real
-- ==== Proof.Dn.Agree.lean ====
/- The backward pass of the feed-forward's input product and of the norm before it: from finite arguments the kernel and the reference end with the same four results. -/
module

public import proofs.«01_k».proof.Defs
public import proofs.«01_k».proof.Proof.Gmlp.Agree
public import proofs.«01_k».proof.Proof.Dn.Sum
public import proofs.«01_k».proof.Proof.Dn.Ref

@[expose] public section

set_option maxRecDepth 16384
set_option maxHeartbeats 1000000

noncomputable section

namespace Cert.Dn

open Idealize.ShloMosaic Idealize.ShloMosaic.TcCoe Idealize.SL.Sem
open Cert.Gmlp (entries)

/-- What the kernel's arguments hold, when all but the gradient that is added to are finite. -/
theorem holds [Pre_tame.Facts] (m : (ℓ : Loc DnGradIdeal.nD DnGradIdeal.τ DnGradIdeal.sig) → Buf (Elt Ideal) ℓ) (p : Pre_DnGradIdeal_tame m) (c : Dev DnGradIdeal.nD) :
    ∃ U W X S G, DnGradIdeal.Result.Given m c U W X S G := by
  have e := p c
  simp only [Pre_tame.fn, Pre_tame.fn_part1] at e
  obtain ⟨e0, e1, e2, e4, e5⟩ := e
  exact ⟨_, _, _, _, _, fun r j => entries _ _ _ _ _ e0 (ix2 r j), fun j k => entries _ _ _ _ _ e1 (ix2 j k), fun r k => entries _ _ _ _ _ e2 (ix2 r k),
    fun k => entries _ _ _ _ _ e4 (ix2 0 k), fun k => entries _ _ _ _ _ e5 (ix2 0 k)⟩

/-- Two rows with the same entries are equal. -/
theorem row_ext {x y : (⟨2, ![1, 1024]⟩ : Shape).Idx → EReal} (h : ∀ k, x (ix2 0 k) = y (ix2 0 k)) : x = y := by
  funext i
  obtain ⟨z, k, rfl⟩ : ∃ (z : Fin 1) (k : Fin 1024), i = ix2 z k := ⟨i 0, i 1, eq_ix2 i⟩
  obtain rfl : z = 0 := Fin.ext (Nat.lt_one_iff.mp z.isLt)
  exact h k

theorem agrees [DnGradIdeal.Facts] [DnReferenceIdeal.Facts] [Pre_tame.Facts] : algebraic_DnGradIdeal_DnReferenceIdeal_pre_tame := by
  intro m g m' g' p h
  refine ⟨fun c => (DnGradIdeal.Gen.dats m 0 c).arrAt 6 DnGradIdeal.cfg0.N, fun c => (DnGradIdeal.Gen.dats m 0 c).arrAt 7 DnGradIdeal.cfg0.N,
    fun c => (DnGradIdeal.Gen.dats m 0 c).arrAt 8 DnGradIdeal.cfg0.N, fun c => (DnGradIdeal.Gen.dats m 0 c).arrAt 9 DnGradIdeal.cfg0.N,
    DnGradIdeal.Value.run_blocks m g, ?_⟩
  refine (θ_run _ _ _).mono (fun r hr c => ?_) (DnReferenceIdeal.Value.run m' g')
  obtain ⟨U, W, X, S, G, H⟩ := holds m p c
  obtain ⟨a0, a1, a2, a3, a4, a5⟩ := h c
  have K : DnReferenceIdeal.Real.Given (m' ((c.tc : Thread DnReferenceIdeal.nD DnReferenceIdeal.τ).loc DnReferenceIdeal.main_arg0))
      (m' ((c.tc : Thread DnReferenceIdeal.nD DnReferenceIdeal.τ).loc DnReferenceIdeal.main_arg1)) (m' ((c.tc : Thread DnReferenceIdeal.nD DnReferenceIdeal.τ).loc DnReferenceIdeal.main_arg2))
      (m' ((c.tc : Thread DnReferenceIdeal.nD DnReferenceIdeal.τ).loc DnReferenceIdeal.main_arg4)) (m' ((c.tc : Thread DnReferenceIdeal.nD DnReferenceIdeal.τ).loc DnReferenceIdeal.main_arg5))
      U W X S G :=
    ⟨fun r j => (congrFun a0 _).trans (H.u r j), fun j k => (congrFun a1 _).trans (H.w j k), fun r k => (congrFun a2 _).trans (H.x r k),
      fun k => (congrFun a4 _).trans (H.s k), fun k => (congrFun a5 _).trans (H.g k)⟩
  obtain ⟨h0, h1, h2, h3, h4⟩ := hr c
  refine ⟨h0.trans ?_, h1.trans ?_, h2.trans ?_, h3.trans ?_, h4⟩
  · refine (DnReferenceIdeal.Read.val_main_v67_eq m' c).trans (funext fun i => ?_)
    obtain ⟨r, k, rfl⟩ : ∃ (r : Fin 8192) (k : Fin 1024), i = ix2 r k := ⟨i 0, i 1, eq_ix2 i⟩
    exact ((DnReferenceIdeal.Read.val_main_v67_apply _ _ _ _ _ _ _).trans (congrArg₂ (fun a b : EReal => a + b) (congrFun a3 (ix2 r k)) (DnReferenceIdeal.Real.v66 K r k))).trans
      (DnGradIdeal.Result.result H r k).symm
  · exact (DnReferenceIdeal.Read.val_main_v36_eq _ _).trans (row_ext fun k => (DnReferenceIdeal.Real.v36 K k).trans (DnGradIdeal.Result.shift_result H k).symm)
  · exact (DnReferenceIdeal.Read.val_main_v43_eq _ _ _ _).trans (row_ext fun k => (DnReferenceIdeal.Real.v43 K k).trans (DnGradIdeal.Result.scale_result H k).symm)
  · exact (DnReferenceIdeal.Read.val_main_v65_eq _ _ _ _).trans (row_ext fun k => (DnReferenceIdeal.Real.v65 K k).trans (DnGradIdeal.Result.gain_result H k).symm)

end Cert.Dn

end
-- ==== Proof.Ffn.Model.lean ====
/- The first half of a gated feed-forward over the real numbers: a norm with a shift and a scale, two products, and the gate. -/
module

public import proofs.«01_k».proof.Proof.Dn.Model

@[expose] public section

noncomputable section

namespace Cert.Ffn

open Cert.Dn (XH)
open Idealize.ShloMosaic

/-- The normed row, scaled and shifted. -/
def NX (x g s b : Fin 1024 → ℝ) (k : Fin 1024) : ℝ := XH x k * g k * (1 + s k) + b k

/-- A row against a row of the weights. -/
def dot (n w : Fin 1024 → ℝ) : ℝ := ∑ k, n k * w k

/-- The logistic function, the gate it makes, and the gate's slope times `u`. -/
def sg (g : ℝ) : ℝ := 1 / (1 + Real.exp (-g))
def silu (g : ℝ) : ℝ := g * sg g
def slope (g u : ℝ) : ℝ := u * (sg g * (1 + g * (1 - sg g)))

/-- The weights' rows of the gate and of the product it gates. -/
def gate (f : Fin 2816) : Fin 5632 := ⟨f.val, by omega⟩
def up (f : Fin 2816) : Fin 5632 := ⟨2816 + f.val, by omega⟩

theorem sg_pos (g : ℝ) : 0 < 1 + Real.exp (-g) := by have := Real.exp_pos (-g); linarith

theorem logistic_real (g : ℝ) : Ideal.logistic (g : EReal) = ((sg g : ℝ) : EReal) := by
  unfold Ideal.logistic sg
  rw [← EReal.coe_neg, Ideal.exp_coe, ← EReal.coe_one, ← EReal.coe_add, Ideal.div_coe (sg_pos g).ne', ← EReal.coe_mul]
  rw [one_mul]

/-- The slope as the product rule writes it. -/
theorem slope_sum (g u : ℝ) : u * sg g + g * u * (sg g * (1 - sg g)) = slope g u := by unfold slope; ring

end Cert.Ffn

end
-- ==== Proof.Ffn.Words.lean ====
/- What a tile of the feed-forward's first half works out to when the blocks hold real numbers. -/
module

public import proofs.«01_k».proof.Proof.Gmlp.Words
public import proofs.«01_k».proof.Proof.Ffn.Model
public import proofs.«01_k».proof.Proof.Gen.UpIdeal.Value

@[expose] public section

set_option maxRecDepth 16384
set_option maxHeartbeats 1000000

noncomputable section

namespace Cert.UpIdeal.Result

open Cert.Gmlp (coe_sum word_one word_zero word_tiny rsqrt_pos)
open Cert.Dn (VR VR_pos RS XH word_1024 div_1024)
open Cert.Ffn Cert.UpIdeal Cert.UpIdeal.Gen Idealize.ShloMosaic Idealize.SL.Sem

/-- Reals in the rows and columns of an array. -/
abbrev Has {a b : ℕ} (x : (⟨2, ![a, b]⟩ : Shape).Idx → EReal) (X : Fin a → Fin b → ℝ) : Prop := ∀ t k, x (ix2 t k) = ((X t k : ℝ) : EReal)
/-- Reals in a row. -/
abbrev Row {b : ℕ} (x : (⟨2, ![1, b]⟩ : Shape).Idx → EReal) (X : Fin b → ℝ) : Prop := ∀ k, x (ix2 0 k) = ((X k : ℝ) : EReal)

section norm
variable {x : Vec Ideal S256x1024 .f32} {g s b : Vec Ideal S1x1024 .f32} {X : Fin 256 → Fin 1024 → ℝ} {G S B : Fin 1024 → ℝ}

theorem n_real (hx : Has x X) (hg : Row g G) (hs : Row s S) (hb : Row b B) : Has (k0_pay1 x g s b) fun t => NX (X t) G S B := by
  intro t k
  unfold k0_pay1
  pointwise
  rw [word_1024, word_tiny, Finset.sum_congr rfl fun k _ => (by rw [hx, ← EReal.coe_mul] : (x (ix2 t k) : EReal) * x (ix2 t k) = ((X t k * X t k : ℝ) : EReal)), ← coe_sum, div_1024, ← EReal.coe_add,
    hx, hg, hs, hb, ← EReal.coe_one]
  refine Eq.trans (congrArg (fun r : EReal => ((X t k : ℝ) : EReal) * r * ((G k : ℝ) : EReal) * (((1 : ℝ) : EReal) + ((S k : ℝ) : EReal)) + ((B k : ℝ) : EReal)) (rsqrt_pos (VR_pos (X t)))) ?_
  simp only [← EReal.coe_mul, ← EReal.coe_add]
  rfl

end norm

section tile
variable {n v w : FVec Ideal S256x1024 .bf16} {N A B : Fin 256 → Fin 1024 → ℝ}

theorem gate_real (hn : Has n N) (hv : Has v A) : Has (k0_pay10 n v) fun t f => dot (N t) (A f) := by
  intro t f
  unfold k0_pay10
  pointwise
  unfold dot
  rw [coe_sum]
  exact Finset.sum_congr rfl fun j _ => by rw [hn, hv, EReal.coe_mul]

theorem up_real (hn : Has n N) (hw : Has w B) : Has (k0_pay11 n w) fun t f => dot (N t) (B f) := gate_real hn hw

theorem sg_real (hn : Has n N) (hv : Has v A) : Has (k0_pay12 n v) fun t f => sg (dot (N t) (A f)) := by
  intro t f
  have h := gate_real hn hv
  unfold k0_pay12
  generalize k0_pay10 n v = y at h ⊢
  pointwise
  rw [h]
  exact logistic_real _

theorem silu_real (hn : Has n N) (hv : Has v A) : Has (k0_pay15 n v) fun t f => silu (dot (N t) (A f)) := by
  intro t f
  have h := gate_real hn hv
  have h' := sg_real hn hv
  unfold k0_pay15 k0_pay13
  generalize k0_pay10 n v = y at h ⊢
  generalize k0_pay12 n v = y' at h' ⊢
  pointwise
  rw [h, h', ← EReal.coe_mul]
  rfl

theorem hidden_real (hn : Has n N) (hv : Has v A) (hw : Has w B) : Has (k0_pay16 n v w) fun t f => silu (dot (N t) (A f)) * dot (N t) (B f) := by
  intro t f
  have h := gate_real hn hv
  have h' := sg_real hn hv
  have h'' := up_real hn hw
  unfold k0_pay16 k0_pay13
  generalize k0_pay10 n v = y at h ⊢
  generalize k0_pay12 n v = y' at h' ⊢
  generalize k0_pay11 n w = y'' at h'' ⊢
  pointwise
  rw [h, h', h'', ← EReal.coe_mul, ← EReal.coe_mul]
  rfl

theorem slope_real (hn : Has n N) (hv : Has v A) (hw : Has w B) : Has (k0_pay14 n v w) fun t f => slope (dot (N t) (A f)) (dot (N t) (B f)) := by
  intro t f
  have h := gate_real hn hv
  have h' := sg_real hn hv
  have h'' := up_real hn hw
  unfold k0_pay14
  generalize k0_pay10 n v = y at h ⊢
  generalize k0_pay12 n v = y' at h' ⊢
  generalize k0_pay11 n w = y'' at h'' ⊢
  pointwise
  rw [h, h', h'', ← EReal.coe_one]
  simp only [← EReal.coe_mul, ← EReal.coe_add, ← EReal.coe_sub]
  rfl

end tile

end Cert.UpIdeal.Result

end
-- ==== Proof.Ffn.Tiles.lean ====
/- One grid point of the feed-forward's first half: its stores are the tiles of four whole arrays. -/
module

public import proofs.«01_k».proof.Proof.Ffn.Words
public import Idealize.ShloMosaic.Lib.Pipeline.ValueKit

@[expose] public section

set_option maxRecDepth 16384
set_option maxHeartbeats 4000000

noncomputable section

namespace Cert.UpIdeal.Result

open Cert.Ffn Cert.UpIdeal Cert.UpIdeal.Gen Idealize.ShloMosaic Idealize.SL.Sem

theorem inb_half (j : Fin 2) : ∀ a, (![256 * j.val, 0] : Fin 2 → ℕ) a + S256x1024.size a ≤ S512x1024.size a := by revert j; decide
theorem inb_gate (f : Fin 11) : ∀ a, (![256 * f.val, 0] : Fin 2 → ℕ) a + S256x1024.size a ≤ S5632x1024.size a := by revert f; decide
theorem inb_up (f : Fin 11) : ∀ a, (![2816 + 256 * f.val, 0] : Fin 2 → ℕ) a + S256x1024.size a ≤ S5632x1024.size a := by revert f; decide
theorem inb_tile (j : Fin 2) (f : Fin 11) : ∀ a, (![256 * j.val, 256 * f.val] : Fin 2 → ℕ) a + S256x256.size a ≤ S512x2816.size a := by revert j f; decide

/-- Half `j` of a point's rows, and tile `f` of them. -/
abbrev half (j : Fin 2) : Rect S512x1024 := Rect.unit ![256 * j.val, 0] S256x1024.size (inb_half j)
abbrev tile (j : Fin 2) (f : Fin 11) : Rect S512x2816 := Rect.unit ![256 * j.val, 256 * f.val] S256x256.size (inb_tile j f)
/-- The weights of tile `f`. -/
def gates (x : Vec Ideal S5632x1024 .bf16) (f : Fin 11) : Vec Ideal S256x1024 .bf16 := View.ld x (Rect.unit ![256 * f.val, 0] S256x1024.size (inb_gate f))
def ups (x : Vec Ideal S5632x1024 .bf16) (f : Fin 11) : Vec Ideal S256x1024 .bf16 := View.ld x (Rect.unit ![2816 + 256 * f.val, 0] S256x1024.size (inb_up f))

/-- Where a half's row, and a tile's column, lie among the point's. -/
def rowIn (j : Fin 2) (a : Fin 256) : Fin 512 := ⟨256 * j.val + a.val, by omega⟩
def colIn (f : Fin 11) (b : Fin 256) : Fin 2816 := ⟨256 * f.val + b.val, by omega⟩

/-- The stores of a half's tiles, last first, and of both halves'. -/
def halfTiles (P : Fin 2 → Fin 11 → Vec Ideal S256x256 .bf16) (j : Fin 2) : List (View.Piece (Elt Ideal) S512x2816 .bf16) :=
  [⟨tile j 10, P j 10⟩, ⟨tile j 9, P j 9⟩, ⟨tile j 8, P j 8⟩, ⟨tile j 7, P j 7⟩, ⟨tile j 6, P j 6⟩, ⟨tile j 5, P j 5⟩, ⟨tile j 4, P j 4⟩,
    ⟨tile j 3, P j 3⟩, ⟨tile j 2, P j 2⟩, ⟨tile j 1, P j 1⟩, ⟨tile j 0, P j 0⟩]
def tiles (P : Fin 2 → Fin 11 → Vec Ideal S256x256 .bf16) : List (View.Piece (Elt Ideal) S512x2816 .bf16) := halfTiles P 1 ++ halfTiles P 0

theorem mem_halfTiles {P : Fin 2 → Fin 11 → Vec Ideal S256x256 .bf16} {j : Fin 2} {p : View.Piece (Elt Ideal) S512x2816 .bf16} :
    p ∈ halfTiles P j ↔ ∃ f, p = ⟨tile j f, P j f⟩ := by
  constructor
  · intro h
    simp only [halfTiles, List.mem_cons, List.not_mem_nil, or_false] at h
    rcases h with h | h | h | h | h | h | h | h | h | h | h <;> exact ⟨_, h⟩
  · rintro ⟨f, rfl⟩
    revert f
    have e : ∀ f : Fin 11, f = 10 ∨ f = 9 ∨ f = 8 ∨ f = 7 ∨ f = 6 ∨ f = 5 ∨ f = 4 ∨ f = 3 ∨ f = 2 ∨ f = 1 ∨ f = 0 := by decide
    intro f
    simp only [halfTiles, List.mem_cons, List.not_mem_nil, or_false]
    rcases e f with rfl | rfl | rfl | rfl | rfl | rfl | rfl | rfl | rfl | rfl | rfl <;> simp only [true_or, or_true]

theorem mem_tiles {P : Fin 2 → Fin 11 → Vec Ideal S256x256 .bf16} {p : View.Piece (Elt Ideal) S512x2816 .bf16} :
    p ∈ tiles P ↔ ∃ j f, p = ⟨tile j f, P j f⟩ := by
  simp only [tiles, List.mem_append, mem_halfTiles]
  constructor
  · rintro (⟨f, h⟩ | ⟨f, h⟩)
    exacts [⟨1, f, h⟩, ⟨0, f, h⟩]
  · rintro ⟨j, f, h⟩
    match j with
    | 0 => exact .inr ⟨f, h⟩
    | 1 => exact .inl ⟨f, h⟩

/-- Tiles that hold an array's real numbers leave the array. -/
theorem canon_tiles {P : Fin 2 → Fin 11 → Vec Ideal S256x256 .bf16} {V : Fin 512 → Fin 2816 → ℝ} (h : ∀ j f, Has (P j f) fun a b => V (rowIn j a) (colIn f b)) :
    Has (View.canon (tiles P)) V := by
  intro p q
  refine View.canon_eq_of_allAt (tiles P) (ix2 p q) ((V p q : ℝ) : EReal) ?_ ?_
  · refine ⟨_, mem_tiles.mpr ⟨⟨p.val / 256, by omega⟩, ⟨q.val / 256, by omega⟩, rfl⟩, (Rect.mem_set_unit (inb := inb_tile _ _)).mpr fun a => ?_⟩
    match a with
    | ⟨0, _⟩ => exact ⟨(by show 256 * (p.val / 256) ≤ p.val; omega), (by show p.val < 256 * (p.val / 256) + 256; omega)⟩
    | ⟨1, _⟩ => exact ⟨(by show 256 * (q.val / 256) ≤ q.val; omega), (by show q.val < 256 * (q.val / 256) + 256; omega)⟩
  · rintro _ hp x hx
    obtain ⟨j, f, rfl⟩ := mem_tiles.mp hp
    obtain ⟨a, b, rfl⟩ : ∃ (a b : Fin 256), x = ix2 a b := ⟨x 0, x 1, eq_ix2 x⟩
    have e0 : rowIn j a = p := Fin.ext (Eq.trans (by show 256 * j.val + a.val = 256 * j.val + 1 * a.val; omega) (congrArg (fun i : S512x2816.Idx => (i 0).val) hx))
    have e1 : colIn f b = q := Fin.ext (Eq.trans (by show 256 * f.val + b.val = 256 * f.val + 1 * b.val; omega) (congrArg (fun i : S512x2816.Idx => (i 1).val) hx))
    rw [← e0, ← e1]
    exact h j f a b

theorem canon_halves {P : Fin 2 → Vec Ideal S256x1024 .bf16} {V : Fin 512 → Fin 1024 → ℝ} (h : ∀ j, Has (P j) fun a b => V (rowIn j a) b) :
    Has (View.canon ([⟨half 1, P 1⟩, ⟨half 0, P 0⟩] : List (View.Piece (Elt Ideal) S512x1024 .bf16))) V := by
  have mem : ∀ j, (⟨half j, P j⟩ : View.Piece (Elt Ideal) S512x1024 .bf16) ∈ ([⟨half 1, P 1⟩, ⟨half 0, P 0⟩] : List (View.Piece (Elt Ideal) S512x1024 .bf16)) := by
    intro j
    match j with
    | 0 => exact List.mem_cons_of_mem _ List.mem_cons_self
    | 1 => exact List.mem_cons_self
  have at_ : ∀ (p : Fin 512) (q : Fin 1024) j, View.RectAt (ix2 p q) (half j) (P j) ((V p q : ℝ) : EReal) := by
    intro p q j x hx
    obtain ⟨a, b, rfl⟩ : ∃ (a : Fin 256) (b : Fin 1024), x = ix2 a b := ⟨x 0, x 1, eq_ix2 x⟩
    have e0 : rowIn j a = p := Fin.ext (Eq.trans (by show 256 * j.val + a.val = 256 * j.val + 1 * a.val; omega) (congrArg (fun i : S512x1024.Idx => (i 0).val) hx))
    have e1 : b = q := Fin.ext (Eq.trans (by show b.val = 0 + 1 * b.val; omega) (congrArg (fun i : S512x1024.Idx => (i 1).val) hx))
    rw [← e0, ← e1]
    exact h j a b
  intro p q
  refine View.canon_eq_of_allAt _ (ix2 p q) ((V p q : ℝ) : EReal) ?_ (View.allAt_cons (half 1) (P 1) [⟨half 0, P 0⟩] (at_ p q 1) (View.allAt_cons (half 0) (P 0) [] (at_ p q 0) (View.allAt_nil _ _)))
  refine ⟨_, mem ⟨p.val / 256, by omega⟩, (Rect.mem_set_unit (inb := inb_half _)).mpr fun a => ?_⟩
  match a with
  | ⟨0, _⟩ => exact ⟨(by show 256 * (p.val / 256) ≤ p.val; omega), (by show p.val < 256 * (p.val / 256) + 256; omega)⟩
  | ⟨1, _⟩ => exact ⟨Nat.zero_le _, (by show q.val < 0 + 1024; omega)⟩

section block
variable (x0 : Vec Ideal S512x1024 .f32) (x1 x2 x3 : Vec Ideal S1x1024 .f32) (x4 : Vec Ideal S5632x1024 .bf16)

/-- Half `j` of the normed rows. -/
def normed (j : Fin 2) : FVec Ideal S256x1024 .bf16 := k0_pay1 (View.ld x0 (half j)) (View.ld x3 r0_1) (View.ld x2 r0_1) (View.ld x1 r0_1)

theorem out5_eq : out0_5 x0 x1 x2 x3 x4 = View.canon [⟨half 1, normed x0 x1 x2 x3 1⟩, ⟨half 0, normed x0 x1 x2 x3 0⟩] := rfl
theorem out6_eq : out0_6 x0 x1 x2 x3 x4 = View.canon (tiles fun j f => k0_pay14 (normed x0 x1 x2 x3 j) (gates x4 f) (ups x4 f)) := rfl
theorem out7_eq : out0_7 x0 x1 x2 x3 x4 = View.canon (tiles fun j f => k0_pay15 (normed x0 x1 x2 x3 j) (gates x4 f)) := rfl
theorem out8_eq : out0_8 x0 x1 x2 x3 x4 = View.canon (tiles fun j f => k0_pay16 (normed x0 x1 x2 x3 j) (gates x4 f) (ups x4 f)) := rfl

variable {x0 x1 x2 x3 x4} {X : Fin 512 → Fin 1024 → ℝ} {B S G : Fin 1024 → ℝ} {W : Fin 5632 → Fin 1024 → ℝ}

theorem whole {b : Vec Ideal S1x1024 .f32} {Y : Fin 1024 → ℝ} (h : Row b Y) : Row (View.ld b r0_1) Y := fun k =>
  (congrArg b (eq_ix2 _)).trans ((congrArg₂ (fun i j => b (ix2 i j)) (Fin.ext rfl) (Fin.ext (by show 0 + 1 * k.val = k.val; omega))).trans (h k))

theorem normed_real (h0 : Has x0 X) (h1 : Row x1 B) (h2 : Row x2 S) (h3 : Row x3 G) (j : Fin 2) : Has (normed x0 x1 x2 x3 j) fun a => NX (X (rowIn j a)) G S B :=
  n_real (fun a k => (congrArg x0 (eq_ix2 _)).trans ((congrArg₂ (fun i j => x0 (ix2 i j)) (Fin.ext (by show 256 * j.val + 1 * a.val = 256 * j.val + a.val; omega))
    (Fin.ext (by show 0 + 1 * k.val = k.val; omega))).trans (h0 (rowIn j a) k))) (whole h3) (whole h2) (whole h1)

theorem gates_real (h4 : Has x4 W) (f : Fin 11) : Has (gates x4 f) fun b => W (gate (colIn f b)) := fun b k =>
  (congrArg x4 (eq_ix2 _)).trans ((congrArg₂ (fun i j => x4 (ix2 i j)) (Fin.ext (by show 256 * f.val + 1 * b.val = 256 * f.val + b.val; omega))
    (Fin.ext (by show 0 + 1 * k.val = k.val; omega))).trans (h4 (gate (colIn f b)) k))

theorem ups_real (h4 : Has x4 W) (f : Fin 11) : Has (ups x4 f) fun b => W (up (colIn f b)) := fun b k =>
  (congrArg x4 (eq_ix2 _)).trans ((congrArg₂ (fun i j => x4 (ix2 i j)) (Fin.ext (by show 2816 + 256 * f.val + 1 * b.val = 2816 + (256 * f.val + b.val); omega))
    (Fin.ext (by show 0 + 1 * k.val = k.val; omega))).trans (h4 (up (colIn f b)) k))

variable (h0 : Has x0 X) (h1 : Row x1 B) (h2 : Row x2 S) (h3 : Row x3 G)
include h0 h1 h2 h3

theorem out5_real : Has (out0_5 x0 x1 x2 x3 x4) fun p => NX (X p) G S B := by
  rw [out5_eq]
  exact canon_halves fun j => normed_real h0 h1 h2 h3 j

variable (h4 : Has x4 W)
include h4

theorem out6_real : Has (out0_6 x0 x1 x2 x3 x4) fun p f => slope (dot (NX (X p) G S B) (W (gate f))) (dot (NX (X p) G S B) (W (up f))) := by
  rw [out6_eq]
  exact canon_tiles fun j f => slope_real (normed_real h0 h1 h2 h3 j) (gates_real h4 f) (ups_real h4 f)

theorem out7_real : Has (out0_7 x0 x1 x2 x3 x4) fun p f => silu (dot (NX (X p) G S B) (W (gate f))) := by
  rw [out7_eq]
  exact canon_tiles fun j f => silu_real (normed_real h0 h1 h2 h3 j) (gates_real h4 f)

theorem out8_real : Has (out0_8 x0 x1 x2 x3 x4) fun p f => silu (dot (NX (X p) G S B) (W (gate f))) * dot (NX (X p) G S B) (W (up f)) := by
  rw [out8_eq]
  exact canon_tiles fun j f => hidden_real (normed_real h0 h1 h2 h3 j) (gates_real h4 f) (ups_real h4 f)

end block

end Cert.UpIdeal.Result

end
-- ==== Proof.Ffn.Sum.lean ====
/- What the feed-forward's first half leaves in its four results when its arguments hold real numbers. -/
module

public import proofs.«01_k».proof.Proof.Ffn.Tiles

@[expose] public section

set_option maxRecDepth 16384
set_option maxHeartbeats 1000000

noncomputable section

namespace Cert.UpIdeal.Result

open Cert.Ffn Cert.UpIdeal Cert.UpIdeal.Gen Idealize.ShloMosaic Idealize.ShloMosaic.TcCoe Idealize.SL.Sem

variable (m : (ℓ : Loc nD τ sig) → Buf (Elt Ideal) ℓ)

/-- Real numbers in the arguments. -/
structure Given (c : Dev nD) (X : Fin 8192 → Fin 1024 → ℝ) (B S G : Fin 1024 → ℝ) (W : Fin 5632 → Fin 1024 → ℝ) : Prop where
  h : Has (m ((c : Thread nD τ).loc main_arg0)) X
  b : Row (m ((c : Thread nD τ).loc main_arg1)) B
  s : Row (m ((c : Thread nD τ).loc main_arg2)) S
  g : Row (m ((c : Thread nD τ).loc main_arg3)) G
  w : Has (m ((c : Thread nD τ).loc main_arg4)) W

/-- Where the blocks lie. -/
theorem place : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- A place in an array of rows and columns, by its two numbers. -/
theorem spot {a b : ℕ} {i : (⟨2, ![a, b]⟩ : Shape).Idx} {t : Fin a} {k : Fin b} (h0 : (i 0).val = t.val) (h1 : (i 1).val = k.val) : i = ix2 t k :=
  funext fun a => Fin.ext (by match a with | ⟨0, _⟩ => exact h0 | ⟨1, _⟩ => exact h1)

theorem pt_lt (t : Fin cfg0.N) : t.val < 16 := lt_of_lt_of_eq t.isLt N_0

/-- A point's rows, among all. -/
def rowOf (t : Fin cfg0.N) (p : Fin 512) : Fin 8192 := ⟨512 * t.val + p.val, by have := pt_lt t; omega⟩

/-- Every row is a point's. -/
theorem some_point (r : Fin 8192) : ∃ t p, rowOf t p = r :=
  ⟨⟨r.val / 512, lt_of_lt_of_eq (by omega) N_0.symm⟩, ⟨r.val % 512, by omega⟩, Fin.ext (by show 512 * (r.val / 512) + r.val % 512 = r.val; omega)⟩

variable {m} {c : Dev nD} {X : Fin 8192 → Fin 1024 → ℝ} {B S G : Fin 1024 → ℝ} {W : Fin 5632 → Fin 1024 → ℝ} (H : Given m c X B S G W)
include H

section blocks
variable (t : Fin cfg0.N)

theorem h_at : Has (iblk m c 0 t) fun p => X (rowOf t p) := fun p k => by
  obtain ⟨⟨e, e'⟩, -⟩ := place t
  refine Eq.trans (congrArg (m ((c : Thread nD τ).loc main_arg0)) (spot ?_ ?_)) (H.h (rowOf t p) k)
  · show win0_0.index t (0 : Fin 2) * 512 + 1 * p.val = 512 * t.val + p.val; omega
  · show win0_0.index t (1 : Fin 2) * 1024 + 1 * k.val = k.val; omega

theorem b_at : Row (iblk m c 1 t) B := fun k => by
  obtain ⟨-, ⟨e, e'⟩, -⟩ := place t
  refine Eq.trans (congrArg (m ((c : Thread nD τ).loc main_arg1)) (spot ?_ ?_)) (H.b k)
  · show win0_1.index t (0 : Fin 2) * 1 + 1 * 0 = 0; omega
  · show win0_1.index t (1 : Fin 2) * 1024 + 1 * k.val = k.val; omega

theorem s_at : Row (iblk m c 2 t) S := fun k => by
  obtain ⟨-, -, ⟨e, e'⟩, -⟩ := place t
  refine Eq.trans (congrArg (m ((c : Thread nD τ).loc main_arg2)) (spot ?_ ?_)) (H.s k)
  · show win0_2.index t (0 : Fin 2) * 1 + 1 * 0 = 0; omega
  · show win0_2.index t (1 : Fin 2) * 1024 + 1 * k.val = k.val; omega

theorem g_at : Row (iblk m c 3 t) G := fun k => by
  obtain ⟨-, -, -, ⟨e, e'⟩, -⟩ := place t
  refine Eq.trans (congrArg (m ((c : Thread nD τ).loc main_arg3)) (spot ?_ ?_)) (H.g k)
  · show win0_3.index t (0 : Fin 2) * 1 + 1 * 0 = 0; omega
  · show win0_3.index t (1 : Fin 2) * 1024 + 1 * k.val = k.val; omega

theorem w_at : Has (iblk m c 4 t) W := fun q k => by
  obtain ⟨-, -, -, -, ⟨e, e'⟩, -⟩ := place t
  refine Eq.trans (congrArg (m ((c : Thread nD τ).loc main_arg4)) (spot ?_ ?_)) (H.w q k)
  · show win0_4.index t (0 : Fin 2) * 5632 + 1 * q.val = q.val; omega
  · show win0_4.index t (1 : Fin 2) * 1024 + 1 * k.val = k.val; omega

end blocks

/-- The normed rows. -/
theorem norm_result : Has ((dats m 0 c).arrAt 5 cfg0.N) fun r => NX (X r) G S B := fun r k => by
  obtain ⟨t, p, rfl⟩ := some_point r
  obtain ⟨-, -, -, -, -, ⟨e0, e1⟩, -⟩ := place t
  have e := out5_real (x4 := iblk m c 4 t) (h_at H t) (b_at H t) (s_at H t) (g_at H t) p k
  have h := (dats m 0 c).arrAt_emb_eq_flushed 5 Value.disjoint5 t (flush0_5 _) (ix2 p k)
  rw [Value.flushed5] at h
  generalize out0_5 (iblk m c 0 t) (iblk m c 1 t) (iblk m c 2 t) (iblk m c 3 t) (iblk m c 4 t) = y at h e
  refine Eq.trans (congrArg ((dats m 0 c).arrAt 5 cfg0.N) (spot ?_ ?_)).symm (h.trans e)
  · show win0_5.index t (0 : Fin 2) * 512 + 1 * p.val = 512 * t.val + p.val; omega
  · show win0_5.index t (1 : Fin 2) * 1024 + 1 * k.val = k.val; omega

/-- The gate's slope times what it gates. -/
theorem slope_result : Has ((dats m 0 c).arrAt 6 cfg0.N) fun r f => slope (dot (NX (X r) G S B) (W (gate f))) (dot (NX (X r) G S B) (W (up f))) := fun r f => by
  obtain ⟨t, p, rfl⟩ := some_point r
  obtain ⟨-, -, -, -, -, -, ⟨e0, e1⟩, -⟩ := place t
  have e := out6_real (h_at H t) (b_at H t) (s_at H t) (g_at H t) (w_at H t) p f
  have h := (dats m 0 c).arrAt_emb_eq_flushed 6 Value.disjoint6 t (flush0_6 _) (ix2 p f)
  rw [Value.flushed6] at h
  generalize out0_6 (iblk m c 0 t) (iblk m c 1 t) (iblk m c 2 t) (iblk m c 3 t) (iblk m c 4 t) = y at h e
  refine Eq.trans (congrArg ((dats m 0 c).arrAt 6 cfg0.N) (spot ?_ ?_)).symm (h.trans e)
  · show win0_6.index t (0 : Fin 2) * 512 + 1 * p.val = 512 * t.val + p.val; omega
  · show win0_6.index t (1 : Fin 2) * 2816 + 1 * f.val = f.val; omega

/-- The gate. -/
theorem silu_result : Has ((dats m 0 c).arrAt 7 cfg0.N) fun r f => silu (dot (NX (X r) G S B) (W (gate f))) := fun r f => by
  obtain ⟨t, p, rfl⟩ := some_point r
  obtain ⟨-, -, -, -, -, -, -, ⟨e0, e1⟩, -⟩ := place t
  have e := out7_real (h_at H t) (b_at H t) (s_at H t) (g_at H t) (w_at H t) p f
  have h := (dats m 0 c).arrAt_emb_eq_flushed 7 Value.disjoint7 t (flush0_7 _) (ix2 p f)
  rw [Value.flushed7] at h
  generalize out0_7 (iblk m c 0 t) (iblk m c 1 t) (iblk m c 2 t) (iblk m c 3 t) (iblk m c 4 t) = y at h e
  refine Eq.trans (congrArg ((dats m 0 c).arrAt 7 cfg0.N) (spot ?_ ?_)).symm (h.trans e)
  · show win0_7.index t (0 : Fin 2) * 512 + 1 * p.val = 512 * t.val + p.val; omega
  · show win0_7.index t (1 : Fin 2) * 2816 + 1 * f.val = f.val; omega

/-- The gated product. -/
theorem hidden_result : Has ((dats m 0 c).arrAt 8 cfg0.N) fun r f => silu (dot (NX (X r) G S B) (W (gate f))) * dot (NX (X r) G S B) (W (up f)) := fun r f => by
  obtain ⟨t, p, rfl⟩ := some_point r
  obtain ⟨-, -, -, -, -, -, -, -, ⟨e0, e1⟩⟩ := place t
  have e := out8_real (h_at H t) (b_at H t) (s_at H t) (g_at H t) (w_at H t) p f
  have h := (dats m 0 c).arrAt_emb_eq_flushed 8 Value.disjoint8 t (flush0_8 _) (ix2 p f)
  rw [Value.flushed8] at h
  generalize out0_8 (iblk m c 0 t) (iblk m c 1 t) (iblk m c 2 t) (iblk m c 3 t) (iblk m c 4 t) = y at h e
  refine Eq.trans (congrArg ((dats m 0 c).arrAt 8 cfg0.N) (spot ?_ ?_)).symm (h.trans e)
  · show win0_8.index t (0 : Fin 2) * 512 + 1 * p.val = 512 * t.val + p.val; omega
  · show win0_8.index t (1 : Fin 2) * 2816 + 1 * f.val = f.val; omega

end Cert.UpIdeal.Result

end
-- ==== Proof.Ffn.Ref.lean ====
/- The reference of the feed-forward's first half in real numbers, stage by stage. -/
module

public import proofs.«01_k».proof.Proof.Ffn.Model
public import proofs.«01_k».proof.Proof.Gmlp.RefMid
public import proofs.«01_k».proof.Proof.Gen.UpReferenceIdeal.Read

@[expose] public section

set_option maxRecDepth 16384
set_option maxHeartbeats 1000000

noncomputable section

namespace Cert.UpReferenceIdeal.Real

open Cert.Gmlp (Is word_tiny word_one word_zero one_only)
open Cert.Dn (VR VR_pos RS XH word_1024)
open Cert.Ffn Cert.UpReferenceIdeal Cert.UpReferenceIdeal.Gen Cert.UpReferenceIdeal.Read Idealize.ShloMosaic

/-- The reference's arguments, in real numbers. -/
structure Given (x0 : (⟨S8192x1024, .f32⟩ : BufTy).Contents (Elt Ideal)) (x1 x2 x3 : (⟨S1x1024, .f32⟩ : BufTy).Contents (Elt Ideal))
    (x4 : (⟨S5632x1024, .bf16⟩ : BufTy).Contents (Elt Ideal)) (X : Fin 8192 → Fin 1024 → ℝ) (B S G : Fin 1024 → ℝ) (W : Fin 5632 → Fin 1024 → ℝ) : Prop where
  h : ∀ r k, (x0 (ix2 r k) : EReal) = ((X r k : ℝ) : EReal)
  b : ∀ k, (x1 (ix2 0 k) : EReal) = ((B k : ℝ) : EReal)
  s : ∀ k, (x2 (ix2 0 k) : EReal) = ((S k : ℝ) : EReal)
  g : ∀ k, (x3 (ix2 0 k) : EReal) = ((G k : ℝ) : EReal)
  w : ∀ j k, (x4 (ix2 j k) : EReal) = ((W j k : ℝ) : EReal)

variable {x0 : (⟨S8192x1024, .f32⟩ : BufTy).Contents (Elt Ideal)} {x1 x2 x3 : (⟨S1x1024, .f32⟩ : BufTy).Contents (Elt Ideal)}
  {x4 : (⟨S5632x1024, .bf16⟩ : BufTy).Contents (Elt Ideal)} {X : Fin 8192 → Fin 1024 → ℝ} {B S G : Fin 1024 → ℝ} {W : Fin 5632 → Fin 1024 → ℝ}

theorem exp (a : Ideal .f32) {x : ℝ} (h : Is a x) : Is (FloatOps.hostUnary .exp a) (Real.exp x) :=
  (congrArg Ideal.exp h).trans (Ideal.exp_coe ..)

/-- A row's one element, of the array that keeps the summed axis. -/
theorem col_at (k : Fin 1024) (j : S1x1024.Idx) (h : (j 1).val = k.val) : j = ix2 0 k :=
  (eq_ix2 j).trans (congrArg₂ ix2 (one_only (j 0)) (Fin.ext h))

variable (H : Given x0 x1 x2 x3 x4 X B S G W) (r : Fin 8192)
include H

theorem v0 (k : Fin 1024) : Is (val_main_v0 (F := Ideal) x0 (ix3 0 r k)) (X r k) :=
  Is.of (val_main_v0_apply x0 _) ((congrArg x0 (eq_ix2 _)).trans (H.h r k))

theorem v9 : Is (val_main_v9 (F := Ideal) x0 (ix3 0 r 0)) (RS (X r)) :=
  Is.of (val_main_v9_apply x0 _) (Is.rsqrt (Is.of (val_main_v8_apply x0 _) (Is.add
    (Is.of (val_main_v6_apply x0 _) (Is.div
      (Is.of (val_main_v4_apply x0 _) (Is.red (val_main_v3_apply x0 _) word_zero fun k =>
        Is.at_ (X := val_main_v2 (F := Ideal) x0) (Is.of (val_main_v2_apply x0 _) (Is.mul (v0 H r k) (v0 H r k))) (eq_ix3 _)))
      (Is.of (val_main_v5_apply _) (Is.of (val_main_cst_0_apply _) word_1024)) (by norm_num)))
    (Is.of (val_main_v7_apply _) (Is.of (val_main_cst_1_apply _) word_tiny)))) (VR_pos (X r)))

/-- The normed row, scaled and shifted. -/
theorem v22 (k : Fin 1024) : Is (val_main_v22 (F := Ideal) x0 x1 x2 x3 (ix3 0 r k)) (NX (X r) G S B k) := by
  refine Is.of (val_main_v22_apply x0 x1 x2 x3 _) (Is.add (Is.of (val_main_v19_apply x0 x2 x3 _) (Is.mul (Is.of (val_main_v14_apply x0 x3 _) (Is.mul
    (Is.of (val_main_v11_apply x0 _) (Is.mul (v0 H r k) (Is.of (val_main_v10_apply x0 _) (Is.at_ (v9 H r) (eq_ix3 _))))) ?_)) ?_)) ?_)
  · exact Is.of (val_main_v13_apply x3 _) (Is.of (val_main_v12_apply x3 _) (Is.of (val_main_v1_apply x3 _)
      ((congrArg x3 (col_at k _ (Nat.mod_eq_of_lt k.isLt))).trans (H.g k))))
  · exact Is.of (val_main_v18_apply x2 _) (Is.of (val_main_v17_apply x2 _) (Is.add (Is.of (val_main_v16_apply _) (Is.of (val_main_cst_2_apply _) word_one))
      (Is.of (val_main_v15_apply x2 _) ((congrArg x2 (col_at k _ rfl)).trans (H.s k)))))
  · exact Is.of (val_main_v21_apply x1 _) (Is.of (val_main_v20_apply x1 _) ((congrArg x1 (col_at k _ rfl)).trans (H.b k)))

/-- A row of the product. -/
theorem v25 (j : Fin 5632) : Is (val_main_v25 (F := Ideal) x0 x1 x2 x3 x4 (ix3 0 r j)) (dot (NX (X r) G S B) (W j)) := by
  refine (val_main_v25_apply x0 x1 x2 x3 x4 _).trans (Is.total fun k => ?_)
  refine Is.mul (a := val_main_v22 (F := Ideal) x0 x1 x2 x3 _) (b := val_main_v24 (F := Ideal) x4 _) ?_ ?_
  · exact Is.at_ (v22 H r k) (eq_ix3 _)
  · exact Is.of (val_main_v24_apply x4 _) (Is.of (val_main_v23_apply x4 _) ((congrArg x4 (eq_ix2 _)).trans (H.w j k)))

section entry
variable (f : Fin 2816)

theorem v26 : Is (val_main_v26 (F := Ideal) x0 x1 x2 x3 x4 (ix3 0 r f)) (dot (NX (X r) G S B) (W (gate f))) :=
  Is.of (val_main_v26_apply x0 x1 x2 x3 x4 _) (Is.at_ (v25 H r (gate f)) (eq_ix3 _))

theorem v27 : Is (val_main_v27 (F := Ideal) x0 x1 x2 x3 x4 (ix3 0 r f)) (dot (NX (X r) G S B) (W (up f))) :=
  Is.of (val_main_v27_apply x0 x1 x2 x3 x4 _) (Is.at_ (v25 H r (up f)) (eq_ix3 _))

theorem logistic : Is (val_main_v28_2 (F := Ideal) x0 x1 x2 x3 x4 (ix3 0 r f)) (sg (dot (NX (X r) G S B) (W (gate f)))) :=
  Is.be (Is.of (val_main_v28_2_apply x0 x1 x2 x3 x4 _) (Is.div (Is.of (val_main_call0_v4_apply _) (Is.of (val_main_call0_cst_0_apply _) word_one))
    (Is.of (val_main_call0_v3_apply x0 x1 x2 x3 x4 _) (Is.add (Is.of (val_main_call0_v2_apply _) (Is.of (val_main_call0_cst_apply _) word_one))
      (Is.of (val_main_call0_v1_apply x0 x1 x2 x3 x4 _) (exp _ (Is.of (val_main_call0_v0_apply x0 x1 x2 x3 x4 _) (Is.neg (v26 H r f))))))) (sg_pos _).ne')) (one_mul _)

theorem v28 : Is (val_main_v28_0 (F := Ideal) x0 x1 x2 x3 x4 (ix3 0 r f)) (silu (dot (NX (X r) G S B) (W (gate f)))) :=
  Is.of (val_main_v28_0_apply x0 x1 x2 x3 x4 _) (Is.mul (v26 H r f) (logistic H r f))

/-- What the gate's derivative pulls the product back to. -/
theorem v29 : Is (val_main_v29 (F := Ideal) x0 x1 x2 x3 x4 (ix3 0 r f)) (slope (dot (NX (X r) G S B) (W (gate f))) (dot (NX (X r) G S B) (W (up f)))) :=
  Is.be (Is.of (val_main_v29_apply x0 x1 x2 x3 x4 _) (Is.add (Is.of (val_main_call1_v1_apply x0 x1 x2 x3 x4 _) (Is.mul (v27 H r f) (logistic H r f)))
    (Is.of (val_main_call1_v2_apply x0 x1 x2 x3 x4 _) (Is.mul (Is.of (val_main_call1_v0_apply x0 x1 x2 x3 x4 _) (Is.mul (v26 H r f) (v27 H r f)))
      (Is.of (val_main_v28_1_apply x0 x1 x2 x3 x4 _) (Is.mul (logistic H r f) (Is.of (val_main_call0_v7_apply x0 x1 x2 x3 x4 _)
        (Is.sub (Is.of (val_main_call0_v6_apply _) (Is.of (val_main_call0_cst_1_apply _) word_one)) (logistic H r f))))))))) (slope_sum _ _)

omit H in
/-- An entry of an array of rows, in the array with a leading axis. -/
theorem lead (i : S1x8192x2816.Idx) (h1 : (i 1).val = (r.val * 2816 + f.val) / 2816 % 8192) (h2 : (i 2).val = (r.val * 2816 + f.val) % 2816) : i = ix3 0 r f :=
  (eq_ix3 i).trans (by rw [one_only (i 0), show i 1 = r from Fin.ext (by omega), show i 2 = f from Fin.ext (by omega)])

theorem out_slope : (val_main_v34 (F := Ideal) x0 x1 x2 x3 x4 (ix2 r f) : EReal) = ((slope (dot (NX (X r) G S B) (W (gate f))) (dot (NX (X r) G S B) (W (up f))) : ℝ) : EReal) :=
  (val_main_v34_apply x0 x1 x2 x3 x4 _).trans (Is.of (val_main_v33_apply x0 x1 x2 x3 x4 _) (Is.at_ (v29 H r f) (lead r f _ rfl rfl)))

theorem out_silu : (val_main_v36 (F := Ideal) x0 x1 x2 x3 x4 (ix2 r f) : EReal) = ((silu (dot (NX (X r) G S B) (W (gate f))) : ℝ) : EReal) :=
  (val_main_v36_apply x0 x1 x2 x3 x4 _).trans (Is.of (val_main_v35_apply x0 x1 x2 x3 x4 _) (Is.at_ (v28 H r f) (lead r f _ rfl rfl)))

theorem out_hidden : (val_main_v38 (F := Ideal) x0 x1 x2 x3 x4 (ix2 r f) : EReal) = ((silu (dot (NX (X r) G S B) (W (gate f))) * dot (NX (X r) G S B) (W (up f)) : ℝ) : EReal) :=
  (val_main_v38_apply x0 x1 x2 x3 x4 _).trans (Is.of (val_main_v37_apply x0 x1 x2 x3 x4 _) (Is.at_
    (Is.of (val_main_v30_apply x0 x1 x2 x3 x4 _) (Is.mul (v28 H r f) (v27 H r f))) (lead r f _ rfl rfl)))

end entry

theorem out_norm (k : Fin 1024) : (val_main_v32 (F := Ideal) x0 x1 x2 x3 (ix2 r k) : EReal) = ((NX (X r) G S B k : ℝ) : EReal) :=
  (val_main_v32_apply x0 x1 x2 x3 _).trans (Is.of (val_main_v31_apply x0 x1 x2 x3 _) (Is.at_ (v22 H r k) (by
    funext a
    refine Fin.ext ?_
    match a with
    | ⟨0, _⟩ => rfl
    | ⟨1, _⟩ => show (r.val * 1024 + k.val) / 1024 % 8192 = r.val; omega
    | ⟨2, _⟩ => show (r.val * 1024 + k.val) % 1024 = k.val; omega)))

end Cert.UpReferenceIdeal.Real

end
-- ==== Proof.Ffn.Agree.lean ====
/- The feed-forward's first half: from finite arguments the kernel and the reference end with the same four results. -/
module

public import proofs.«01_k».proof.Defs
public import proofs.«01_k».proof.Proof.Gmlp.Agree
public import proofs.«01_k».proof.Proof.Ffn.Sum
public import proofs.«01_k».proof.Proof.Ffn.Ref

@[expose] public section

set_option maxRecDepth 16384
set_option maxHeartbeats 1000000

noncomputable section

namespace Cert.Ffn

open Idealize.ShloMosaic Idealize.ShloMosaic.TcCoe Idealize.SL.Sem
open Cert.Gmlp (entries)

/-- What the kernel's arguments hold, when all are finite. -/
theorem holds [Pre_bounded.Facts] (m : (ℓ : Loc UpIdeal.nD UpIdeal.τ UpIdeal.sig) → Buf (Elt Ideal) ℓ) (p : Pre_UpIdeal_bounded m) (c : Dev UpIdeal.nD) :
    ∃ X B S G W, UpIdeal.Result.Given m c X B S G W := by
  have e := p c
  simp only [Pre_bounded.fn, Pre_bounded.fn_part1] at e
  obtain ⟨e0, e1, e2, e3, e4⟩ := e
  exact ⟨_, _, _, _, _, fun r k => entries _ _ _ _ _ e0 (ix2 r k), fun k => entries _ _ _ _ _ e1 (ix2 0 k), fun k => entries _ _ _ _ _ e2 (ix2 0 k),
    fun k => entries _ _ _ _ _ e3 (ix2 0 k), fun j k => entries _ _ _ _ _ e4 (ix2 j k)⟩

/-- Two arrays of rows with the same entries are equal. -/
theorem rows_ext {a b : ℕ} {x y : (⟨2, ![a, b]⟩ : Shape).Idx → EReal} (h : ∀ r k, x (ix2 r k) = y (ix2 r k)) : x = y :=
  funext fun i => (congrArg x (eq_ix2 i)).trans ((h (i 0) (i 1)).trans (congrArg y (eq_ix2 i)).symm)

theorem agrees [UpIdeal.Facts] [UpReferenceIdeal.Facts] [Pre_bounded.Facts] : algebraic_UpIdeal_UpReferenceIdeal_pre_bounded := by
  intro m g m' g' p h
  refine ⟨fun c => (UpIdeal.Gen.dats m 0 c).arrAt 5 UpIdeal.cfg0.N, fun c => (UpIdeal.Gen.dats m 0 c).arrAt 6 UpIdeal.cfg0.N,
    fun c => (UpIdeal.Gen.dats m 0 c).arrAt 7 UpIdeal.cfg0.N, fun c => (UpIdeal.Gen.dats m 0 c).arrAt 8 UpIdeal.cfg0.N,
    UpIdeal.Value.run_blocks m g, ?_⟩
  refine (θ_run _ _ _).mono (fun r hr c => ?_) (UpReferenceIdeal.Value.run m' g')
  obtain ⟨X, B, S, G, W, H⟩ := holds m p c
  obtain ⟨a0, a1, a2, a3, a4⟩ := h c
  have K : UpReferenceIdeal.Real.Given (m' ((c.tc : Thread UpReferenceIdeal.nD UpReferenceIdeal.τ).loc UpReferenceIdeal.main_arg0))
      (m' ((c.tc : Thread UpReferenceIdeal.nD UpReferenceIdeal.τ).loc UpReferenceIdeal.main_arg1)) (m' ((c.tc : Thread UpReferenceIdeal.nD UpReferenceIdeal.τ).loc UpReferenceIdeal.main_arg2))
      (m' ((c.tc : Thread UpReferenceIdeal.nD UpReferenceIdeal.τ).loc UpReferenceIdeal.main_arg3)) (m' ((c.tc : Thread UpReferenceIdeal.nD UpReferenceIdeal.τ).loc UpReferenceIdeal.main_arg4))
      X B S G W :=
    ⟨fun r k => (congrFun a0 _).trans (H.h r k), fun k => (congrFun a1 _).trans (H.b k), fun k => (congrFun a2 _).trans (H.s k),
      fun k => (congrFun a3 _).trans (H.g k), fun j k => (congrFun a4 _).trans (H.w j k)⟩
  obtain ⟨h0, h1, h2, h3, h4⟩ := hr c
  refine ⟨h0.trans ?_, h1.trans ?_, h2.trans ?_, h3.trans ?_, h4⟩
  · exact (UpReferenceIdeal.Read.val_main_v32_eq _ _ _ _).trans (rows_ext fun r k => (UpReferenceIdeal.Real.out_norm K r k).trans (UpIdeal.Result.norm_result H r k).symm)
  · exact (UpReferenceIdeal.Read.val_main_v34_eq m' c).trans (rows_ext fun r f => (UpReferenceIdeal.Real.out_slope K r f).trans (UpIdeal.Result.slope_result H r f).symm)
  · exact (UpReferenceIdeal.Read.val_main_v36_eq _ _ _ _ _).trans (rows_ext fun r f => (UpReferenceIdeal.Real.out_silu K r f).trans (UpIdeal.Result.silu_result H r f).symm)
  · exact (UpReferenceIdeal.Read.val_main_v38_eq m' c).trans (rows_ext fun r f => (UpReferenceIdeal.Real.out_hidden K r f).trans (UpIdeal.Result.hidden_result H r f).symm)

end Cert.Ffn

end
-- ==== Proof.Back.Model.lean ====
/- The backward pass of a gated feed-forward layer over the real numbers: a norm with a gain under a gate, two products, and the slopes of the hidden values. -/
module

public import proofs.«01_k».proof.Proof.Dn.Model
public import proofs.«01_k».proof.Proof.Ffn.Model

@[expose] public section

noncomputable section

namespace Cert.Back

open Cert.Dn (RS XH mn BX)
open Cert.Ffn (dot)
open Idealize.ShloMosaic

section row
variable (d y a p : Fin 1024 → ℝ)

/-- The gradient of the normed row: half the gate times the layer's. -/
def DY0 (k : Fin 1024) : ℝ := 1 / 2 * a k * d k
/-- That of the row before the norm. -/
def DY (k : Fin 1024) : ℝ := BX (fun j => DY0 d a j * p j) y k
/-- A row's share of the gradients of the gate and of the gain. -/
def DA (k : Fin 1024) : ℝ := 1 / 2 * d k * XH y k * p k
def DQ (k : Fin 1024) : ℝ := DY0 d a k * XH y k

end row

/-- Where a hidden value's gate, and what it gates, lie: one after the other. -/
def hid (j : Fin 5632) : Fin 2816 := ⟨j.val % 2816, by omega⟩

/-- The gradients of the gates and of what they gate, from the gradient `e` of the second product. -/
def DU (e : Fin 1024 → ℝ) (w : Fin 2816 → Fin 1024 → ℝ) (f g : Fin 2816 → ℝ) (j : Fin 5632) : ℝ :=
  dot e (w (hid j)) * if j.val < 2816 then f (hid j) else g (hid j)

theorem word_half : Ideal.ofBits .f32 0x3F000000#32 = ((1 / 2 : ℝ) : EReal) := by
  simp [Ideal.ofBits, Ideal.ieee, -EReal.coe_mul]; norm_num

end Cert.Back

end
-- ==== Proof.Back.Words.lean ====
/- What a point of the layer's backward pass works out to when the arrays hold real numbers. -/
module

public import proofs.«01_k».proof.Proof.Dn.Words
public import proofs.«01_k».proof.Proof.Back.Model
public import proofs.«01_k».proof.Proof.Gen.FfnGradIdeal.Skeleton

@[expose] public section

set_option maxRecDepth 16384
set_option maxHeartbeats 1000000

noncomputable section

namespace Cert.FfnGradIdeal.Result

open Cert.Gmlp (coe_sum word_one word_zero word_tiny rsqrt_pos)
open Cert.DnGradIdeal.Result (Has Row)
open Cert.Dn Cert.Back Cert.FfnGradIdeal Cert.FfnGradIdeal.Gen Idealize.ShloMosaic Idealize.SL.Sem
open Cert.Ffn (dot)

section last
variable {d : Vec Ideal S256x1024 .f32} {y : Vec Ideal S256x1024 .bf16} {a p : Vec Ideal S1x1024 .f32} {D Y : Fin 256 → Fin 1024 → ℝ} {A P : Fin 1024 → ℝ}

theorem rs_real (hy : Has y Y) (t : Fin 256) : (k0_pay11 y (ix2 t 0) : EReal) = ((RS (Y t) : ℝ) : EReal) := Cert.DnGradIdeal.Result.rs_real hy t

theorem yh_real (hy : Has y Y) : Has (k0_pay12 y) fun t => XH (Y t) := Cert.DnGradIdeal.Result.xh_real hy

theorem dy0_real (hd : Has d D) (ha : Row a A) : Has (k0_pay13 d a) fun t => DY0 (D t) A := by
  intro t k
  unfold k0_pay13
  pointwise
  rw [word_half, hd, ha, ← EReal.coe_mul, ← EReal.coe_mul]
  rfl

theorem dy_real (hd : Has d D) (hy : Has y Y) (ha : Row a A) (hp : Row p P) : Has (k0_pay18 (k0_pay14 d y a p)) fun t => DY (D t) (Y t) A P := by
  intro t k
  have h1 := dy0_real hd ha
  have h2 := rs_real hy
  have h3 := yh_real hy
  unfold k0_pay18 k0_pay14
  generalize k0_pay13 d a = y1 at h1 ⊢
  generalize k0_pay11 y = y2 at h2 ⊢
  generalize k0_pay12 y = y3 at h3 ⊢
  pointwise
  rw [word_1024, Finset.sum_congr rfl fun j _ => (by rw [h1, h3, hp, ← EReal.coe_mul, ← EReal.coe_mul] :
    (y1 (ix2 t j) : EReal) * p (ix2 0 j) * y3 (ix2 t j) = ((DY0 (D t) A j * P j * XH (Y t) j : ℝ) : EReal)), ← coe_sum, div_1024, h1, h2, h3, hp]
  simp only [← EReal.coe_mul, ← EReal.coe_sub]
  rfl

theorem da_real (hd : Has d D) (hy : Has y Y) (hp : Row p P) {z : Vec Ideal S1x1024 .f32} {Z : Fin 1024 → ℝ} (hz : Row z Z) :
    Row (k0_pay16 (k0_pay15 d y p) z) fun k => Z k + ∑ t, DA (D t) (Y t) P k := by
  intro k
  have h3 := yh_real hy
  unfold k0_pay16 k0_pay15
  generalize k0_pay12 y = y3 at h3 ⊢
  pointwise
  rw [hz, EReal.coe_add, coe_sum]
  congr 1
  exact Finset.sum_congr rfl fun t _ => by rw [word_half, h3, hd, hp, ← EReal.coe_mul, ← EReal.coe_mul, ← EReal.coe_mul]; rfl

theorem dq_real (hd : Has d D) (hy : Has y Y) (ha : Row a A) {z : Vec Ideal S1x1024 .f32} {Z : Fin 1024 → ℝ} (hz : Row z Z) :
    Row (k0_pay17 (k0_pay12 y) (k0_pay13 d a) z) fun k => Z k + ∑ t, DQ (D t) (Y t) A k := by
  intro k
  have h1 := dy0_real hd ha
  have h3 := yh_real hy
  unfold k0_pay17
  generalize k0_pay13 d a = y1 at h1 ⊢
  generalize k0_pay12 y = y3 at h3 ⊢
  pointwise
  rw [hz, EReal.coe_add, coe_sum]
  congr 1
  exact Finset.sum_congr rfl fun t _ => by rw [h1, h3, ← EReal.coe_mul]; rfl

end last

section tile
variable {e : FVec Ideal S256x1024 .bf16} {E : Fin 256 → Fin 1024 → ℝ}

theorem wide_real {w : Vec Ideal S512x1024 .bf16} {f : Vec Ideal S256x512 .bf16} {W : Fin 512 → Fin 1024 → ℝ} {V : Fin 256 → Fin 512 → ℝ} (he : Has e E) (hw : Has w W) (hf : Has f V) :
    Has (k0_pay26 e w f) fun t b => dot (E t) (W b) * V t b := by
  intro t b
  unfold k0_pay26 k0_pay25
  pointwise
  unfold dot
  rw [hf, EReal.coe_mul, coe_sum]
  congr 1
  exact Finset.sum_congr rfl fun j _ => by rw [he, hw, EReal.coe_mul]

theorem narrow_real {w : Vec Ideal S256x1024 .bf16} {f : Vec Ideal S256x256 .bf16} {W V : Fin 256 → _ → ℝ} (he : Has e E) (hw : Has w W) (hf : Has f V) :
    Has (k0_pay35 e w f) fun t b => dot (E t) (W b) * V t b := by
  intro t b
  unfold k0_pay35 k0_pay34
  pointwise
  unfold dot
  rw [hf, EReal.coe_mul, coe_sum]
  congr 1
  exact Finset.sum_congr rfl fun j _ => by rw [he, hw, EReal.coe_mul]

end tile

section first
variable {u : Vec Ideal S256x5632 .bf16} {w : Vec Ideal S5632x1024 .bf16} {x : Vec Ideal S256x1024 .f32} {g s z : Vec Ideal S1x1024 .f32}
  {U : Fin 256 → Fin 5632 → ℝ} {W : Fin 5632 → Fin 1024 → ℝ} {X : Fin 256 → Fin 1024 → ℝ} {G S Z : Fin 1024 → ℝ}

/-- The product, and what is made of it, in the words of the separate call for the layer's first half. -/
theorem product_eq : k0_pay37 u w = Cert.DnGradIdeal.Gen.k0_pay7 u w := by
  unfold k0_pay37
  rw [shapeCast_self]
  rfl

theorem dx_real (hu : Has u U) (hw : Has w W) (hx : Has x X) (hg : Row g G) (hs : Row s S) : Has (k0_pay40 u w x g s) fun t => DX (U t) W (X t) G S := by
  unfold k0_pay40
  rw [product_eq]
  exact Cert.DnGradIdeal.Result.dx_real hu hw hx hg hs

theorem ds_real (hu : Has u U) (hw : Has w W) (hz : Row z Z) : Row (k0_pay2 (k0_pay41 u w) z) fun k => Z k + ∑ t, DN (U t) W k := by
  unfold k0_pay41
  rw [product_eq]
  exact Cert.DnGradIdeal.Result.ds_real hu hw hz

theorem dc_real (hu : Has u U) (hw : Has w W) (hx : Has x X) (hg : Row g G) (hz : Row z Z) : Row (k0_pay3 (k0_pay42 u w x g) z) fun k => Z k + ∑ t, DC (U t) W (X t) G k := by
  unfold k0_pay42
  rw [product_eq]
  exact Cert.DnGradIdeal.Result.dc_real hu hw hx hg hz

theorem dp_real (hu : Has u U) (hw : Has w W) (hx : Has x X) (hs : Row s S) (hz : Row z Z) :
    Row (k0_pay4 (k0_pay37 u w) (k0_pay39 x) (k0_pay43 s) z) fun k => Z k + ∑ t, DP (U t) W (X t) S k := by
  rw [product_eq]
  exact Cert.DnGradIdeal.Result.dp_real hu hw hx hs hz

end first

end Cert.FfnGradIdeal.Result

end
-- ==== Proof.Back.Tiles.lean ====
/- The gradients of the gates and of what they gate at one point: its stores are twelve tiles of one array. -/
module

public import proofs.«01_k».proof.Proof.Loads
public import proofs.«01_k».proof.Proof.Back.Words

@[expose] public section

set_option maxRecDepth 16384
set_option maxHeartbeats 1000000

noncomputable section

namespace Cert.FfnGradIdeal.Result

open Cert.DnGradIdeal.Result (Has Row)
open Cert.Back Cert.Loads Cert.FfnGradIdeal Cert.FfnGradIdeal.Gen Idealize.ShloMosaic Idealize.SL.Sem
open Cert.Ffn (dot)

theorem inb_wide (s : Fin 2) (f : Fin 5) : ∀ a, (![0, 2816 * s.val + 512 * f.val] : Fin 2 → ℕ) a + S256x512.size a ≤ S256x5632.size a := by revert s f; decide
theorem inb_narrow (s : Fin 2) : ∀ a, (![0, 2816 * s.val + 2560] : Fin 2 → ℕ) a + S256x256.size a ≤ S256x5632.size a := by revert s; decide
theorem inb_weights (f : Fin 5) : ∀ a, (![512 * f.val, 0] : Fin 2 → ℕ) a + S512x1024.size a ≤ S2816x1024.size a := by revert f; decide
theorem inb_cols (f : Fin 5) : ∀ a, (![0, 512 * f.val] : Fin 2 → ℕ) a + S256x512.size a ≤ S256x2816.size a := by revert f; decide

/-- Tile `f` of side `s`, and the last, narrower one. -/
abbrev wide (s : Fin 2) (f : Fin 5) : Rect S256x5632 := Rect.unit ![0, 2816 * s.val + 512 * f.val] S256x512.size (inb_wide s f)
abbrev narrow (s : Fin 2) : Rect S256x5632 := Rect.unit ![0, 2816 * s.val + 2560] S256x256.size (inb_narrow s)

section any
variable {F : FTy → Type} [FloatOps F] [Named F]

/-- The weights, and the saved values, of a tile. -/
def wts (x : Vec F S2816x1024 .bf16) (f : Fin 5) : Vec F S512x1024 .bf16 := View.ld x (Rect.unit ![512 * f.val, 0] S512x1024.size (inb_weights f))
def wtl (x : Vec F S2816x1024 .bf16) : Vec F S256x1024 .bf16 := View.ld x (Rect.unit ![2560, 0] S256x1024.size inb_S2816x1024_S256x1024_2560_0)
def cols (x : Vec F S256x2816 .bf16) (f : Fin 5) : Vec F S256x512 .bf16 := View.ld x (Rect.unit ![0, 512 * f.val] S256x512.size (inb_cols f))
def coll (x : Vec F S256x2816 .bf16) : Vec F S256x256 .bf16 := View.ld x (Rect.unit ![0, 2560] S256x256.size inb_S256x2816_S256x256_0_2560)

/-- The two sides' saved values. -/
def side (x y : Vec F S256x2816 .bf16) : Fin 2 → Vec F S256x2816 .bf16
  | 0 => x
  | 1 => y

/-- The stores, last first. -/
def tiles (P : Fin 2 → Fin 5 → Vec F S256x512 .bf16) (Q : Fin 2 → Vec F S256x256 .bf16) : List (View.Piece (Elt F) S256x5632 .bf16) :=
  [⟨narrow 1, Q 1⟩, ⟨narrow 0, Q 0⟩, ⟨wide 1 4, P 1 4⟩, ⟨wide 0 4, P 0 4⟩, ⟨wide 1 3, P 1 3⟩, ⟨wide 0 3, P 0 3⟩, ⟨wide 1 2, P 1 2⟩, ⟨wide 0 2, P 0 2⟩,
    ⟨wide 1 1, P 1 1⟩, ⟨wide 0 1, P 0 1⟩, ⟨wide 1 0, P 1 0⟩, ⟨wide 0 0, P 0 0⟩]

/-- The array of the gradients, from that of the second product, store by store, and by tiles. -/
def slopes (e : FVec F S256x1024 .f32) (w : Vec F S2816x1024 .bf16) (x y : Vec F S256x2816 .bf16) : Vec F S256x5632 .bf16 :=
  View.canon [⟨Rect.unit ![0, 5376] S256x256.size inb_S256x5632_S256x256_0_5376, k0_pay36 (k0_pay18 e) (View.ld w (Rect.unit ![2560, 0] S256x1024.size inb_S2816x1024_S256x1024_2560_0)) (View.ld y (Rect.unit ![0, 2560] S256x256.size inb_S256x2816_S256x256_0_2560))⟩,
    ⟨Rect.unit ![0, 2560] S256x256.size inb_S256x5632_S256x256_0_2560, k0_pay35 (k0_pay18 e) (View.ld w (Rect.unit ![2560, 0] S256x1024.size inb_S2816x1024_S256x1024_2560_0)) (View.ld x (Rect.unit ![0, 2560] S256x256.size inb_S256x2816_S256x256_0_2560))⟩,
    ⟨Rect.unit ![0, 4864] S256x512.size inb_S256x5632_S256x512_0_4864, k0_pay33 (k0_pay18 e) (View.ld w (Rect.unit ![2048, 0] S512x1024.size inb_S2816x1024_S512x1024_2048_0)) (View.ld y (Rect.unit ![0, 2048] S256x512.size inb_S256x2816_S256x512_0_2048))⟩,
    ⟨Rect.unit ![0, 2048] S256x512.size inb_S256x5632_S256x512_0_2048, k0_pay32 (k0_pay18 e) (View.ld w (Rect.unit ![2048, 0] S512x1024.size inb_S2816x1024_S512x1024_2048_0)) (View.ld x (Rect.unit ![0, 2048] S256x512.size inb_S256x2816_S256x512_0_2048))⟩,
    ⟨Rect.unit ![0, 4352] S256x512.size inb_S256x5632_S256x512_0_4352, k0_pay30 (k0_pay28 (k0_pay18 e) (View.ld w (Rect.unit ![1536, 0] S512x1024.size inb_S2816x1024_S512x1024_1536_0))) (View.ld y (Rect.unit ![0, 1536] S256x512.size inb_S256x2816_S256x512_0_1536))⟩,
    ⟨Rect.unit ![0, 1536] S256x512.size inb_S256x5632_S256x512_0_1536, k0_pay29 (k0_pay18 e) (View.ld w (Rect.unit ![1536, 0] S512x1024.size inb_S2816x1024_S512x1024_1536_0)) (View.ld x (Rect.unit ![0, 1536] S256x512.size inb_S256x2816_S256x512_0_1536))⟩,
    ⟨Rect.unit ![0, 3840] S256x512.size inb_S256x5632_S256x512_0_3840, k0_pay27 (k0_pay18 e) (View.ld w (Rect.unit ![1024, 0] S512x1024.size inb_S2816x1024_S512x1024_1024_0)) (View.ld y (Rect.unit ![0, 1024] S256x512.size inb_S256x2816_S256x512_0_1024))⟩,
    ⟨Rect.unit ![0, 1024] S256x512.size inb_S256x5632_S256x512_0_1024, k0_pay26 (k0_pay18 e) (View.ld w (Rect.unit ![1024, 0] S512x1024.size inb_S2816x1024_S512x1024_1024_0)) (View.ld x (Rect.unit ![0, 1024] S256x512.size inb_S256x2816_S256x512_0_1024))⟩,
    ⟨Rect.unit ![0, 3328] S256x512.size inb_S256x5632_S256x512_0_3328, k0_pay24 (k0_pay22 e (View.ld w (Rect.unit ![512, 0] S512x1024.size inb_S2816x1024_S512x1024_512_0))) (View.ld y (Rect.unit ![0, 512] S256x512.size inb_S256x2816_S256x512_0_512))⟩,
    ⟨Rect.unit ![0, 512] S256x512.size inb_S256x5632_S256x512_0_512, k0_pay23 (k0_pay22 e (View.ld w (Rect.unit ![512, 0] S512x1024.size inb_S2816x1024_S512x1024_512_0))) (View.ld x (Rect.unit ![0, 512] S256x512.size inb_S256x2816_S256x512_0_512))⟩,
    ⟨Rect.unit ![0, 2816] S256x512.size inb_S256x5632_S256x512_0_2816, k0_pay21 e (View.ld w (Rect.unit ![0, 0] S512x1024.size inb_S2816x1024_S512x1024_0_0)) (View.ld y (Rect.unit ![0, 0] S256x512.size inb_S256x2816_S256x512_0_0))⟩,
    ⟨Rect.unit ![0, 0] S256x512.size inb_S256x5632_S256x512_0_0, k0_pay20 e (View.ld w (Rect.unit ![0, 0] S512x1024.size inb_S2816x1024_S512x1024_0_0)) (View.ld x (Rect.unit ![0, 0] S256x512.size inb_S256x2816_S256x512_0_0))⟩]

theorem slopes_eq (e : FVec F S256x1024 .f32) (w : Vec F S2816x1024 .bf16) (x y : Vec F S256x2816 .bf16) :
    slopes e w x y = View.canon (tiles (fun s f => k0_pay26 (k0_pay18 e) (wts w f) (cols (side x y s) f)) fun s => k0_pay35 (k0_pay18 e) (wtl w) (coll (side x y s))) := rfl

theorem mem_tiles {P : Fin 2 → Fin 5 → Vec F S256x512 .bf16} {Q : Fin 2 → Vec F S256x256 .bf16} {p : View.Piece (Elt F) S256x5632 .bf16} :
    p ∈ tiles P Q ↔ (∃ s f, p = ⟨wide s f, P s f⟩) ∨ ∃ s, p = ⟨narrow s, Q s⟩ := by
  constructor
  · intro h
    simp only [tiles, List.mem_cons, List.not_mem_nil, or_false] at h
    rcases h with h | h | h | h | h | h | h | h | h | h | h | h
    exacts [.inr ⟨_, h⟩, .inr ⟨_, h⟩, .inl ⟨_, _, h⟩, .inl ⟨_, _, h⟩, .inl ⟨_, _, h⟩, .inl ⟨_, _, h⟩, .inl ⟨_, _, h⟩, .inl ⟨_, _, h⟩, .inl ⟨_, _, h⟩, .inl ⟨_, _, h⟩,
      .inl ⟨_, _, h⟩, .inl ⟨_, _, h⟩]
  · have e2 : ∀ s : Fin 2, s = 0 ∨ s = 1 := by decide
    have e5 : ∀ f : Fin 5, f = 0 ∨ f = 1 ∨ f = 2 ∨ f = 3 ∨ f = 4 := by decide
    simp only [tiles, List.mem_cons, List.not_mem_nil, or_false]
    rintro (⟨s, f, rfl⟩ | ⟨s, rfl⟩)
    · rcases e2 s with rfl | rfl <;> rcases e5 f with rfl | rfl | rfl | rfl | rfl <;> simp only [true_or, or_true]
    · rcases e2 s with rfl | rfl <;> simp only [true_or, or_true]

end any

/-- Tiles that hold an array's real numbers leave the array. -/
theorem canon_tiles {P : Fin 2 → Fin 5 → Vec Ideal S256x512 .bf16} {Q : Fin 2 → Vec Ideal S256x256 .bf16} {V : Fin 256 → Fin 5632 → ℝ}
    (h : ∀ s f, Has (P s f) fun a b => V a ⟨2816 * s.val + 512 * f.val + b.val, by omega⟩) (h' : ∀ s, Has (Q s) fun a b => V a ⟨2816 * s.val + 2560 + b.val, by omega⟩) :
    Has (View.canon (tiles P Q)) V := by
  intro p q
  refine View.canon_eq_of_allAt (tiles P Q) (ix2 p q) ((V p q : ℝ) : EReal) ?_ ?_
  · by_cases hq : q.val % 2816 < 2560
    · refine ⟨_, mem_tiles.mpr (.inl ⟨⟨q.val / 2816, by omega⟩, ⟨q.val % 2816 / 512, by omega⟩, rfl⟩), (Rect.mem_set_unit (inb := inb_wide _ _)).mpr fun a => ?_⟩
      match a with
      | ⟨0, _⟩ => exact ⟨Nat.zero_le _, (by show p.val < 0 + 256; omega)⟩
      | ⟨1, _⟩ => exact ⟨(by show 2816 * (q.val / 2816) + 512 * (q.val % 2816 / 512) ≤ q.val; omega), (by show q.val < 2816 * (q.val / 2816) + 512 * (q.val % 2816 / 512) + 512; omega)⟩
    · refine ⟨_, mem_tiles.mpr (.inr ⟨⟨q.val / 2816, by omega⟩, rfl⟩), (Rect.mem_set_unit (inb := inb_narrow _)).mpr fun a => ?_⟩
      match a with
      | ⟨0, _⟩ => exact ⟨Nat.zero_le _, (by show p.val < 0 + 256; omega)⟩
      | ⟨1, _⟩ => exact ⟨(by show 2816 * (q.val / 2816) + 2560 ≤ q.val; omega), (by show q.val < 2816 * (q.val / 2816) + 2560 + 256; omega)⟩
  · rintro _ hp x hx
    rcases mem_tiles.mp hp with ⟨s, f, rfl⟩ | ⟨s, rfl⟩
    · obtain ⟨a, b, rfl⟩ : ∃ (a : Fin 256) (b : Fin 512), x = ix2 a b := ⟨x 0, x 1, eq_ix2 x⟩
      have e0 : a = p := Fin.ext (Eq.trans (by show a.val = 0 + 1 * a.val; omega) (congrArg (fun i : S256x5632.Idx => (i 0).val) hx))
      have e1 : (⟨2816 * s.val + 512 * f.val + b.val, by omega⟩ : Fin 5632) = q :=
        Fin.ext (Eq.trans (by show 2816 * s.val + 512 * f.val + b.val = 2816 * s.val + 512 * f.val + 1 * b.val; omega) (congrArg (fun i : S256x5632.Idx => (i 1).val) hx))
      rw [← e0, ← e1]
      exact h s f a b
    · obtain ⟨a, b, rfl⟩ : ∃ (a b : Fin 256), x = ix2 a b := ⟨x 0, x 1, eq_ix2 x⟩
      have e0 : a = p := Fin.ext (Eq.trans (by show a.val = 0 + 1 * a.val; omega) (congrArg (fun i : S256x5632.Idx => (i 0).val) hx))
      have e1 : (⟨2816 * s.val + 2560 + b.val, by omega⟩ : Fin 5632) = q :=
        Fin.ext (Eq.trans (by show 2816 * s.val + 2560 + b.val = 2816 * s.val + 2560 + 1 * b.val; omega) (congrArg (fun i : S256x5632.Idx => (i 1).val) hx))
      rw [← e0, ← e1]
      exact h' s a b

section real
variable {e : FVec Ideal S256x1024 .f32} {w : Vec Ideal S2816x1024 .bf16} {x y : Vec Ideal S256x2816 .bf16} {E : Fin 256 → Fin 1024 → ℝ} {W : Fin 2816 → Fin 1024 → ℝ} {X Y : Fin 256 → Fin 2816 → ℝ}

/-- A side's row. -/
def pick (x y : Fin 2816 → ℝ) : Fin 2 → Fin 2816 → ℝ
  | 0 => x
  | 1 => y

/-- A place in an array of rows and columns, by its two numbers. -/
theorem spot2 {a b : ℕ} {i : (⟨2, ![a, b]⟩ : Shape).Idx} {t : Fin a} {k : Fin b} (h0 : (i 0).val = t.val) (h1 : (i 1).val = k.val) : i = ix2 t k :=
  funext fun a => Fin.ext (by match a with | ⟨0, _⟩ => exact h0 | ⟨1, _⟩ => exact h1)

theorem du_at (t : Fin 256) (s : Fin 2) (j : Fin 2816) (q : Fin 5632) (hq : q.val = 2816 * s.val + j.val) :
    dot (E t) (W j) * pick (X t) (Y t) s j = DU (E t) W (X t) (Y t) q := by
  have e : hid q = j := Fin.ext (by show q.val % 2816 = j.val; omega)
  unfold DU
  rw [e]
  match s with
  | 0 => exact congrArg _ (if_pos (by have : q.val = 2816 * 0 + j.val := hq; omega)).symm
  | 1 => exact congrArg _ (if_neg (by have : q.val = 2816 * 1 + j.val := hq; omega)).symm

theorem side_real (hx : Has x X) (hy : Has y Y) : ∀ s, Has (side x y s) fun t => pick (X t) (Y t) s
  | 0 => hx
  | 1 => hy

theorem slopes_real (he : Has (k0_pay18 e) E) (hw : Has w W) (hx : Has x X) (hy : Has y Y) : Has (slopes e w x y) fun t => DU (E t) W (X t) (Y t) := by
  rw [slopes_eq]
  refine canon_tiles (fun s f t b => ?_) fun s t b => ?_
  · refine (wide_real (W := fun b => W ⟨512 * f.val + b.val, by omega⟩) (V := fun t b => pick (X t) (Y t) s ⟨512 * f.val + b.val, by omega⟩)
      he (fun b k => ?_) (fun t b => ?_) t b).trans (congrArg _ (du_at t s ⟨512 * f.val + b.val, by omega⟩ ⟨2816 * s.val + 512 * f.val + b.val, by omega⟩ (by show 2816 * s.val + 512 * f.val + b.val = 2816 * s.val + (512 * f.val + b.val); omega)))
    · exact (congrArg w (spot2 (t := ⟨512 * f.val + b.val, by omega⟩) (k := k) (by show 512 * f.val + 1 * b.val = 512 * f.val + b.val; omega) (by show 0 + 1 * k.val = k.val; omega))).trans (hw _ k)
    · exact (congrArg (side x y s) (spot2 (t := t) (k := ⟨512 * f.val + b.val, by omega⟩) (by show 0 + 1 * t.val = t.val; omega) (by show 512 * f.val + 1 * b.val = 512 * f.val + b.val; omega))).trans (side_real hx hy s t _)
  · refine (narrow_real (W := fun b => W ⟨2560 + b.val, by omega⟩) (V := fun t b => pick (X t) (Y t) s ⟨2560 + b.val, by omega⟩)
      he (fun b k => ?_) (fun t b => ?_) t b).trans (congrArg _ (du_at t s ⟨2560 + b.val, by omega⟩ ⟨2816 * s.val + 2560 + b.val, by omega⟩ (by show 2816 * s.val + 2560 + b.val = 2816 * s.val + (2560 + b.val); omega)))
    · exact (congrArg w (spot2 (t := ⟨2560 + b.val, by omega⟩) (k := k) (by show 2560 + 1 * b.val = 2560 + b.val; omega) (by show 0 + 1 * k.val = k.val; omega))).trans (hw _ k)
    · exact (congrArg (side x y s) (spot2 (t := t) (k := ⟨2560 + b.val, by omega⟩) (by show 0 + 1 * t.val = t.val; omega) (by show 2560 + 1 * b.val = 2560 + b.val; omega))).trans (side_real hx hy s t _)

end real

end Cert.FfnGradIdeal.Result

end
-- ==== Proof.Back.Point.lean ====
/- One grid point of the layer's backward pass: what its body leaves, in the words of its rows. -/
module

public import proofs.«01_k».proof.Proof.Back.Tiles
public import proofs.«01_k».proof.Proof.Gen.FfnGradIdeal.Value

@[expose] public section

set_option maxRecDepth 16384
set_option maxHeartbeats 4000000

noncomputable section

namespace Cert.FfnGradIdeal.Result

open Cert.Loads Cert.FfnGradIdeal Cert.FfnGradIdeal.Gen Idealize.ShloMosaic Idealize.ShloMosaic.TcCoe Idealize.SL.Sem

variable {F : FTy → Type} [FloatOps F] [Named F]
variable (m : (ℓ : Loc nD τ sig) → Buf (Elt F) ℓ)

/-- What a point leaves, over what its five sums began at. -/
structure Pass (d : Vec F S256x1024 .f32) (y : Vec F S256x1024 .bf16) (f g : Vec F S256x2816 .bf16) (w : Vec F S2816x1024 .bf16) (v : Vec F S5632x1024 .bf16)
    (x : Vec F S256x1024 .f32) (a p s q : Vec F S1x1024 .f32) (z1 z2 z3 z4 z5 : Vec F S1x1024 .f32)
    (st : Vec F S256x1024 .bf16 × Vec F S256x5632 .bf16 × Vec F S256x1024 .f32 × Vec F S1x1024 .f32 × Vec F S1x1024 .f32 × Vec F S1x1024 .f32 × Vec F S1x1024 .f32 × Vec F S1x1024 .f32) : Prop where
  back : st.1 = k0_pay18 (k0_pay14 d y a p)
  hidden : st.2.1 = slopes (k0_pay14 d y a p) w f g
  rows : st.2.2.1 = k0_pay1 d (k0_pay40 (slopes (k0_pay14 d y a p) w f g) v x q s)
  gate : st.2.2.2.1 = k0_pay16 (k0_pay15 d y p) z1
  last : st.2.2.2.2.1 = k0_pay17 (k0_pay12 y) (k0_pay13 d a) z2
  shift : st.2.2.2.2.2.1 = k0_pay2 (k0_pay41 (slopes (k0_pay14 d y a p) w f g) v) z3
  scale : st.2.2.2.2.2.2.1 = k0_pay3 (k0_pay42 (slopes (k0_pay14 d y a p) w f g) v x q) z4
  gain : st.2.2.2.2.2.2.2 = k0_pay4 (k0_pay37 (slopes (k0_pay14 d y a p) w f g) v) (k0_pay39 x) (k0_pay43 s) z5

/-- The whole of the hidden values' gradients reads every store. -/
theorem read_hidden {κ : _} {sp : _} (b : View sig κ sp S256x5632 .bf16) (L : List (View.Piece (Elt F) S256x5632 .bf16)) :
    b.readCov L (Rect.unit ![0, 0] ![256, 5632] inb_S256x5632_S256x5632_0_0).toLoadRect = View.canon L := readCov_whole b L _ (by decide)

/-- Whole rectangles. -/
theorem canon_row (w : Vec F S1x1024 .f32) (L : List (View.Piece (Elt F) S1x1024 .f32)) : View.canon (⟨Rect.unit ![0, 0] ![1, 1024] inb_S1x1024_S1x1024_0_0, w⟩ :: L) = w :=
  (ld_whole _ _ (by decide)).symm.trans (ld_same _ w L)
theorem canon_rows {e : EltTy} (w : Vec F S256x1024 e) (L : List (View.Piece (Elt F) S256x1024 e)) :
    View.canon (⟨Rect.unit ![0, 0] ![256, 1024] inb_S256x1024_S256x1024_0_0, w⟩ :: L) = w :=
  (ld_whole _ _ (by decide)).symm.trans (ld_same _ w L)
theorem read_row {κ : _} {sp : _} (b : View sig κ sp S1x1024 .f32) (L : List (View.Piece (Elt F) S1x1024 .f32)) :
    b.readCov L (Rect.unit ![0, 0] ![1, 1024] inb_S1x1024_S1x1024_0_0).toLoadRect = View.canon L := readCov_whole b L _ (by decide)
theorem ld_row (X : Vec F S1x1024 .f32) : View.ld X (Rect.unit ![0, 0] ![1, 1024] inb_S1x1024_S1x1024_0_0) = X := ld_whole _ X (by decide)
theorem ld_rows {e : EltTy} (X : Vec F S256x1024 e) : View.ld X (Rect.unit ![0, 0] ![256, 1024] inb_S256x1024_S256x1024_0_0) = X := ld_whole _ X (by decide)
theorem ld_weights (X : Vec F S5632x1024 .bf16) : View.ld X (Rect.unit ![0, 0] ![5632, 1024] inb_S5632x1024_S5632x1024_0_0) = X := ld_whole _ X (by decide)

theorem pass_A (c : Dev nD) (t : Fin cfg0.N) (h0 : t.val % 32 = 0) :
    Pass (iblk m c 0 t) (iblk m c 1 t) (iblk m c 2 t) (iblk m c 3 t) (iblk m c 4 t) (iblk m c 5 t) (iblk m c 6 t) (iblk m c 7 t) (iblk m c 8 t) (iblk m c 9 t) (iblk m c 10 t)
      k0_pay5 k0_pay6 k0_pay7 k0_pay8 k0_pay9 (outsAt0 m c t.val t.isLt) := by
  rw [outsAt0_A m c t h0]
  constructor
  all_goals
    frame_open
    simp only [View.readAt_eq_ld, Memref.IsWhole.read_unread, View.read_writes_junk_eq_canon, read_hidden, read_row, canon_row, canon_rows, ld_row, ld_rows, ld_weights]

theorem pass_B (c : Dev nD) (t : Fin cfg0.N) (h0 : ¬t.val % 32 = 0) (h : t.val - 1 < cfg0.N) :
    Pass (iblk m c 0 t) (iblk m c 1 t) (iblk m c 2 t) (iblk m c 3 t) (iblk m c 4 t) (iblk m c 5 t) (iblk m c 6 t) (iblk m c 7 t) (iblk m c 8 t) (iblk m c 9 t) (iblk m c 10 t)
      (outsAt0 m c (t.val - 1) h).2.2.2.1 (outsAt0 m c (t.val - 1) h).2.2.2.2.1 (outsAt0 m c (t.val - 1) h).2.2.2.2.2.1 (outsAt0 m c (t.val - 1) h).2.2.2.2.2.2.1
      (outsAt0 m c (t.val - 1) h).2.2.2.2.2.2.2 (outsAt0 m c t.val t.isLt) := by
  rw [outsAt0_B m c t h0]
  generalize outsAt0 m c (t.val - 1) _ = acc
  constructor
  all_goals
    frame_open
    simp only [View.readAt_eq_ld, Memref.IsWhole.read_unread, View.read_writes_junk_eq_canon, read_hidden, read_row, canon_row, canon_rows, ld_row, ld_rows, ld_weights]

end Cert.FfnGradIdeal.Result

end
-- ==== Proof.Back.Sum.lean ====
/- What the layer's backward pass leaves in its eight results when its arguments hold real numbers. -/
module

public import proofs.«01_k».proof.Proof.Back.Point
public import proofs.«01_k».proof.Proof.Dn.Sum

@[expose] public section

set_option maxRecDepth 16384
set_option maxHeartbeats 1000000

noncomputable section

namespace Cert.FfnGradIdeal.Result

open Cert.Gmlp (coe_sum word_zero)
open Cert.DnGradIdeal.Result (Has Row row spot)
open Cert.Dn Cert.Back Cert.FfnGradIdeal Cert.FfnGradIdeal.Gen Idealize.ShloMosaic Idealize.ShloMosaic.TcCoe Idealize.SL.Sem

variable (m : (ℓ : Loc nD τ sig) → Buf (Elt Ideal) ℓ)

/-- Real numbers in the arguments. -/
structure Given (c : Dev nD) (D Y : Fin 8192 → Fin 1024 → ℝ) (E G : Fin 8192 → Fin 2816 → ℝ) (W : Fin 2816 → Fin 1024 → ℝ) (V : Fin 5632 → Fin 1024 → ℝ)
    (X : Fin 8192 → Fin 1024 → ℝ) (A P S Q : Fin 1024 → ℝ) : Prop where
  d : Has (m ((c : Thread nD τ).loc main_arg0)) D
  y : Has (m ((c : Thread nD τ).loc main_arg1)) Y
  f : Has (m ((c : Thread nD τ).loc main_arg2)) E
  g : Has (m ((c : Thread nD τ).loc main_arg3)) G
  w : Has (m ((c : Thread nD τ).loc main_arg4)) W
  v : Has (m ((c : Thread nD τ).loc main_arg5)) V
  x : Has (m ((c : Thread nD τ).loc main_arg6)) X
  a : Row (m ((c : Thread nD τ).loc main_arg7)) A
  p : Row (m ((c : Thread nD τ).loc main_arg8)) P
  s : Row (m ((c : Thread nD τ).loc main_arg9)) S
  q : Row (m ((c : Thread nD τ).loc main_arg10)) Q

/-- Where the blocks lie: those of rows one after the other, the rest at the start. -/
theorem place : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_6.index t (0 : Fin 2) = t.val ∧ win0_6.index t (1 : Fin 2) = 0) ∧ (win0_11.index t (0 : Fin 2) = t.val ∧ win0_11.index t (1 : Fin 2) = 0) ∧ (win0_12.index t (0 : Fin 2) = t.val ∧ win0_12.index t (1 : Fin 2) = 0) ∧ (win0_13.index t (0 : Fin 2) = t.val ∧ win0_13.index t (1 : Fin 2) = 0) :=
  (by decide +kernel : ∀ t : Fin grid0.N, _)
theorem still : ∀ t : Fin cfg0.N, (win0_4.index t (0 : Fin 2) = 0 ∧ win0_4.index t (1 : Fin 2) = 0) ∧ (win0_5.index t (0 : Fin 2) = 0 ∧ win0_5.index t (1 : Fin 2) = 0) ∧ (win0_7.index t (0 : Fin 2) = 0 ∧ win0_7.index t (1 : Fin 2) = 0) ∧ (win0_8.index t (0 : Fin 2) = 0 ∧ win0_8.index t (1 : Fin 2) = 0) ∧ (win0_9.index t (0 : Fin 2) = 0 ∧ win0_9.index t (1 : Fin 2) = 0) ∧ (win0_10.index t (0 : Fin 2) = 0 ∧ win0_10.index t (1 : Fin 2) = 0) ∧ (win0_14.index t (0 : Fin 2) = 0 ∧ win0_14.index t (1 : Fin 2) = 0) ∧ (win0_15.index t (0 : Fin 2) = 0 ∧ win0_15.index t (1 : Fin 2) = 0) ∧ (win0_16.index t (0 : Fin 2) = 0 ∧ win0_16.index t (1 : Fin 2) = 0) ∧ (win0_17.index t (0 : Fin 2) = 0 ∧ win0_17.index t (1 : Fin 2) = 0) ∧ (win0_18.index t (0 : Fin 2) = 0 ∧ win0_18.index t (1 : Fin 2) = 0) :=
  (by decide +kernel : ∀ t : Fin grid0.N, _)

theorem pt_lt (t : Fin cfg0.N) : t.val < 32 := lt_of_lt_of_eq t.isLt N_0

/-- A sum over the rows of the points so far, one point's added. -/
theorem slab (f : ℕ → ℝ) (n : ℕ) : (∑ r ∈ Finset.range (256 * n), f r) + (∑ q : Fin 256, f (256 * n + q.val)) = ∑ r ∈ Finset.range (256 * (n + 1)), f r := by
  rw [show 256 * (n + 1) = 256 * n + 256 by omega, Finset.sum_range_add f (256 * n) 256, Finset.sum_range fun x => f (256 * n + x)]

theorem all_rows (f : Fin 8192 → ℝ) {n : ℕ} (h : n = 31) : (∑ r ∈ Finset.range (256 * (n + 1)), f (row r)) = ∑ r, f r := by
  subst h
  rw [Finset.sum_range]
  exact Finset.sum_congr rfl fun r _ => congrArg f (Fin.ext (Nat.mod_eq_of_lt r.isLt))

/-- Points that write a sum back are the last. -/
theorem only {t t' : Fin cfg0.N} {p p' : Prop} (e : p ↔ t.val % 32 = 31) (h : p) (e' : p' ↔ t'.val % 32 = 31) (h' : p') : t.val = t'.val := by
  have a := e.mp h
  have b := e'.mp h'
  have := pt_lt t
  have := pt_lt t'
  omega

theorem end_point : ∃ t : Fin cfg0.N, t.val = 31 := ⟨⟨31, lt_of_lt_of_eq (by omega) N_0.symm⟩, rfl⟩

section given
variable {m} {c : Dev nD} {D Y : Fin 8192 → Fin 1024 → ℝ} {E G : Fin 8192 → Fin 2816 → ℝ} {W : Fin 2816 → Fin 1024 → ℝ} {V : Fin 5632 → Fin 1024 → ℝ}
  {X : Fin 8192 → Fin 1024 → ℝ} {A P S Q : Fin 1024 → ℝ} (H : Given m c D Y E G W V X A P S Q)

/-- The gradients of a row's gates and of what they gate. -/
def HU (D Y : Fin 8192 → Fin 1024 → ℝ) (E G : Fin 8192 → Fin 2816 → ℝ) (W : Fin 2816 → Fin 1024 → ℝ) (A P : Fin 1024 → ℝ) (r : Fin 8192) : Fin 5632 → ℝ :=
  DU (DY (D r) (Y r) A P) W (E r) (G r)

section blocks
variable (t : Fin cfg0.N)
include H

theorem d_has : Has (iblk m c 0 t) fun q => D (row (256 * t.val + q.val)) := by
  intro q k
  obtain ⟨⟨e, e'⟩, -⟩ := place t
  have ht := pt_lt t
  refine (congrArg (m ((c : Thread nD τ).loc main_arg0)) (spot ?_ ?_)).trans (H.d (row (256 * t.val + q.val)) k)
  · show win0_0.index t (0 : Fin 2) * 256 + 1 * q.val = (256 * t.val + q.val) % 8192; omega
  · show win0_0.index t (1 : Fin 2) * 1024 + 1 * k.val = k.val; omega

theorem y_has : Has (iblk m c 1 t) fun q => Y (row (256 * t.val + q.val)) := by
  intro q k
  obtain ⟨-, ⟨e, e'⟩, -⟩ := place t
  have ht := pt_lt t
  refine (congrArg (m ((c : Thread nD τ).loc main_arg1)) (spot ?_ ?_)).trans (H.y (row (256 * t.val + q.val)) k)
  · show win0_1.index t (0 : Fin 2) * 256 + 1 * q.val = (256 * t.val + q.val) % 8192; omega
  · show win0_1.index t (1 : Fin 2) * 1024 + 1 * k.val = k.val; omega

theorem f_has : Has (iblk m c 2 t) fun q => E (row (256 * t.val + q.val)) := by
  intro q k
  obtain ⟨-, -, ⟨e, e'⟩, -⟩ := place t
  have ht := pt_lt t
  refine (congrArg (m ((c : Thread nD τ).loc main_arg2)) (spot ?_ ?_)).trans (H.f (row (256 * t.val + q.val)) k)
  · show win0_2.index t (0 : Fin 2) * 256 + 1 * q.val = (256 * t.val + q.val) % 8192; omega
  · show win0_2.index t (1 : Fin 2) * 2816 + 1 * k.val = k.val; omega

theorem g_has : Has (iblk m c 3 t) fun q => G (row (256 * t.val + q.val)) := by
  intro q k
  obtain ⟨-, -, -, ⟨e, e'⟩, -⟩ := place t
  have ht := pt_lt t
  refine (congrArg (m ((c : Thread nD τ).loc main_arg3)) (spot ?_ ?_)).trans (H.g (row (256 * t.val + q.val)) k)
  · show win0_3.index t (0 : Fin 2) * 256 + 1 * q.val = (256 * t.val + q.val) % 8192; omega
  · show win0_3.index t (1 : Fin 2) * 2816 + 1 * k.val = k.val; omega

theorem x_has : Has (iblk m c 6 t) fun q => X (row (256 * t.val + q.val)) := by
  intro q k
  obtain ⟨-, -, -, -, ⟨e, e'⟩, -⟩ := place t
  have ht := pt_lt t
  refine (congrArg (m ((c : Thread nD τ).loc main_arg6)) (spot ?_ ?_)).trans (H.x (row (256 * t.val + q.val)) k)
  · show win0_6.index t (0 : Fin 2) * 256 + 1 * q.val = (256 * t.val + q.val) % 8192; omega
  · show win0_6.index t (1 : Fin 2) * 1024 + 1 * k.val = k.val; omega

theorem w_has : Has (iblk m c 4 t) W := by
  intro q k
  obtain ⟨⟨e, e'⟩, -⟩ := still t
  refine (congrArg (m ((c : Thread nD τ).loc main_arg4)) (spot ?_ ?_)).trans (H.w q k)
  · show win0_4.index t (0 : Fin 2) * 2816 + 1 * q.val = q.val; omega
  · show win0_4.index t (1 : Fin 2) * 1024 + 1 * k.val = k.val; omega

theorem v_has : Has (iblk m c 5 t) V := by
  intro q k
  obtain ⟨-, ⟨e, e'⟩, -⟩ := still t
  refine (congrArg (m ((c : Thread nD τ).loc main_arg5)) (spot ?_ ?_)).trans (H.v q k)
  · show win0_5.index t (0 : Fin 2) * 5632 + 1 * q.val = q.val; omega
  · show win0_5.index t (1 : Fin 2) * 1024 + 1 * k.val = k.val; omega

theorem a_has : Row (iblk m c 7 t) A := by
  intro k
  obtain ⟨-, -, ⟨e, e'⟩, -⟩ := still t
  refine (congrArg (m ((c : Thread nD τ).loc main_arg7)) (spot ?_ ?_)).trans (H.a k)
  · show win0_7.index t (0 : Fin 2) * 1 + 1 * 0 = 0; omega
  · show win0_7.index t (1 : Fin 2) * 1024 + 1 * k.val = k.val; omega

theorem p_has : Row (iblk m c 8 t) P := by
  intro k
  obtain ⟨-, -, -, ⟨e, e'⟩, -⟩ := still t
  refine (congrArg (m ((c : Thread nD τ).loc main_arg8)) (spot ?_ ?_)).trans (H.p k)
  · show win0_8.index t (0 : Fin 2) * 1 + 1 * 0 = 0; omega
  · show win0_8.index t (1 : Fin 2) * 1024 + 1 * k.val = k.val; omega

theorem s_has : Row (iblk m c 9 t) S := by
  intro k
  obtain ⟨-, -, -, -, ⟨e, e'⟩, -⟩ := still t
  refine (congrArg (m ((c : Thread nD τ).loc main_arg9)) (spot ?_ ?_)).trans (H.s k)
  · show win0_9.index t (0 : Fin 2) * 1 + 1 * 0 = 0; omega
  · show win0_9.index t (1 : Fin 2) * 1024 + 1 * k.val = k.val; omega

theorem q_has : Row (iblk m c 10 t) Q := by
  intro k
  obtain ⟨-, -, -, -, -, ⟨e, e'⟩, -⟩ := still t
  refine (congrArg (m ((c : Thread nD τ).loc main_arg10)) (spot ?_ ?_)).trans (H.q k)
  · show win0_10.index t (0 : Fin 2) * 1 + 1 * 0 = 0; omega
  · show win0_10.index t (1 : Fin 2) * 1024 + 1 * k.val = k.val; omega

theorem u_has : Has (slopes (k0_pay14 (iblk m c 0 t) (iblk m c 1 t) (iblk m c 7 t) (iblk m c 8 t)) (iblk m c 4 t) (iblk m c 2 t) (iblk m c 3 t)) fun q => HU D Y E G W A P (row (256 * t.val + q.val)) :=
  slopes_real (dy_real (d_has H t) (y_has H t) (a_has H t) (p_has H t)) (w_has H t) (f_has H t) (g_has H t)

end blocks

/-- The five sums over the rows of the first `n` points. -/
structure Sums (D Y : Fin 8192 → Fin 1024 → ℝ) (E G : Fin 8192 → Fin 2816 → ℝ) (W : Fin 2816 → Fin 1024 → ℝ) (V : Fin 5632 → Fin 1024 → ℝ)
    (X : Fin 8192 → Fin 1024 → ℝ) (A P S Q : Fin 1024 → ℝ) (n : ℕ) (z1 z2 z3 z4 z5 : Vec Ideal S1x1024 .f32) : Prop where
  gate : Row z1 fun k => ∑ r ∈ Finset.range (256 * n), DA (D (row r)) (Y (row r)) P k
  last : Row z2 fun k => ∑ r ∈ Finset.range (256 * n), DQ (D (row r)) (Y (row r)) A k
  shift : Row z3 fun k => ∑ r ∈ Finset.range (256 * n), DN (HU D Y E G W A P (row r)) V k
  scale : Row z4 fun k => ∑ r ∈ Finset.range (256 * n), DC (HU D Y E G W A P (row r)) V (X (row r)) Q k
  gain : Row z5 fun k => ∑ r ∈ Finset.range (256 * n), DP (HU D Y E G W A P (row r)) V (X (row r)) S k

include H

/-- The sums after a point, from those before it. -/
theorem point (t : Fin cfg0.N) {z1 z2 z3 z4 z5 : Vec Ideal S1x1024 .f32} {st}
    (T : Pass (iblk m c 0 t) (iblk m c 1 t) (iblk m c 2 t) (iblk m c 3 t) (iblk m c 4 t) (iblk m c 5 t) (iblk m c 6 t) (iblk m c 7 t) (iblk m c 8 t) (iblk m c 9 t) (iblk m c 10 t) z1 z2 z3 z4 z5 st)
    (Z : Sums D Y E G W V X A P S Q t.val z1 z2 z3 z4 z5) :
    Sums D Y E G W V X A P S Q (t.val + 1) st.2.2.2.1 st.2.2.2.2.1 st.2.2.2.2.2.1 st.2.2.2.2.2.2.1 st.2.2.2.2.2.2.2 := by
  constructor <;> intro k
  · rw [T.gate]
    refine Eq.trans ?_ (congrArg _ (slab (fun r => DA (D (row r)) (Y (row r)) P k) t.val))
    exact da_real (d_has H t) (y_has H t) (p_has H t) Z.gate k
  · rw [T.last]
    refine Eq.trans ?_ (congrArg _ (slab (fun r => DQ (D (row r)) (Y (row r)) A k) t.val))
    exact dq_real (d_has H t) (y_has H t) (a_has H t) Z.last k
  · rw [T.shift]
    refine Eq.trans ?_ (congrArg _ (slab (fun r => DN (HU D Y E G W A P (row r)) V k) t.val))
    exact ds_real (u_has H t) (v_has H t) Z.shift k
  · rw [T.scale]
    refine Eq.trans ?_ (congrArg _ (slab (fun r => DC (HU D Y E G W A P (row r)) V (X (row r)) Q k) t.val))
    exact dc_real (u_has H t) (v_has H t) (x_has H t) (q_has H t) Z.scale k
  · rw [T.gain]
    refine Eq.trans ?_ (congrArg _ (slab (fun r => DP (HU D Y E G W A P (row r)) V (X (row r)) S k) t.val))
    exact dp_real (u_has H t) (v_has H t) (x_has H t) (s_has H t) Z.gain k

theorem sums : ∀ (n : ℕ) (hn : n < cfg0.N), Sums D Y E G W V X A P S Q (n + 1) (outsAt0 m c n hn).2.2.2.1 (outsAt0 m c n hn).2.2.2.2.1 (outsAt0 m c n hn).2.2.2.2.2.1
    (outsAt0 m c n hn).2.2.2.2.2.2.1 (outsAt0 m c n hn).2.2.2.2.2.2.2
  | 0, hn => point H ⟨0, hn⟩ (pass_A m c ⟨0, hn⟩ rfl) ⟨fun _ => word_zero, fun _ => word_zero, fun _ => word_zero, fun _ => word_zero, fun _ => word_zero⟩
  | n + 1, hn => by
    have hN := pt_lt ⟨n + 1, hn⟩
    exact point H ⟨n + 1, hn⟩ (pass_B m c ⟨n + 1, hn⟩ (by show ¬(n + 1) % 32 = 0; simp only at hN; omega) (Nat.lt_of_succ_lt hn)) (sums n (Nat.lt_of_succ_lt hn))

/-- What every point leaves of its own rows. -/
theorem rows_any (t : Fin cfg0.N) :
    (Has (outsAt0 m c t.val t.isLt).1 fun q => DY (D (row (256 * t.val + q.val))) (Y (row (256 * t.val + q.val))) A P)
      ∧ (Has (outsAt0 m c t.val t.isLt).2.1 fun q => HU D Y E G W A P (row (256 * t.val + q.val)))
      ∧ Has (outsAt0 m c t.val t.isLt).2.2.1 fun q k => D (row (256 * t.val + q.val)) k + DX (HU D Y E G W A P (row (256 * t.val + q.val))) V (X (row (256 * t.val + q.val))) Q S k := by
  obtain ⟨z1, z2, z3, z4, z5, T⟩ : ∃ z1 z2 z3 z4 z5, Pass (iblk m c 0 t) (iblk m c 1 t) (iblk m c 2 t) (iblk m c 3 t) (iblk m c 4 t) (iblk m c 5 t) (iblk m c 6 t) (iblk m c 7 t) (iblk m c 8 t)
      (iblk m c 9 t) (iblk m c 10 t) z1 z2 z3 z4 z5 (outsAt0 m c t.val t.isLt) := by
    by_cases h0 : t.val % 32 = 0
    · exact ⟨_, _, _, _, _, pass_A m c t h0⟩
    · exact ⟨_, _, _, _, _, pass_B m c t h0 (lt_of_le_of_lt (Nat.sub_le _ _) t.isLt)⟩
  refine ⟨?_, ?_, fun q k => ?_⟩
  · rw [T.back]
    exact dy_real (d_has H t) (y_has H t) (a_has H t) (p_has H t)
  · rw [T.hidden]
    exact u_has H t
  · rw [T.rows]
    exact (congrArg₂ (fun a b : EReal => a + b) (d_has H t q k) (dx_real (u_has H t) (v_has H t) (x_has H t) (q_has H t) (s_has H t) q k)).trans (EReal.coe_add _ _).symm

/-- The gradient of the second product. -/
theorem back_result (s : Fin 8192) (k : Fin 1024) : ((dats m 0 c).arrAt 11 cfg0.N (ix2 s k) : EReal) = ((DY (D s) (Y s) A P k : ℝ) : EReal) := by
  have hN : s.val / 256 < cfg0.N := lt_of_lt_of_eq (by omega) N_0.symm
  have hr : row (256 * (s.val / 256) + s.val % 256) = s := Fin.ext (by show (256 * (s.val / 256) + s.val % 256) % 8192 = s.val; omega)
  have e := (rows_any H ⟨s.val / 256, hN⟩).1 ⟨s.val % 256, by omega⟩ k
  simp only [hr] at e
  obtain ⟨-, -, -, -, -, ⟨e0, e1⟩, -⟩ := place ⟨s.val / 256, hN⟩
  have h := (dats m 0 c).arrAt_emb_eq_flushed 11 Value.disjoint11 ⟨s.val / 256, hN⟩ (flush0_11 _) (ix2 (⟨s.val % 256, by omega⟩ : Fin 256) k)
  rw [Value.flushed11] at h
  refine Eq.trans (congrArg ((dats m 0 c).arrAt 11 cfg0.N) (spot ?_ ?_)).symm (h.trans e)
  · show win0_11.index _ (0 : Fin 2) * 256 + 1 * (s.val % 256) = s.val; rw [e0]; show s.val / 256 * 256 + 1 * (s.val % 256) = s.val; omega
  · show win0_11.index _ (1 : Fin 2) * 1024 + 1 * k.val = k.val; omega

/-- Those of the gates and of what they gate. -/
theorem hidden_result (s : Fin 8192) (k : Fin 5632) : ((dats m 0 c).arrAt 12 cfg0.N (ix2 s k) : EReal) = ((HU D Y E G W A P s k : ℝ) : EReal) := by
  have hN : s.val / 256 < cfg0.N := lt_of_lt_of_eq (by omega) N_0.symm
  have hr : row (256 * (s.val / 256) + s.val % 256) = s := Fin.ext (by show (256 * (s.val / 256) + s.val % 256) % 8192 = s.val; omega)
  have e := (rows_any H ⟨s.val / 256, hN⟩).2.1 ⟨s.val % 256, by omega⟩ k
  simp only [hr] at e
  obtain ⟨-, -, -, -, -, -, ⟨e0, e1⟩, -⟩ := place ⟨s.val / 256, hN⟩
  have h := (dats m 0 c).arrAt_emb_eq_flushed 12 Value.disjoint12 ⟨s.val / 256, hN⟩ (flush0_12 _) (ix2 (⟨s.val % 256, by omega⟩ : Fin 256) k)
  rw [Value.flushed12] at h
  refine Eq.trans (congrArg ((dats m 0 c).arrAt 12 cfg0.N) (spot ?_ ?_)).symm (h.trans e)
  · show win0_12.index _ (0 : Fin 2) * 256 + 1 * (s.val % 256) = s.val; rw [e0]; show s.val / 256 * 256 + 1 * (s.val % 256) = s.val; omega
  · show win0_12.index _ (1 : Fin 2) * 5632 + 1 * k.val = k.val; omega

/-- That of the rows. -/
theorem rows_result (s : Fin 8192) (k : Fin 1024) : ((dats m 0 c).arrAt 13 cfg0.N (ix2 s k) : EReal) = ((D s k + DX (HU D Y E G W A P s) V (X s) Q S k : ℝ) : EReal) := by
  have hN : s.val / 256 < cfg0.N := lt_of_lt_of_eq (by omega) N_0.symm
  have hr : row (256 * (s.val / 256) + s.val % 256) = s := Fin.ext (by show (256 * (s.val / 256) + s.val % 256) % 8192 = s.val; omega)
  have e := (rows_any H ⟨s.val / 256, hN⟩).2.2 ⟨s.val % 256, by omega⟩ k
  simp only [hr] at e
  obtain ⟨-, -, -, -, -, -, -, ⟨e0, e1⟩⟩ := place ⟨s.val / 256, hN⟩
  have h := (dats m 0 c).arrAt_emb_eq_flushed 13 Value.disjoint13 ⟨s.val / 256, hN⟩ (flush0_13 _) (ix2 (⟨s.val % 256, by omega⟩ : Fin 256) k)
  rw [Value.flushed13] at h
  refine Eq.trans (congrArg ((dats m 0 c).arrAt 13 cfg0.N) (spot ?_ ?_)).symm (h.trans e)
  · show win0_13.index _ (0 : Fin 2) * 256 + 1 * (s.val % 256) = s.val; rw [e0]; show s.val / 256 * 256 + 1 * (s.val % 256) = s.val; omega
  · show win0_13.index _ (1 : Fin 2) * 1024 + 1 * k.val = k.val; omega

theorem gate_result (k : Fin 1024) : ((dats m 0 c).arrAt 14 cfg0.N (ix2 0 k) : EReal) = ((∑ r, DA (D r) (Y r) P k : ℝ) : EReal) := by
  obtain ⟨t, ht⟩ := end_point
  have e := (sums H t.val t.isLt).gate k
  replace e := e.trans (congrArg _ (all_rows (fun r => DA (D r) (Y r) P k) ht))
  obtain ⟨-, -, -, -, -, -, ⟨e0, e1⟩, -⟩ := still t
  have h := (dats m 0 c).arrAt_emb_eq_flushed 14 (fun t t' hf hf' hne => absurd (Fin.ext (only (flush0_14 t) hf (flush0_14 t') hf')) hne) t ((flush0_14 _).mpr (by omega)) (ix2 (0 : Fin 1) k)
  rw [Value.flushed14] at h
  refine Eq.trans (congrArg ((dats m 0 c).arrAt 14 cfg0.N) (spot ?_ ?_)).symm (h.trans e)
  · show win0_14.index _ (0 : Fin 2) * 1 + 1 * 0 = 0; omega
  · show win0_14.index _ (1 : Fin 2) * 1024 + 1 * k.val = k.val; omega

theorem last_result (k : Fin 1024) : ((dats m 0 c).arrAt 15 cfg0.N (ix2 0 k) : EReal) = ((∑ r, DQ (D r) (Y r) A k : ℝ) : EReal) := by
  obtain ⟨t, ht⟩ := end_point
  have e := (sums H t.val t.isLt).last k
  replace e := e.trans (congrArg _ (all_rows (fun r => DQ (D r) (Y r) A k) ht))
  obtain ⟨-, -, -, -, -, -, -, ⟨e0, e1⟩, -⟩ := still t
  have h := (dats m 0 c).arrAt_emb_eq_flushed 15 (fun t t' hf hf' hne => absurd (Fin.ext (only (flush0_15 t) hf (flush0_15 t') hf')) hne) t ((flush0_15 _).mpr (by omega)) (ix2 (0 : Fin 1) k)
  rw [Value.flushed15] at h
  refine Eq.trans (congrArg ((dats m 0 c).arrAt 15 cfg0.N) (spot ?_ ?_)).symm (h.trans e)
  · show win0_15.index _ (0 : Fin 2) * 1 + 1 * 0 = 0; omega
  · show win0_15.index _ (1 : Fin 2) * 1024 + 1 * k.val = k.val; omega

theorem shift_result (k : Fin 1024) : ((dats m 0 c).arrAt 16 cfg0.N (ix2 0 k) : EReal) = ((∑ r, DN (HU D Y E G W A P r) V k : ℝ) : EReal) := by
  obtain ⟨t, ht⟩ := end_point
  have e := (sums H t.val t.isLt).shift k
  replace e := e.trans (congrArg _ (all_rows (fun r => DN (HU D Y E G W A P r) V k) ht))
  obtain ⟨-, -, -, -, -, -, -, -, ⟨e0, e1⟩, -⟩ := still t
  have h := (dats m 0 c).arrAt_emb_eq_flushed 16 (fun t t' hf hf' hne => absurd (Fin.ext (only (flush0_16 t) hf (flush0_16 t') hf')) hne) t ((flush0_16 _).mpr (by omega)) (ix2 (0 : Fin 1) k)
  rw [Value.flushed16] at h
  refine Eq.trans (congrArg ((dats m 0 c).arrAt 16 cfg0.N) (spot ?_ ?_)).symm (h.trans e)
  · show win0_16.index _ (0 : Fin 2) * 1 + 1 * 0 = 0; omega
  · show win0_16.index _ (1 : Fin 2) * 1024 + 1 * k.val = k.val; omega

theorem scale_result (k : Fin 1024) : ((dats m 0 c).arrAt 17 cfg0.N (ix2 0 k) : EReal) = ((∑ r, DC (HU D Y E G W A P r) V (X r) Q k : ℝ) : EReal) := by
  obtain ⟨t, ht⟩ := end_point
  have e := (sums H t.val t.isLt).scale k
  replace e := e.trans (congrArg _ (all_rows (fun r => DC (HU D Y E G W A P r) V (X r) Q k) ht))
  obtain ⟨-, -, -, -, -, -, -, -, -, ⟨e0, e1⟩, -⟩ := still t
  have h := (dats m 0 c).arrAt_emb_eq_flushed 17 (fun t t' hf hf' hne => absurd (Fin.ext (only (flush0_17 t) hf (flush0_17 t') hf')) hne) t ((flush0_17 _).mpr (by omega)) (ix2 (0 : Fin 1) k)
  rw [Value.flushed17] at h
  refine Eq.trans (congrArg ((dats m 0 c).arrAt 17 cfg0.N) (spot ?_ ?_)).symm (h.trans e)
  · show win0_17.index _ (0 : Fin 2) * 1 + 1 * 0 = 0; omega
  · show win0_17.index _ (1 : Fin 2) * 1024 + 1 * k.val = k.val; omega

theorem gain_result (k : Fin 1024) : ((dats m 0 c).arrAt 18 cfg0.N (ix2 0 k) : EReal) = ((∑ r, DP (HU D Y E G W A P r) V (X r) S k : ℝ) : EReal) := by
  obtain ⟨t, ht⟩ := end_point
  have e := (sums H t.val t.isLt).gain k
  replace e := e.trans (congrArg _ (all_rows (fun r => DP (HU D Y E G W A P r) V (X r) S k) ht))
  obtain ⟨-, -, -, -, -, -, -, -, -, -, ⟨e0, e1⟩⟩ := still t
  have h := (dats m 0 c).arrAt_emb_eq_flushed 18 (fun t t' hf hf' hne => absurd (Fin.ext (only (flush0_18 t) hf (flush0_18 t') hf')) hne) t ((flush0_18 _).mpr (by omega)) (ix2 (0 : Fin 1) k)
  rw [Value.flushed18] at h
  refine Eq.trans (congrArg ((dats m 0 c).arrAt 18 cfg0.N) (spot ?_ ?_)).symm (h.trans e)
  · show win0_18.index _ (0 : Fin 2) * 1 + 1 * 0 = 0; omega
  · show win0_18.index _ (1 : Fin 2) * 1024 + 1 * k.val = k.val; omega

end given

end Cert.FfnGradIdeal.Result

end
-- ==== Proof.Back.Ref.lean ====
/- The reference of the feed-forward layer's backward pass in real numbers, stage by stage. -/
module

public import proofs.«01_k».proof.Proof.Back.Model
public import proofs.«01_k».proof.Proof.Dn.Ref
public import proofs.«01_k».proof.Proof.Gen.FfnReferenceIdeal.Read

@[expose] public section

set_option maxRecDepth 16384
set_option maxHeartbeats 1000000

noncomputable section

namespace Cert.FfnReferenceIdeal.Real

open Cert.Gmlp (Is word_tiny word_one word_zero word_neg_half one_only)
open Cert.Ffn (dot)
open Cert.DnReferenceIdeal.Real (last_cols last_rows col_at row_at)
open Cert.Dn Cert.Back Cert.FfnReferenceIdeal Cert.FfnReferenceIdeal.Gen Cert.FfnReferenceIdeal.Read Idealize.ShloMosaic

variable {x0 : (⟨S8192x1024, .f32⟩ : BufTy).Contents (Elt Ideal)} {x1 : (⟨S8192x1024, .bf16⟩ : BufTy).Contents (Elt Ideal)}
  {x2 x3 : (⟨S8192x2816, .bf16⟩ : BufTy).Contents (Elt Ideal)} {x4 : (⟨S2816x1024, .bf16⟩ : BufTy).Contents (Elt Ideal)}
  {x7 x8 : (⟨S1x1024, .f32⟩ : BufTy).Contents (Elt Ideal)}
  {D Y : Fin 8192 → Fin 1024 → ℝ} {E G : Fin 8192 → Fin 2816 → ℝ} {W : Fin 2816 → Fin 1024 → ℝ} {A P : Fin 1024 → ℝ}

/-- The arguments of the first part, in real numbers. -/
structure Given (x0 : (⟨S8192x1024, .f32⟩ : BufTy).Contents (Elt Ideal)) (x1 : (⟨S8192x1024, .bf16⟩ : BufTy).Contents (Elt Ideal))
    (x2 x3 : (⟨S8192x2816, .bf16⟩ : BufTy).Contents (Elt Ideal)) (x4 : (⟨S2816x1024, .bf16⟩ : BufTy).Contents (Elt Ideal)) (x7 x8 : (⟨S1x1024, .f32⟩ : BufTy).Contents (Elt Ideal))
    (D Y : Fin 8192 → Fin 1024 → ℝ) (E G : Fin 8192 → Fin 2816 → ℝ) (W : Fin 2816 → Fin 1024 → ℝ) (A P : Fin 1024 → ℝ) : Prop where
  d : ∀ r k, (x0 (ix2 r k) : EReal) = ((D r k : ℝ) : EReal)
  y : ∀ r k, (x1 (ix2 r k) : EReal) = ((Y r k : ℝ) : EReal)
  f : ∀ r j, (x2 (ix2 r j) : EReal) = ((E r j : ℝ) : EReal)
  g : ∀ r j, (x3 (ix2 r j) : EReal) = ((G r j : ℝ) : EReal)
  w : ∀ j k, (x4 (ix2 j k) : EReal) = ((W j k : ℝ) : EReal)
  a : ∀ k, (x7 (ix2 0 k) : EReal) = ((A k : ℝ) : EReal)
  p : ∀ k, (x8 (ix2 0 k) : EReal) = ((P k : ℝ) : EReal)

/-- Two arrays side by side, at an index. -/
theorem joined_left (a b : FVec Ideal S8192x2816 .f32) (r : Fin 8192) (j : Fin 5632) (h : j.val < 2816) :
    concatenate S8192x5632 1 [⟨S8192x2816, a⟩, ⟨S8192x2816, b⟩] concatenates_S8192x2816_S8192x2816_S8192x5632_d1 (ix2 r j) = a (ix2 r ⟨j.val, h⟩) :=
  concatenate_pair_apply_left 1 a b _ (ix2 r j) rfl (ix2 r ⟨j.val, h⟩) (fun c => by match c with | ⟨0, _⟩ => rfl | ⟨1, _⟩ => rfl)

theorem joined_right (a b : FVec Ideal S8192x2816 .f32) (r : Fin 8192) (j : Fin 5632) (h : ¬j.val < 2816) :
    concatenate S8192x5632 1 [⟨S8192x2816, a⟩, ⟨S8192x2816, b⟩] concatenates_S8192x2816_S8192x2816_S8192x5632_d1 (ix2 r j) = b (ix2 r ⟨j.val - 2816, by omega⟩) :=
  concatenate_pair_apply_right 1 a b _ (ix2 r j) rfl rfl (ix2 r ⟨j.val - 2816, by omega⟩) (fun c hc => by match c with | ⟨0, _⟩ => rfl | ⟨1, _⟩ => exact absurd rfl hc)
    (Nat.sub_add_cancel (Nat.le_of_not_lt h))

variable (H : Given x0 x1 x2 x3 x4 x7 x8 D Y E G W A P)
include H

theorem v4 (k : Fin 1024) : Is (val_main_v4 (F := Ideal) x7 (ix3 0 0 k)) (1 / 2 * A k) :=
  Is.of (val_main_v4_apply x7 _) (Is.mul (Is.of (val_main_v3_apply _) word_half)
    (Is.of (val_main_v2_apply x7 _) ((congrArg x7 (col_at k _ rfl)).trans (H.a k))))

theorem v19 (k : Fin 1024) : Is (val_main_v19 (F := Ideal) x8 (ix3 0 0 k)) (P k) :=
  Is.of (val_main_v19_apply x8 _) (Is.of (val_main_v5_apply x8 _) ((congrArg x8 (col_at k _ (Nat.mod_eq_of_lt k.isLt))).trans (H.p k)))

section row
variable (r : Fin 8192)

theorem v1 (k : Fin 1024) : Is (val_main_v1 (F := Ideal) x1 (ix3 0 r k)) (Y r k) :=
  Is.of (val_main_v1_apply x1 _) (Is.of (val_main_v0_apply x1 _) ((congrArg x1 (eq_ix2 _)).trans (H.y r k)))

theorem v24 (k : Fin 1024) : Is (val_main_v24 (F := Ideal) x0 (ix3 0 r k)) (D r k) :=
  Is.of (val_main_v24_apply x0 _) ((congrArg x0 (eq_ix2 _)).trans (H.d r k))

theorem v12 : Is (val_main_v12 (F := Ideal) x1 (ix3 0 r 0)) (VR (Y r)) :=
  Is.of (val_main_v12_apply x1 _) (Is.add
    (Is.of (val_main_v10_apply x1 _) (Is.div
      (Is.of (val_main_v8_apply x1 _) (Is.red (val_main_v7_apply x1 _) word_zero fun k =>
        Is.at_ (X := val_main_v6 (F := Ideal) x1) (Is.of (val_main_v6_apply x1 _) (Is.mul (v1 H r k) (v1 H r k))) (eq_ix3 _)))
      (Is.of (val_main_v9_apply _) (Is.of (val_main_cst_1_apply _) word_1024)) (by norm_num)))
    (Is.of (val_main_v11_apply _) (Is.of (val_main_cst_2_apply _) word_tiny)))

theorem v13 : Is (val_main_v13 (F := Ideal) x1 (ix3 0 r 0)) (RS (Y r)) :=
  Is.of (val_main_v13_apply x1 _) (Is.rsqrt (v12 H r) (VR_pos (Y r)))

theorem v16 : Is (val_main_v16 (F := Ideal) x1 (ix3 0 r 0)) (-(1 / 2) * (RS (Y r) * (1 / VR (Y r)))) :=
  Is.of (val_main_v16_apply x1 _) (Is.mul (Is.of (val_main_v15_apply _) (Is.of (val_main_cst_3_apply _) word_neg_half))
    (Is.of (val_main_v14_apply x1 _) (Is.div (v13 H r) (v12 H r) (VR_pos (Y r)).ne')))

theorem v18 (k : Fin 1024) : Is (val_main_v18 (F := Ideal) x1 (ix3 0 r k)) (XH (Y r) k) :=
  Is.of (val_main_v18_apply x1 _) (Is.mul (v1 H r k) (Is.of (val_main_v17_apply x1 _) (Is.at_ (v13 H r) (eq_ix3 _))))

theorem v21 (k : Fin 1024) : Is (val_main_v21 (F := Ideal) x1 x8 (ix3 0 r k)) (XH (Y r) k * P k) :=
  Is.of (val_main_v21_apply x1 x8 _) (Is.mul (v18 H r k) (Is.of (val_main_v20_apply x8 _) (Is.at_ (v19 H k) (eq_ix3 _))))

theorem v26 (k : Fin 1024) : Is (val_main_v26 (F := Ideal) x0 x7 (ix3 0 r k)) (DY0 (D r) A k) :=
  Is.of (val_main_v26_apply x0 x7 _) (Is.mul (Is.of (val_main_v25_apply x7 _) (Is.at_ (v4 H k) (eq_ix3 _))) (v24 H r k))

theorem v34 (k : Fin 1024) : Is (val_main_v34 (F := Ideal) x0 x7 x8 (ix3 0 r k)) (DY0 (D r) A k * P k) :=
  Is.of (val_main_v34_apply x0 x7 x8 _) (Is.mul (v26 H r k) (Is.of (val_main_v33_apply x8 _) (Is.at_ (v19 H k) (eq_ix3 _))))

theorem v43 : Is (val_main_v43 (F := Ideal) x0 x1 x7 x8 (ix3 0 r 0))
    ((∑ j, Y r j * (DY0 (D r) A j * P j)) * (-(1 / 2) * (RS (Y r) * (1 / VR (Y r)))) * (1 / 1024)) := by
  have l : Is (val_main_v37 (F := Ideal) x0 x1 x7 x8 (ix2 0 r)) (∑ j, Y r j * (DY0 (D r) A j * P j)) :=
    Is.red (val_main_v37_apply x0 x1 x7 x8 _) word_zero fun k =>
      Is.at_ (X := val_main_v36 (F := Ideal) x0 x1 x7 x8) (Is.of (val_main_v36_apply x0 x1 x7 x8 _) (Is.mul (v1 H r k) (v34 H r k))) (eq_ix3 _)
  exact Is.of (val_main_v43_apply x0 x1 x7 x8 _) (Is.div
    (Is.of (val_main_v41_apply x0 x1 x7 x8 _) (Is.mul
      (Is.of (val_main_v38_apply x0 x1 x7 x8 _) (Is.at_ l (row_at r _ (by show ((0 * 8192 + r.val) * 1 + 0) % 8192 = r.val; omega)))) (v16 H r)))
    (Is.of (val_main_v42_apply _) (Is.of (val_main_cst_8_apply _) word_1024)) (by norm_num))

theorem v46 (k : Fin 1024) : Is (val_main_v46 (F := Ideal) x0 x1 x7 x8 (ix3 0 r k))
    ((∑ j, Y r j * (DY0 (D r) A j * P j)) * (-(1 / 2) * (RS (Y r) * (1 / VR (Y r)))) * (1 / 1024)) :=
  Is.of (val_main_v46_apply x0 x1 x7 x8 _) (Is.of (val_main_v45_apply x0 x1 x7 x8 _)
    (Is.at_ (i := ix1 r) (last_rows word_zero (v43 H r)) (eq_ix1 _)))

/-- The gradient of the row before the norm. -/
theorem v50 (k : Fin 1024) : Is (val_main_v50 (F := Ideal) x0 x1 x7 x8 (ix3 0 r k)) (DY (D r) (Y r) A P k) :=
  Is.be (Is.of (val_main_v50_apply x0 x1 x7 x8 _) (Is.add
    (Is.of (val_main_v48_apply x0 x1 x7 x8 _) (Is.add
      (Is.of (val_main_v40_apply x0 x1 x7 x8 _) (Is.mul (v34 H r k) (Is.of (val_main_v39_apply x1 _) (Is.at_ (v13 H r) (eq_ix3 _)))))
      (Is.of (val_main_v47_apply x0 x1 x7 x8 _) (Is.mul (v1 H r k) (v46 H r k)))))
    (Is.of (val_main_v49_apply x0 x1 x7 x8 _) (Is.mul (v46 H r k) (v1 H r k))))) (norm_back (fun j => DY0 (D r) A j * P j) (Y r) k)

theorem v135 (k : Fin 1024) : Is (val_main_v135 (F := Ideal) x0 x1 x7 x8 (ix2 r k)) (DY (D r) (Y r) A P k) :=
  Is.of (val_main_v135_apply x0 x1 x7 x8 _) (Is.of (val_main_v134_apply x0 x1 x7 x8 _) (Is.at_ (v50 H r k) (by
    funext a
    refine Fin.ext ?_
    match a with
    | ⟨0, _⟩ => rfl
    | ⟨1, _⟩ => show (r.val * 1024 + k.val) / 1024 % 8192 = r.val; omega
    | ⟨2, _⟩ => show (r.val * 1024 + k.val) % 1024 = k.val; omega)))

theorem v59 (j : Fin 2816) : Is (val_main_v59 (F := Ideal) x0 x1 x4 x7 x8 (ix3 0 r j)) (dot (DY (D r) (Y r) A P) (W j)) := by
  refine (val_main_v59_apply x0 x1 x4 x7 x8 _).trans (Is.total fun k => ?_)
  refine Is.mul (a := val_main_v50 (F := Ideal) x0 x1 x7 x8 _) (b := val_main_v57 (F := Ideal) x4 _) ?_ ?_
  · exact Is.at_ (v50 H r k) (eq_ix3 _)
  · exact Is.of (val_main_v57_apply x4 _) ((congrArg x4 (eq_ix2 _)).trans (H.w j k))

theorem at_hidden (j : Fin 2816) {i : S1x8192x2816.Idx} (h1 : (i 1).val = (r.val * 2816 + j.val) / 2816 % 8192) (h2 : (i 2).val = (r.val * 2816 + j.val) % 2816) : i = ix3 0 r j := by
  have e1 : (i 1).val = r.val := h1.trans (by omega)
  have e2 : (i 2).val = j.val := h2.trans (by omega)
  refine (eq_ix3 i).trans ?_
  rw [show i 1 = r from Fin.ext e1, show i 2 = j from Fin.ext e2]
  exact congrArg (fun z => ix3 z r j) (one_only (i 0))

theorem v62 (j : Fin 2816) : Is (val_main_v62 (F := Ideal) x0 x1 x2 x4 x7 x8 (ix2 r j)) (dot (DY (D r) (Y r) A P) (W j) * E r j) :=
  Is.of (val_main_v62_apply x0 x1 x2 x4 x7 x8 _) (Is.mul
    (Is.of (val_main_v60_apply x0 x1 x4 x7 x8 _) (Is.at_ (v59 H r j) (at_hidden H r j rfl rfl)))
    (Is.of (val_main_v61_apply x2 _) (H.f r j)))

theorem v65 (j : Fin 2816) : Is (val_main_v65 (F := Ideal) x0 x1 x3 x4 x7 x8 (ix2 r j)) (dot (DY (D r) (Y r) A P) (W j) * G r j) :=
  Is.of (val_main_v65_apply x0 x1 x3 x4 x7 x8 _) (Is.mul
    (Is.of (val_main_v63_apply x0 x1 x4 x7 x8 _) (Is.at_ (v59 H r j) (at_hidden H r j rfl rfl)))
    (Is.of (val_main_v64_apply x3 _) (H.g r j)))

/-- The gradients of the gates and of what they gate, side by side. -/
theorem v66 (j : Fin 5632) : Is (val_main_v66 (F := Ideal) x0 x1 x2 x3 x4 x7 x8 (ix2 r j)) (DU (DY (D r) (Y r) A P) W (E r) (G r) j) := by
  unfold val_main_v66 DU
  have h1 := v62 H r
  have h2 := v65 H r
  generalize val_main_v62 (F := Ideal) x0 x1 x2 x4 x7 x8 = y1 at h1 ⊢
  generalize val_main_v65 (F := Ideal) x0 x1 x3 x4 x7 x8 = y2 at h2 ⊢
  by_cases h : j.val < 2816
  · rw [if_pos h, show hid j = ⟨j.val, h⟩ from Fin.ext (Nat.mod_eq_of_lt h)]
    exact Eq.trans (joined_left y1 y2 r j h) (h1 _)
  · rw [if_neg h, show hid j = ⟨j.val - 2816, by omega⟩ from Fin.ext (by show j.val % 2816 = j.val - 2816; omega)]
    exact Eq.trans (joined_right y1 y2 r j h) (h2 _)

theorem v136 (j : Fin 5632) : Is (val_main_v136 (F := Ideal) x0 x1 x2 x3 x4 x7 x8 (ix2 r j)) (DU (DY (D r) (Y r) A P) W (E r) (G r) j) :=
  Is.of (val_main_v136_apply x0 x1 x2 x3 x4 x7 x8 _) (v66 H r j)

end row

/-- The gradients of the gate and of the gain after the second product. -/
theorem v55 (k : Fin 1024) : Is (val_main_v55 (F := Ideal) x0 x1 x8 (ix2 0 k)) (∑ r, DA (D r) (Y r) P k) := by
  have l : Is (val_main_v28 (F := Ideal) x0 x1 x8 (ix2 0 k)) (∑ r, D r k * (XH (Y r) k * P k)) :=
    Is.red (val_main_v28_apply x0 x1 x8 _) word_zero fun r => Is.at_ (X := val_main_v27 (F := Ideal) x0 x1 x8)
      (Is.of (val_main_v27_apply x0 x1 x8 _) (Is.mul (v24 H r k) (v21 H r k))) (eq_ix3 _)
  refine Is.be (Is.of (val_main_v55_apply x0 x1 x8 _) (Is.at_ (i := ix1 k) (last_cols word_zero (Is.of (val_main_v53_apply x0 x1 x8 _)
    (Is.mul (Is.of (val_main_v52_apply _) word_half) (Is.of (val_main_v29_apply x0 x1 x8 _)
      (Is.at_ l (col_at k _ (by show ((0 * 1 + 0) * 1024 + k.val) % 1024 = k.val; omega))))))) (eq_ix1 _))) ?_
  rw [Finset.mul_sum]
  exact Finset.sum_congr rfl fun r _ => by unfold DA; ring

theorem v51 (k : Fin 1024) : Is (val_main_v51 (F := Ideal) x0 x1 x7 (ix2 0 k)) (∑ r, DQ (D r) (Y r) A k) := by
  have l : Is (val_main_v31 (F := Ideal) x0 x1 x7 (ix2 0 k)) (∑ r, DQ (D r) (Y r) A k) :=
    Is.red (val_main_v31_apply x0 x1 x7 _) word_zero fun r => Is.at_ (X := val_main_v30 (F := Ideal) x0 x1 x7)
      (Is.be (Is.of (val_main_v30_apply x0 x1 x7 _) (Is.mul (v18 H r k) (v26 H r k))) (by unfold DQ; ring)) (eq_ix3 _)
  exact Is.of (val_main_v51_apply x0 x1 x7 _) (Is.at_ (i := ix1 k) (last_cols word_zero (Is.of (val_main_v32_apply x0 x1 x7 _)
    (Is.at_ l (col_at k _ (by show ((0 * 1 + 0) * 1024 + k.val) % 1024 = k.val; omega))))) (eq_ix1 _))

end Cert.FfnReferenceIdeal.Real
-- ==== Proof.Back.Same.lean ====
/- The second part of the layer's reference is the reference of the feed-forward's input gradient. -/
module

public import proofs.«01_k».proof.Proof.Dn.Ref
public import proofs.«01_k».proof.Proof.Gen.FfnReferenceIdeal.Read

@[expose] public section

set_option maxRecDepth 16384
set_option maxHeartbeats 1000000

noncomputable section

namespace Cert.FfnReferenceIdeal.Real

open Cert.FfnReferenceIdeal Cert.FfnReferenceIdeal.Gen Cert.FfnReferenceIdeal.Read Idealize.ShloMosaic

variable (x0 : (⟨S8192x1024, .f32⟩ : BufTy).Contents (Elt Ideal)) (x1 : (⟨S8192x1024, .bf16⟩ : BufTy).Contents (Elt Ideal))
  (x2 x3 : (⟨S8192x2816, .bf16⟩ : BufTy).Contents (Elt Ideal)) (x4 : (⟨S2816x1024, .bf16⟩ : BufTy).Contents (Elt Ideal)) (x5 : (⟨S5632x1024, .bf16⟩ : BufTy).Contents (Elt Ideal))
  (x6 : (⟨S8192x1024, .f32⟩ : BufTy).Contents (Elt Ideal)) (x7 x8 x9 x10 : (⟨S1x1024, .f32⟩ : BufTy).Contents (Elt Ideal))

theorem shift_same : val_main_v102 (F := Ideal) x0 x1 x2 x3 x4 x5 x7 x8 = Cert.DnReferenceIdeal.Read.val_main_v36 (F := Ideal) (val_main_v136 (F := Ideal) x0 x1 x2 x3 x4 x7 x8) x5 := rfl
theorem scale_same : val_main_v109 (F := Ideal) x0 x1 x2 x3 x4 x5 x6 x7 x8 x10
    = Cert.DnReferenceIdeal.Read.val_main_v43 (F := Ideal) (val_main_v136 (F := Ideal) x0 x1 x2 x3 x4 x7 x8) x5 x6 x10 := rfl
theorem gain_same : val_main_v131 (F := Ideal) x0 x1 x2 x3 x4 x5 x6 x7 x8 x9
    = Cert.DnReferenceIdeal.Read.val_main_v65 (F := Ideal) (val_main_v136 (F := Ideal) x0 x1 x2 x3 x4 x7 x8) x5 x6 x9 := rfl
theorem rows_same : val_main_v132 (F := Ideal) x0 x1 x2 x3 x4 x5 x6 x7 x8 x9 x10
    = Cert.DnReferenceIdeal.Read.val_main_v66 (F := Ideal) (val_main_v136 (F := Ideal) x0 x1 x2 x3 x4 x7 x8) x5 x6 x9 x10 := rfl

end Cert.FfnReferenceIdeal.Real
-- ==== Proof.Back.Agree.lean ====
/- The backward pass of a gated feed-forward layer: from finite arguments the kernel and the reference end with the same eight results. -/
module

public import proofs.«01_k».proof.Defs
public import proofs.«01_k».proof.Proof.Dn.Agree
public import proofs.«01_k».proof.Proof.Back.Sum
public import proofs.«01_k».proof.Proof.Back.Ref
public import proofs.«01_k».proof.Proof.Back.Same

@[expose] public section

set_option maxRecDepth 16384
set_option maxHeartbeats 1000000

noncomputable section

namespace Cert.Back

open Idealize.ShloMosaic Idealize.ShloMosaic.TcCoe Idealize.SL.Sem
open Cert.Gmlp (entries)
open Cert.Dn (row_ext)

/-- What the kernel's arguments hold, when all are finite. -/
theorem holds [Pre_ordinary.Facts] (m : (ℓ : Loc FfnGradIdeal.nD FfnGradIdeal.τ FfnGradIdeal.sig) → Buf (Elt Ideal) ℓ) (p : Pre_FfnGradIdeal_ordinary m) (c : Dev FfnGradIdeal.nD) :
    ∃ D Y E G W V X A P S Q, FfnGradIdeal.Result.Given m c D Y E G W V X A P S Q := by
  have e := p c
  simp only [Pre_ordinary.fn, Pre_ordinary.fn_part1, Pre_ordinary.fn_part2] at e
  obtain ⟨e0, e1, e2, e3, e4, e5, e6, e7, e8, e9, e10⟩ := e
  exact ⟨_, _, _, _, _, _, _, _, _, _, _, fun r k => entries _ _ _ _ _ e0 (ix2 r k), fun r k => entries _ _ _ _ _ e1 (ix2 r k), fun r k => entries _ _ _ _ _ e2 (ix2 r k),
    fun r k => entries _ _ _ _ _ e3 (ix2 r k), fun r k => entries _ _ _ _ _ e4 (ix2 r k), fun r k => entries _ _ _ _ _ e5 (ix2 r k), fun r k => entries _ _ _ _ _ e6 (ix2 r k),
    fun k => entries _ _ _ _ _ e7 (ix2 0 k), fun k => entries _ _ _ _ _ e8 (ix2 0 k), fun k => entries _ _ _ _ _ e9 (ix2 0 k), fun k => entries _ _ _ _ _ e10 (ix2 0 k)⟩

/-- Two arrays with the same entries are equal. -/
theorem rows_ext {a b : ℕ} {x y : (⟨2, ![a, b]⟩ : Shape).Idx → EReal} (h : ∀ r k, x (ix2 r k) = y (ix2 r k)) : x = y := by
  funext i
  obtain ⟨r, k, rfl⟩ : ∃ (r : Fin a) (k : Fin b), i = ix2 r k := ⟨i 0, i 1, eq_ix2 i⟩
  exact h r k

theorem agrees [FfnGradIdeal.Facts] [FfnReferenceIdeal.Facts] [Pre_ordinary.Facts] : algebraic_FfnGradIdeal_FfnReferenceIdeal_pre_ordinary := by
  intro m g m' g' p h
  refine ⟨fun c => (FfnGradIdeal.Gen.dats m 0 c).arrAt 11 FfnGradIdeal.cfg0.N, fun c => (FfnGradIdeal.Gen.dats m 0 c).arrAt 12 FfnGradIdeal.cfg0.N, fun c => (FfnGradIdeal.Gen.dats m 0 c).arrAt 13 FfnGradIdeal.cfg0.N, fun c => (FfnGradIdeal.Gen.dats m 0 c).arrAt 14 FfnGradIdeal.cfg0.N, fun c => (FfnGradIdeal.Gen.dats m 0 c).arrAt 15 FfnGradIdeal.cfg0.N, fun c => (FfnGradIdeal.Gen.dats m 0 c).arrAt 16 FfnGradIdeal.cfg0.N, fun c => (FfnGradIdeal.Gen.dats m 0 c).arrAt 17 FfnGradIdeal.cfg0.N, fun c => (FfnGradIdeal.Gen.dats m 0 c).arrAt 18 FfnGradIdeal.cfg0.N,
    FfnGradIdeal.Value.run_blocks m g, ?_⟩
  refine (θ_run _ _ _).mono (fun r hr c => ?_) (FfnReferenceIdeal.Value.run m' g')
  obtain ⟨D, Y, E, G, W, V, X, A, P, S, Q, H⟩ := holds m p c
  obtain ⟨a0, a1, a2, a3, a4, a5, a6, a7, a8, a9, a10⟩ := h c
  have K : FfnReferenceIdeal.Real.Given (m' ((c.tc : Thread FfnReferenceIdeal.nD FfnReferenceIdeal.τ).loc FfnReferenceIdeal.main_arg0)) (m' ((c.tc : Thread FfnReferenceIdeal.nD FfnReferenceIdeal.τ).loc FfnReferenceIdeal.main_arg1)) (m' ((c.tc : Thread FfnReferenceIdeal.nD FfnReferenceIdeal.τ).loc FfnReferenceIdeal.main_arg2)) (m' ((c.tc : Thread FfnReferenceIdeal.nD FfnReferenceIdeal.τ).loc FfnReferenceIdeal.main_arg3)) (m' ((c.tc : Thread FfnReferenceIdeal.nD FfnReferenceIdeal.τ).loc FfnReferenceIdeal.main_arg4)) (m' ((c.tc : Thread FfnReferenceIdeal.nD FfnReferenceIdeal.τ).loc FfnReferenceIdeal.main_arg7)) (m' ((c.tc : Thread FfnReferenceIdeal.nD FfnReferenceIdeal.τ).loc FfnReferenceIdeal.main_arg8))
      D Y E G W A P :=
    ⟨fun r k => (congrFun a0 _).trans (H.d r k), fun r k => (congrFun a1 _).trans (H.y r k), fun r k => (congrFun a2 _).trans (H.f r k), fun r k => (congrFun a3 _).trans (H.g r k),
      fun r k => (congrFun a4 _).trans (H.w r k), fun k => (congrFun a7 _).trans (H.a k), fun k => (congrFun a8 _).trans (H.p k)⟩
  have T : DnReferenceIdeal.Real.Given (FfnReferenceIdeal.Read.val_main_v136 (F := Ideal) (m' ((c.tc : Thread FfnReferenceIdeal.nD FfnReferenceIdeal.τ).loc FfnReferenceIdeal.main_arg0)) (m' ((c.tc : Thread FfnReferenceIdeal.nD FfnReferenceIdeal.τ).loc FfnReferenceIdeal.main_arg1)) (m' ((c.tc : Thread FfnReferenceIdeal.nD FfnReferenceIdeal.τ).loc FfnReferenceIdeal.main_arg2)) (m' ((c.tc : Thread FfnReferenceIdeal.nD FfnReferenceIdeal.τ).loc FfnReferenceIdeal.main_arg3)) (m' ((c.tc : Thread FfnReferenceIdeal.nD FfnReferenceIdeal.τ).loc FfnReferenceIdeal.main_arg4)) (m' ((c.tc : Thread FfnReferenceIdeal.nD FfnReferenceIdeal.τ).loc FfnReferenceIdeal.main_arg7)) (m' ((c.tc : Thread FfnReferenceIdeal.nD FfnReferenceIdeal.τ).loc FfnReferenceIdeal.main_arg8)))
      (m' ((c.tc : Thread FfnReferenceIdeal.nD FfnReferenceIdeal.τ).loc FfnReferenceIdeal.main_arg5)) (m' ((c.tc : Thread FfnReferenceIdeal.nD FfnReferenceIdeal.τ).loc FfnReferenceIdeal.main_arg6)) (m' ((c.tc : Thread FfnReferenceIdeal.nD FfnReferenceIdeal.τ).loc FfnReferenceIdeal.main_arg9)) (m' ((c.tc : Thread FfnReferenceIdeal.nD FfnReferenceIdeal.τ).loc FfnReferenceIdeal.main_arg10)) (FfnGradIdeal.Result.HU D Y E G W A P) V X S Q :=
    ⟨fun r j => FfnReferenceIdeal.Real.v136 K r j, fun j k => (congrFun a5 _).trans (H.v j k), fun r k => (congrFun a6 _).trans (H.x r k),
      fun k => (congrFun a9 _).trans (H.s k), fun k => (congrFun a10 _).trans (H.q k)⟩
  obtain ⟨h0, h1, h2, h3, h4, h5, h6, h7, h8⟩ := hr c
  refine ⟨h0.trans ?_, h1.trans ?_, h2.trans ?_, h3.trans ?_, h4.trans ?_, h5.trans ?_, h6.trans ?_, h7.trans ?_, h8⟩
  · exact (FfnReferenceIdeal.Read.val_main_v135_eq m' c).trans (rows_ext fun r k => (FfnReferenceIdeal.Real.v135 K r k).trans (FfnGradIdeal.Result.back_result H r k).symm)
  · exact (FfnReferenceIdeal.Read.val_main_v136_eq m' c).trans (rows_ext fun r k => (FfnReferenceIdeal.Real.v136 K r k).trans (FfnGradIdeal.Result.hidden_result H r k).symm)
  · refine (FfnReferenceIdeal.Read.val_main_v133_eq m' c).trans (rows_ext fun r k => ?_)
    have e := (congrFun (FfnReferenceIdeal.Real.rows_same (m' ((c.tc : Thread FfnReferenceIdeal.nD FfnReferenceIdeal.τ).loc FfnReferenceIdeal.main_arg0)) (m' ((c.tc : Thread FfnReferenceIdeal.nD FfnReferenceIdeal.τ).loc FfnReferenceIdeal.main_arg1)) (m' ((c.tc : Thread FfnReferenceIdeal.nD FfnReferenceIdeal.τ).loc FfnReferenceIdeal.main_arg2)) (m' ((c.tc : Thread FfnReferenceIdeal.nD FfnReferenceIdeal.τ).loc FfnReferenceIdeal.main_arg3)) (m' ((c.tc : Thread FfnReferenceIdeal.nD FfnReferenceIdeal.τ).loc FfnReferenceIdeal.main_arg4)) (m' ((c.tc : Thread FfnReferenceIdeal.nD FfnReferenceIdeal.τ).loc FfnReferenceIdeal.main_arg5)) (m' ((c.tc : Thread FfnReferenceIdeal.nD FfnReferenceIdeal.τ).loc FfnReferenceIdeal.main_arg6)) (m' ((c.tc : Thread FfnReferenceIdeal.nD FfnReferenceIdeal.τ).loc FfnReferenceIdeal.main_arg7)) (m' ((c.tc : Thread FfnReferenceIdeal.nD FfnReferenceIdeal.τ).loc FfnReferenceIdeal.main_arg8)) (m' ((c.tc : Thread FfnReferenceIdeal.nD FfnReferenceIdeal.τ).loc FfnReferenceIdeal.main_arg9)) (m' ((c.tc : Thread FfnReferenceIdeal.nD FfnReferenceIdeal.τ).loc FfnReferenceIdeal.main_arg10))) (ix2 r k)).trans (DnReferenceIdeal.Real.v66 T r k)
    refine (FfnReferenceIdeal.Read.val_main_v133_apply _ _ _ _ _ _ _ _ _ _ _ _).trans ((congrArg₂ (fun a b : EReal => a + b) (K.d r k) e).trans ?_)
    exact (EReal.coe_add _ _).symm.trans (FfnGradIdeal.Result.rows_result H r k).symm
  · exact (FfnReferenceIdeal.Read.val_main_v55_eq _ _ _).trans (row_ext fun k => (FfnReferenceIdeal.Real.v55 K k).trans (FfnGradIdeal.Result.gate_result H k).symm)
  · exact (FfnReferenceIdeal.Read.val_main_v51_eq _ _ _).trans (row_ext fun k => (FfnReferenceIdeal.Real.v51 K k).trans (FfnGradIdeal.Result.last_result H k).symm)
  · exact ((FfnReferenceIdeal.Read.val_main_v102_eq m' c).trans (FfnReferenceIdeal.Real.shift_same _ _ _ _ _ _ _ _)).trans (row_ext fun k => (DnReferenceIdeal.Real.v36 T k).trans (FfnGradIdeal.Result.shift_result H k).symm)
  · exact ((FfnReferenceIdeal.Read.val_main_v109_eq m' c).trans (FfnReferenceIdeal.Real.scale_same _ _ _ _ _ _ _ _ _ _)).trans (row_ext fun k => (DnReferenceIdeal.Real.v43 T k).trans (FfnGradIdeal.Result.scale_result H k).symm)
  · exact ((FfnReferenceIdeal.Read.val_main_v131_eq m' c).trans (FfnReferenceIdeal.Real.gain_same _ _ _ _ _ _ _ _ _ _)).trans (row_ext fun k => (DnReferenceIdeal.Real.v65 T k).trans (FfnGradIdeal.Result.gain_result H k).symm)

end Cert.Back

end
-- ==== Proof.lean ====
module

public import proofs.«01_k».proof.Defs
public import proofs.«01_k».proof.Proof.Wgrad.Agree
public import proofs.«01_k».proof.Proof.Gmlp.Agree
public import proofs.«01_k».proof.Proof.Dn.Agree
public import proofs.«01_k».proof.Proof.Ffn.Agree
public import proofs.«01_k».proof.Proof.Back.Agree
public import proofs.«01_k».proof.Proof.Gen.Pre_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.OutGrad
public import proofs.«01_k».proof.Proof.Gen.OutGrad.Skeleton
public import proofs.«01_k».proof.Proof.Gen.OutGrad.Launch
public import proofs.«01_k».proof.Proof.Gen.OutGrad.Points
public import proofs.«01_k».proof.Proof.Gen.OutGrad.Frame
public import proofs.«01_k».proof.Proof.Gen.OutGradIdeal
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.DnGrad
public import proofs.«01_k».proof.Proof.Gen.DnGrad.Skeleton
public import proofs.«01_k».proof.Proof.Gen.DnGrad.Launch
public import proofs.«01_k».proof.Proof.Gen.DnGrad.Points
public import proofs.«01_k».proof.Proof.Gen.DnGrad.Frame
public import proofs.«01_k».proof.Proof.Gen.DnGradIdeal
public import proofs.«01_k».proof.Proof.Gen.DnGradIdeal.Skeleton
public import proofs.«01_k».proof.Proof.Gen.DnGradIdeal.Launch
public import proofs.«01_k».proof.Proof.Gen.DnGradIdeal.Points
public import proofs.«01_k».proof.Proof.Gen.DnGradIdeal.Frame
public import proofs.«01_k».proof.Proof.Gen.DnGradIdeal.Value
public import proofs.«01_k».proof.Proof.Gen.DnReferenceIdeal
public import proofs.«01_k».proof.Proof.Gen.DnReferenceIdeal.Run
public import proofs.«01_k».proof.Proof.Gen.DnReferenceIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Pre_tame
public import proofs.«01_k».proof.Proof.Gen.Pre_bounded
public import Idealize.ShloMosaic.Adequacy
public import Idealize.ShloMosaic.Init
public import proofs.«01_k».proof.Proof.Gen.Pre_ordinary
public import proofs.«01_k».proof.Proof.Gen.FfnGrad
public import proofs.«01_k».proof.Proof.Gen.FfnGrad.Skeleton
public import proofs.«01_k».proof.Proof.Gen.FfnGrad.Launch
public import proofs.«01_k».proof.Proof.Gen.FfnGrad.Points
public import proofs.«01_k».proof.Proof.Gen.FfnGrad.Frame
public import proofs.«01_k».proof.Proof.Gen.FfnGradIdeal
public import proofs.«01_k».proof.Proof.Gen.FfnGradIdeal.Skeleton
public import proofs.«01_k».proof.Proof.Gen.FfnGradIdeal.Launch
public import proofs.«01_k».proof.Proof.Gen.FfnGradIdeal.Points
public import proofs.«01_k».proof.Proof.Gen.FfnGradIdeal.Frame
public import proofs.«01_k».proof.Proof.Gen.FfnGradIdeal.Value
public import proofs.«01_k».proof.Proof.Gen.FfnReferenceIdeal
public import proofs.«01_k».proof.Proof.Gen.FfnReferenceIdeal.Run
public import proofs.«01_k».proof.Proof.Gen.FfnReferenceIdeal.Read

@[expose] public section

noncomputable section

namespace Cert.Proof

open Idealize.ShloMosaic Idealize.SL.Sem Cert.Kernel

/-- The references' frames: their runs read at the arguments; they declare no semaphore. -/
theorem frame_reference : Cert.quiescent_ReferenceIdeal := fun m ρ _ =>
  (θ_run _ _ _).mono (fun r h => ⟨fun c => (h c).2.2.2.2.2, sem_eq_zero_of_no_sems (by decide) r.2⟩) (Cert.ReferenceIdeal.Value.run m ρ)

theorem frame_in : Cert.quiescent_InReferenceIdeal := fun m ρ _ =>
  (θ_run _ _ _).mono (fun r h => ⟨fun c => (h c).2, sem_eq_zero_of_no_sems (by decide) r.2⟩) (Cert.InReferenceIdeal.Value.run m ρ)

theorem frame_out : Cert.quiescent_OutReferenceIdeal := fun m ρ _ =>
  (θ_run _ _ _).mono (fun r h => ⟨fun c => (h c).2, sem_eq_zero_of_no_sems (by decide) r.2⟩) (Cert.OutReferenceIdeal.Value.run m ρ)

theorem frame_dn : Cert.quiescent_DnReferenceIdeal := fun m ρ _ =>
  (θ_run _ _ _).mono (fun r h => ⟨fun c => (h c).2.2.2.2, sem_eq_zero_of_no_sems (by decide) r.2⟩) (Cert.DnReferenceIdeal.Value.run m ρ)

theorem frame_up : Cert.quiescent_UpReferenceIdeal := fun m ρ _ =>
  (θ_run _ _ _).mono (fun r h => ⟨fun c => (h c).2.2.2.2, sem_eq_zero_of_no_sems (by decide) r.2⟩) (Cert.UpReferenceIdeal.Value.run m ρ)

theorem frame_bwd : Cert.quiescent_FfnReferenceIdeal := fun m ρ _ =>
  (θ_run _ _ _).mono (fun r h => ⟨fun c => (h c).2.2.2.2.2.2.2.2, sem_eq_zero_of_no_sems (by decide) r.2⟩) (Cert.FfnReferenceIdeal.Value.run m ρ)

/-- The two named constants stand for their words. -/
theorem named : Cert.preserves_Kernel_KernelIdeal :=
  ⟨IdealRules.named_const.statement Cert.KernelIdeal.κ "gelu_cubic" .f32 0x3D372713#32 ((8943 / 200000 : ℝ) : EReal) rfl,
    IdealRules.named_const.statement Cert.KernelIdeal.κ "gelu_cubic_slope" .f32 0x3E095D4F#32 ((26829 / 200000 : ℝ) : EReal) rfl⟩

theorem claim : Cert.Claim := ⟨Cert.Kernel.Gen.facts, Cert.KernelIdeal.Gen.facts, Cert.ReferenceIdeal.Gen.facts, Cert.InGrad.Gen.facts,
  Cert.InGradIdeal.Gen.facts, Cert.InReferenceIdeal.Gen.facts, Cert.OutGrad.Gen.facts, Cert.OutGradIdeal.Gen.facts, Cert.OutReferenceIdeal.Gen.facts,
  Cert.DnGrad.Gen.facts, Cert.DnGradIdeal.Gen.facts, Cert.DnReferenceIdeal.Gen.facts, Cert.Up.Gen.facts, Cert.UpIdeal.Gen.facts, Cert.UpReferenceIdeal.Gen.facts,
  Cert.FfnGrad.Gen.facts, Cert.FfnGradIdeal.Gen.facts, Cert.FfnReferenceIdeal.Gen.facts,
  Cert.Pre_finite.Gen.facts, Cert.Pre_tame.Gen.facts, Cert.Pre_bounded.Gen.facts, Cert.Pre_ordinary.Gen.facts,
  fun m ρ _ => Cert.Kernel.Gen.frame m ρ, fun m ρ _ => Cert.KernelIdeal.Gen.frame m ρ, fun m ρ _ => Cert.KernelIdeal.Gen.frame m ρ, frame_reference,
  fun m ρ _ => frame_reference m ρ trivial,
  fun m ρ _ => Cert.InGrad.Gen.frame m ρ, fun m ρ _ => Cert.InGradIdeal.Gen.frame m ρ, frame_in,
  fun m ρ _ => Cert.OutGrad.Gen.frame m ρ, fun m ρ _ => Cert.OutGradIdeal.Gen.frame m ρ, frame_out,
  fun m ρ _ => Cert.DnGrad.Gen.frame m ρ, fun m ρ _ => Cert.DnGradIdeal.Gen.frame m ρ, fun m ρ _ => Cert.DnGradIdeal.Gen.frame m ρ, frame_dn,
  fun m ρ _ => frame_dn m ρ trivial,
  fun m ρ _ => Cert.Up.Gen.frame m ρ, fun m ρ _ => Cert.UpIdeal.Gen.frame m ρ, fun m ρ _ => Cert.UpIdeal.Gen.frame m ρ, frame_up,
  fun m ρ _ => frame_up m ρ trivial,
  fun m ρ _ => Cert.FfnGrad.Gen.frame m ρ, fun m ρ _ => Cert.FfnGradIdeal.Gen.frame m ρ, fun m ρ _ => Cert.FfnGradIdeal.Gen.frame m ρ, frame_bwd,
  fun m ρ _ => frame_bwd m ρ trivial,
  named, Cert.Gmlp.agrees, trivial, Cert.Wgrad.in_agrees, trivial, Cert.Wgrad.out_agrees, trivial, Cert.Dn.agrees, trivial, Cert.Ffn.agrees, trivial, Cert.Back.agrees⟩

end Cert.Proof

end
